-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)) (v2 : (c : Dev Cert.Kernel3Ideal.nD) → Buf (Elt Ideal) ((c.tc : Thread Cert.Kernel3Ideal.nD Cert.Kernel3Ideal.τ).loc Cert.Kernel3Ideal.main_v34_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_v34_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v85) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)) (v2 : (c : Dev Cert.Kernel4Ideal.nD) → Buf (Elt Ideal) ((c.tc : Thread Cert.Kernel4Ideal.nD Cert.Kernel4Ideal.τ).loc Cert.Kernel4Ideal.main_v36_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_v36_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  IdealRules.bf16_pair.BufferStatement Cert.Kernel5Ideal.S16640x4x2x128 Cert.Kernel5Ideal.S16640x4x1x128
  ∧ IdealRules.bf16_pair.BufferStatement Cert.Kernel5Ideal.S256x4x2x128 Cert.Kernel5Ideal.S256x4x1x128
  ∧ IdealRules.bf16_pair.PackStatement Cert.Kernel5Ideal.S256x512
  ∧ IdealRules.bf16_pair.Statement Cert.Kernel5Ideal.S256x1x2x128 Cert.Kernel5Ideal.S256x1x1x128

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v22_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v52) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite7.lean ====
abbrev S4x1024 : Shape := ⟨2, ![4, 1024]⟩
abbrev S32x1024 : Shape := ⟨2, ![32, 1024]⟩
abbrev S1024x6144 : Shape := ⟨2, ![1024, 6144]⟩
abbrev S6144 : Shape := ⟨1, ![6144]⟩
abbrev S_ : Shape := ⟨0, ![]⟩

class Facts : Prop where
  bcast_S_S4x1024 : S_.BroadcastsInDim S4x1024 (![] : Fin 0 → Fin S4x1024.rank)
  bcast_S_S32x1024 : S_.BroadcastsInDim S32x1024 (![] : Fin 0 → Fin S32x1024.rank)
  bcast_S_S1024x6144 : S_.BroadcastsInDim S1024x6144 (![] : Fin 0 → Fin S1024x6144.rank)

variable [Facts]

def fn {F : FTy → Type} [FloatOps F] (main_arg0 : FVec F S4x1024 .f32) (main_arg1 : FVec F S32x1024 .f32) (main_arg2 : FVec F S1024x6144 .f32) (main_arg3 : FVec F S6144 .f32) : IVec S4x1024 1 × IVec S32x1024 1 × IVec S1024x6144 1 :=
  let main_v0 : FVec F S4x1024 .f32 := subf main_arg0 main_arg0
  let main_cst : FVec F S_ .f32 := constant S_ .f32 0x00000000#32
  let main_v1 : FVec F S4x1024 .f32 := broadcastInDim S4x1024 ![] bcast_S_S4x1024 main_cst
  let main_v2 : IVec S4x1024 1 := cmpf .oeq main_v0 main_v1
  let main_v3 : FVec F S32x1024 .f32 := subf main_arg1 main_arg1
  let main_cst_0 : FVec F S_ .f32 := constant S_ .f32 0x00000000#32
  let main_v4 : FVec F S32x1024 .f32 := broadcastInDim S32x1024 ![] bcast_S_S32x1024 main_cst_0
  let main_v5 : IVec S32x1024 1 := cmpf .oeq main_v3 main_v4
  let main_v6 : FVec F S1024x6144 .f32 := subf main_arg2 main_arg2
  let main_cst_1 : FVec F S_ .f32 := constant S_ .f32 0x00000000#32
  let main_v7 : FVec F S1024x6144 .f32 := broadcastInDim S1024x6144 ![] bcast_S_S1024x6144 main_cst_1
  let main_v8 : IVec S1024x6144 1 := cmpf .oeq main_v6 main_v7
  (main_v2, main_v5, main_v8)
-- ==== Kernel.lean ====
abbrev S16640x2048 : Shape := ⟨2, ![16640, 2048]⟩
abbrev S512 : Shape := ⟨1, ![512]⟩
abbrev S128 : Shape := ⟨1, ![128]⟩
abbrev S32x4x128x128 : Shape := ⟨4, ![32, 4, 128, 128]⟩
abbrev S1x512 : Shape := ⟨2, ![1, 512]⟩
abbrev S1x128 : Shape := ⟨2, ![1, 128]⟩
abbrev S256x512 : Shape := ⟨2, ![256, 512]⟩
abbrev S8x512 : Shape := ⟨2, ![8, 512]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x128 : Shape := ⟨2, ![8, 128]⟩
abbrev S8 : Shape := ⟨1, ![8]⟩
abbrev S8x1 : Shape := ⟨2, ![8, 1]⟩

abbrev nBuf : Space → Nat
  | .hbm => 8
  | .vmem => 20
  | .smem => 0
  | _ => 0

abbrev bufTy : (tb : Table) → Fin (tcTables nBuf tb) → BufTy
  | .hbm, ⟨0, _⟩ => ⟨S16640x2048, .f32⟩
  | .hbm, ⟨1, _⟩ => ⟨S512, .f32⟩
  | .hbm, ⟨2, _⟩ => ⟨S128, .f32⟩
  | .hbm, ⟨3, _⟩ => ⟨S32x4x128x128, .f32⟩
  | .hbm, ⟨4, _⟩ => ⟨S1x512, .f32⟩
  | .hbm, ⟨5, _⟩ => ⟨S1x128, .f32⟩
  | .hbm, ⟨6, _⟩ => ⟨S256x512, .f32⟩
  | .hbm, ⟨7, _⟩ => ⟨S32x4x128x128, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x128, .f32⟩
  | .local _ .vmem, ⟨10, _⟩ => ⟨S1x4x128x128, .f32⟩
  | .local _ .vmem, ⟨11, _⟩ => ⟨S1x4x128x128, .f32⟩
  | .local _ .vmem, ⟨12, _⟩ => ⟨S8x512, .f32⟩
  | .local _ .vmem, ⟨13, _⟩ => ⟨S8x512, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def k0_mult1 : BitVec 32 :=
  let c0_i32_19 : BitVec 32 := 0#32
  let c8_i32 : BitVec 32 := 8#32
  let v50 : BitVec 32 := Scalar.muli c0_i32_19 c8_i32
  v50
def k0_off1 : Fin 2 → Nat :=
  let c0_i32_19 : BitVec 32 := 0#32
  let c8_i32 : BitVec 32 := 8#32
  let v50 : BitVec 32 := Scalar.muli c0_i32_19 c8_i32
  let v51 : BitVec 32 := v50
  let v52 : Index := Scalar.indexCast v51
  let c0_20 : Index := 0#32
  ![v52.toNat, 0]
def k0_off2 : Fin 2 → Nat :=
  let c0_i32_19 : BitVec 32 := 0#32
  let c8_i32 : BitVec 32 := 8#32
  let v50 : BitVec 32 := Scalar.muli c0_i32_19 c8_i32
  let v51 : BitVec 32 := v50
  let v236 : Index := Scalar.indexCast v51
  let c128 : Index := 128#32
  ![v236.toNat, 128]
def k0_off3 : Fin 2 → Nat :=
  let c0_i32_19 : BitVec 32 := 0#32
  let c8_i32 : BitVec 32 := 8#32
  let v50 : BitVec 32 := Scalar.muli c0_i32_19 c8_i32
  let v51 : BitVec 32 := v50
  let v420 : Index := Scalar.indexCast v51
  let c256 : Index := 256#32
  ![v420.toNat, 256]
def k0_off4 : Fin 2 → Nat :=
  let c0_i32_19 : BitVec 32 := 0#32
  let c8_i32 : BitVec 32 := 8#32
  let v50 : BitVec 32 := Scalar.muli c0_i32_19 c8_i32
  let v51 : BitVec 32 := v50
  let v604 : Index := Scalar.indexCast v51
  let c384 : Index := 384#32
  ![v604.toNat, 384]
def k0_cond2 (i : grid0.Coords) : BitVec 1 :=
  let arg1 : BitVec 32 := BitVec.ofNat 32 (i 1).val
  let c0_i32_198 : BitVec 32 := 0#32
  let v866 : BitVec 1 := Scalar.cmpi .eq arg1 c0_i32_198
  let v867 : BitVec 32 := Scalar.extui v866
  let c0_i32_199 : BitVec 32 := 0#32
  let v868 : BitVec 1 := Scalar.cmpi .ne v867 c0_i32_199
  v868

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c3_i32 : BitVec 32 := 3#32
  let c0_i32 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16640x2048 : Shape := ⟨2, ![16640, 2048]⟩
abbrev S512 : Shape := ⟨1, ![512]⟩
abbrev S128 : Shape := ⟨1, ![128]⟩
abbrev S32x4x128x128 : Shape := ⟨4, ![32, 4, 128, 128]⟩
abbrev S256x2048 : Shape := ⟨2, ![256, 2048]⟩
abbrev S32x8x4x4x128 : Shape := ⟨5, ![32, 8, 4, 4, 128]⟩
abbrev S1x4x1x128 : Shape := ⟨4, ![1, 4, 1, 128]⟩
abbrev S32x8x1x4x128 : Shape := ⟨5, ![32, 8, 1, 4, 128]⟩
abbrev S32x8x4x128 : Shape := ⟨4, ![32, 8, 4, 128]⟩
abbrev S32x4x8x128 : Shape := ⟨4, ![32, 4, 8, 128]⟩
abbrev S_ : Shape := ⟨0, ![]⟩
abbrev S8x8 : Shape := ⟨2, ![8, 8]⟩
abbrev S32x4x8x1x128 : Shape := ⟨5, ![32, 4, 8, 1, 128]⟩
abbrev S32x4x1x8x128 : Shape := ⟨5, ![32, 4, 1, 8, 128]⟩
abbrev S32x4x8x8x128 : Shape := ⟨5, ![32, 4, 8, 8, 128]⟩
abbrev S8x8x1 : Shape := ⟨3, ![8, 8, 1]⟩
abbrev S32x4x8x8 : Shape := ⟨4, ![32, 4, 8, 8]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x8x4 : Shape := ⟨3, ![32, 8, 4]⟩
abbrev S32x8x4x1 : Shape := ⟨4, ![32, 8, 4, 1]⟩
abbrev S1x1x1x128 : Shape := ⟨4, ![1, 1, 1, 128]⟩
abbrev S256x512 : Shape := ⟨2, ![256, 512]⟩

abbrev nBuf : Space → Nat
  | .hbm => 125
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S512, .f32⟩
  | .hbm, ⟨2, _⟩ => ⟨S128, .f32⟩
  | .hbm, ⟨3, _⟩ => ⟨S32x4x128x128, .f32⟩
  | .hbm, ⟨4, _⟩ => ⟨S256x2048, .f32⟩
  | .hbm, ⟨5, _⟩ => ⟨S32x8x4x4x128, .f32⟩
  | .hbm, ⟨6, _⟩ => ⟨S1x4x1x128, .f32⟩
  | .hbm, ⟨7, _⟩ => ⟨S32x8x1x4x128, .f32⟩
  | .hbm, ⟨8, _⟩ => ⟨S32x8x4x128, .f32⟩
  | .hbm, ⟨9, _⟩ => ⟨S32x4x8x128, .f32⟩
  | .hbm, ⟨10, _⟩ => ⟨S32x4x8x128, .f32⟩
  | .hbm, ⟨11, _⟩ => ⟨S32x4x8x128, .f32⟩
  | .hbm, ⟨12, _⟩ => ⟨S_, .f32⟩
  | .hbm, ⟨13, _⟩ => ⟨S32x4x8x128, .f32⟩
  | .hbm, ⟨14, _⟩ => ⟨S32x4x8x128, .f32⟩
  | .hbm, ⟨15, _⟩ => ⟨S_, .f32⟩
  | .hbm, ⟨16, _⟩ => ⟨S32x4x8x128, .f32⟩
  | .hbm, ⟨17, _⟩ => ⟨S32x4x8x128, .f32⟩
  | .hbm, ⟨18, _⟩ => ⟨S32x4x8x128, .f32⟩
  | .hbm, ⟨19, _⟩ => ⟨S_, .f32⟩
  | .hbm, ⟨20, _⟩ => ⟨S1x4x1x128, .f32⟩
  | .hbm, ⟨21, _⟩ => ⟨S1x4x1x128, .f32⟩
  | .hbm, ⟨22, _⟩ => ⟨S32x8x1x4x128, .f32⟩
  | .hbm, ⟨23, _⟩ => ⟨S32x8x4x128, .f32⟩
  | .hbm, ⟨24, _⟩ => ⟨S32x4x8x128, .f32⟩
  | .hbm, ⟨25, _⟩ => ⟨S32x4x8x128, .f32⟩
  | .hbm, ⟨26, _⟩ => ⟨S32x4x8x128, .f32⟩
  | .hbm, ⟨27, _⟩ => ⟨S_, .f32⟩
  | .hbm, ⟨28, _⟩ => ⟨S32x4x8x128, .f32⟩
  | .hbm, ⟨29, _⟩ => ⟨S32x4x8x128, .f32⟩
  | .hbm, ⟨30, _⟩ => ⟨S_, .f32⟩
  | .hbm, ⟨31, _⟩ => ⟨S32x4x8x128, .f32⟩
  | .hbm, ⟨32, _⟩ => ⟨S32x4x8x128, .f32⟩
  | .hbm, ⟨33, _⟩ => ⟨S32x4x8x128, .f32⟩
  | .hbm, ⟨34, _⟩ => ⟨S32x4x8x128, .f32⟩
  | .hbm, ⟨35, _⟩ => ⟨S32x4x8x128, .f32⟩
  | .hbm, ⟨36, _⟩ => ⟨S32x4x8x128, .f32⟩
  | .hbm, ⟨37, _⟩ => ⟨S32x4x8x128, .f32⟩
  | .hbm, ⟨38, _⟩ => ⟨S_, .f32⟩
  | .hbm, ⟨39, _⟩ => ⟨S32x4x8x128, .f32⟩
  | .hbm, ⟨40, _⟩ => ⟨S32x4x8x128, .f32⟩
  | .hbm, ⟨41, _⟩ => ⟨S32x8x1x4x128, .f32⟩
  | .hbm, ⟨42, _⟩ => ⟨S32x8x4x128, .f32⟩
  | .hbm, ⟨43, _⟩ => ⟨S32x4x8x128, .f32⟩
  | .hbm, ⟨44, _⟩ => ⟨S_, .f32⟩
  | .hbm, ⟨45, _⟩ => ⟨S_, .f32⟩
  | .hbm, ⟨46, _⟩ => ⟨S32x4x8x128, .f32⟩
  | .hbm, ⟨47, _⟩ => ⟨S32x4x8x128, .f32⟩
  | .hbm, ⟨48, _⟩ => ⟨S32x4x8x128, .f32⟩
  | .hbm, ⟨49, _⟩ => ⟨S32x4x8x128, .f32⟩
  | .hbm, ⟨50, _⟩ => ⟨S_, .i1⟩
  | .hbm, ⟨51, _⟩ => ⟨S8x8, .i1⟩
  | .hbm, ⟨52, _⟩ => ⟨S8x8, .i32⟩
  | .hbm, ⟨53, _⟩ => ⟨S_, .i32⟩
  | .hbm, ⟨54, _⟩ => ⟨S8x8, .i32⟩
  | .hbm, ⟨55, _⟩ => ⟨S8x8, .i32⟩
  | .hbm, ⟨56, _⟩ => ⟨S8x8, .i32⟩
  | .hbm, ⟨57, _⟩ => ⟨S8x8, .i1⟩
  | .hbm, ⟨58, _⟩ => ⟨S_, .i1⟩
  | .hbm, ⟨59, _⟩ => ⟨S8x8, .i1⟩
  | .hbm, ⟨60, _⟩ => ⟨S8x8, .i1⟩
  | .hbm, ⟨61, _⟩ => ⟨S32x4x8x1x128, .f32⟩
  | .hbm, ⟨62, _⟩ => ⟨S32x4x1x8x128, .f32⟩
  | .hbm, ⟨63, _⟩ => ⟨S32x4x8x8x128, .f32⟩
  | .hbm, ⟨64, _⟩ => ⟨S32x4x8x8x128, .f32⟩
  | .hbm, ⟨65, _⟩ => ⟨S32x4x8x8x128, .f32⟩
  | .hbm, ⟨66, _⟩ => ⟨S8x8x1, .i1⟩
  | .hbm, ⟨67, _⟩ => ⟨S_, .f32⟩
  | .hbm, ⟨68, _⟩ => ⟨S_, .f32⟩
  | .hbm, ⟨69, _⟩ => ⟨S32x4x8x8x128, .i1⟩
  | .hbm, ⟨70, _⟩ => ⟨S32x4x8x8x128, .f32⟩
  | .hbm, ⟨71, _⟩ => ⟨S32x4x8x8x128, .f32⟩
  | .hbm, ⟨72, _⟩ => ⟨S32x4x8x8x128, .f32⟩
  | .hbm, ⟨73, _⟩ => ⟨S32x4x8x1x128, .f32⟩
  | .hbm, ⟨74, _⟩ => ⟨S32x4x8x8x128, .f32⟩
  | .hbm, ⟨75, _⟩ => ⟨S32x4x8x8x128, .f32⟩
  | .hbm, ⟨76, _⟩ => ⟨S32x4x1x8x128, .f32⟩
  | .hbm, ⟨77, _⟩ => ⟨S32x4x8x8x128, .f32⟩
  | .hbm, ⟨78, _⟩ => ⟨S32x4x8x8x128, .f32⟩
  | .hbm, ⟨79, _⟩ => ⟨S_, .f32⟩
  | .hbm, ⟨80, _⟩ => ⟨S32x4x8x8, .f32⟩
  | .hbm, ⟨81, _⟩ => ⟨S32x4x8x128, .f32⟩
  | .hbm, ⟨82, _⟩ => ⟨S32x4x8x128, .f32⟩
  | .hbm, ⟨83, _⟩ => ⟨S32x4x1x128, .f32⟩
  | .hbm, ⟨84, _⟩ => ⟨S32x4x128, .f32⟩
  | .hbm, ⟨85, _⟩ => ⟨S32x4x128, .f32⟩
  | .hbm, ⟨86, _⟩ => ⟨S32x4x128x1, .f32⟩
  | .hbm, ⟨87, _⟩ => ⟨S32x4x128x128, .f32⟩
  | .hbm, ⟨88, _⟩ => ⟨S32x4x128x128, .f32⟩
  | .hbm, ⟨89, _⟩ => ⟨S32x4x8x128, .f32⟩
  | .hbm, ⟨90, _⟩ => ⟨S32x4x8x128, .f32⟩
  | .hbm, ⟨91, _⟩ => ⟨S32x4x8x128, .f32⟩
  | .hbm, ⟨92, _⟩ => ⟨S32x4x8x128, .f32⟩
  | .hbm, ⟨93, _⟩ => ⟨S32x4x128x128, .f32⟩
  | .hbm, ⟨94, _⟩ => ⟨S32x4x128x128, .f32⟩
  | .hbm, ⟨95, _⟩ => ⟨S32x8x4x128, .f32⟩
  | .hbm, ⟨96, _⟩ => ⟨S32x8x4x128, .f32⟩
  | .hbm, ⟨97, _⟩ => ⟨S_, .f32⟩
  | .hbm, ⟨98, _⟩ => ⟨S32x8x4, .f32⟩
  | .hbm, ⟨99, _⟩ => ⟨S32x8x4x1, .f32⟩
  | .hbm, ⟨100, _⟩ => ⟨S_, .f32⟩
  | .hbm, ⟨101, _⟩ => ⟨S32x8x4x1, .f32⟩
  | .hbm, ⟨102, _⟩ => ⟨S32x8x4x1, .f32⟩
  | .hbm, ⟨103, _⟩ => ⟨S_, .f32⟩
  | .hbm, ⟨104, _⟩ => ⟨S32x8x4x1, .f32⟩
  | .hbm, ⟨105, _⟩ => ⟨S32x8x4x1, .f32⟩
  | .hbm, ⟨106, _⟩ => ⟨S32x8x4x1, .f32⟩
  | .hbm, ⟨107, _⟩ => ⟨S32x8x4x128, .f32⟩
  | .hbm, ⟨108, _⟩ => ⟨S32x8x4x128, .f32⟩
  | .hbm, ⟨109, _⟩ => ⟨S1x1x1x128, .f32⟩
  | .hbm, ⟨110, _⟩ => ⟨S32x8x4x128, .f32⟩
  | .hbm, ⟨111, _⟩ => ⟨S32x8x4x128, .f32⟩
  | .hbm, ⟨112, _⟩ => ⟨S32x8x1x4x128, .f32⟩
  | .hbm, ⟨113, _⟩ => ⟨S32x8x4x128, .f32⟩
  | .hbm, ⟨114, _⟩ => ⟨S32x8x4x128, .f32⟩
  | .hbm, ⟨115, _⟩ => ⟨S32x8x4x128, .f32⟩
  | .hbm, ⟨116, _⟩ => ⟨S_, .f32⟩
  | .hbm, ⟨117, _⟩ => ⟨S32x8x4x128, .f32⟩
  | .hbm, ⟨118, _⟩ => ⟨S32x8x4x128, .f32⟩
  | .hbm, ⟨119, _⟩ => ⟨S_, .f32⟩
  | .hbm, ⟨120, _⟩ => ⟨S32x8x4x128, .f32⟩
  | .hbm, ⟨121, _⟩ => ⟨S32x8x4x128, .f32⟩
  | .hbm, ⟨122, _⟩ => ⟨S32x8x4x128, .f32⟩
  | .hbm, ⟨123, _⟩ => ⟨S32x8x4x128, .f32⟩
  | .hbm, ⟨124, _⟩ => ⟨S256x512, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_call0_cst : Ref sig .tc := ⟨.hbm, 44, rfl⟩
abbrev main_call1_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_v66 : Ref sig .tc := ⟨.hbm, 99, rfl⟩
abbrev main_cst_6 : Ref sig .tc := ⟨.hbm, 100, rfl⟩
abbrev main_v67 : Ref sig .tc := ⟨.hbm, 101, rfl⟩
abbrev main_v68 : Ref sig .tc := ⟨.hbm, 102, rfl⟩
abbrev main_cst_7 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩

abbrev nD : Nat := 1
abbrev τ : Topo := Topo.v7x

variable {F : FTy → Type} [FloatOps F]
-- ==== Kernel2.lean ====
abbrev S4x4096x1024 : Shape := ⟨3, ![4, 4096, 1024]⟩
abbrev S32x8x1024 : Shape := ⟨3, ![32, 8, 1024]⟩
abbrev S36x6144 : Shape := ⟨2, ![36, 6144]⟩
abbrev S1024 : Shape := ⟨1, ![1024]⟩
abbrev S1024x5632 : Shape := ⟨2, ![1024, 5632]⟩
abbrev S16384x1024 : Shape := ⟨2, ![16384, 1024]⟩
abbrev S256x1024 : Shape := ⟨2, ![256, 1024]⟩
abbrev S36x6x1024 : Shape := ⟨3, ![36, 6, 1024]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S32x6x1024 : Shape := ⟨3, ![32, 6, 1024]⟩
abbrev S32x8x6x1024 : Shape := ⟨4, ![32, 8, 6, 1024]⟩
abbrev S256x6x1024 : Shape := ⟨3, ![256, 6, 1024]⟩
abbrev S6x256x1024 : Shape := ⟨3, ![6, 256, 1024]⟩
abbrev S1x1024 : Shape := ⟨2, ![1, 1024]⟩
abbrev S16640x2048 : Shape := ⟨2, ![16640, 2048]⟩
abbrev S16640x1536 : Shape := ⟨2, ![16640, 1536]⟩
abbrev S1x1x1x1024 : Shape := ⟨4, ![1, 1, 1, 1024]⟩
abbrev S1x256x1024 : Shape := ⟨3, ![1, 256, 1024]⟩
abbrev S256x2048 : Shape := ⟨2, ![256, 2048]⟩
abbrev S256x1536 : Shape := ⟨2, ![256, 1536]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 20
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S32x8x1024, .f32⟩
  | .hbm, ⟨2, _⟩ => ⟨S36x6144, .f32⟩
  | .hbm, ⟨3, _⟩ => ⟨S1024, .f32⟩
  | .hbm, ⟨4, _⟩ => ⟨S1024x5632, .f32⟩
  | .hbm, ⟨5, _⟩ => ⟨S16384x1024, .f32⟩
  | .hbm, ⟨6, _⟩ => ⟨S256x1024, .f32⟩
  | .hbm, ⟨7, _⟩ => ⟨S36x6x1024, .f32⟩
  | .hbm, ⟨8, _⟩ => ⟨S4x6x1024, .f32⟩
  | .hbm, ⟨9, _⟩ => ⟨S6x4x1024, .f32⟩
  | .hbm, ⟨10, _⟩ => ⟨S6x4x1x1024, .f32⟩
  | .hbm, ⟨11, _⟩ => ⟨S32x6x1024, .f32⟩
  | .hbm, ⟨12, _⟩ => ⟨S32x8x6x1024, .f32⟩
  | .hbm, ⟨13, _⟩ => ⟨S256x6x1024, .f32⟩
  | .hbm, ⟨14, _⟩ => ⟨S6x256x1024, .f32⟩
  | .hbm, ⟨15, _⟩ => ⟨S1024x5632, .bf16⟩
  | .hbm, ⟨16, _⟩ => ⟨S1x1024, .f32⟩
  | .hbm, ⟨17, _⟩ => ⟨S16640x2048, .f32⟩
  | .hbm, ⟨18, _⟩ => ⟨S16640x1536, .f32⟩
  | .hbm, ⟨19, _⟩ => ⟨S16640x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x256x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x256x1024, .f32⟩
  | .local _ .vmem, ⟨9, _⟩ => ⟨S1x1024, .f32⟩
  | .local _ .vmem, ⟨10, _⟩ => ⟨S1024x5632, .bf16⟩
  | .local _ .vmem, ⟨11, _⟩ => ⟨S256x2048, .f32⟩
  | .local _ .vmem, ⟨12, _⟩ => ⟨S256x2048, .f32⟩
  | .local _ .vmem, ⟨13, _⟩ => ⟨S256x1536, .f32⟩
  | .local _ .vmem, ⟨14, _⟩ => ⟨S256x1536, .f32⟩
  | .local _ .vmem, ⟨15, _⟩ => ⟨S256x2048, .f32⟩
  | .local _ .vmem, ⟨16, _⟩ => ⟨S256x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c1_i32_4 : BitVec 32 := 1#32
  let c0_i32_5 : BitVec 32 := 0#32
  let c0_i32_6 : BitVec 32 := 0#32
  let c0_i32_7 : BitVec 32 := 0#32
  ![c1_i32_4.toNat, v17.toNat, c0_i32_5.toNat, c0_i32_6.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x4096x1024 : Shape := ⟨3, ![4, 4096, 1024]⟩
abbrev S32x8x1024 : Shape := ⟨3, ![32, 8, 1024]⟩
abbrev S36x6144 : Shape := ⟨2, ![36, 6144]⟩
abbrev S1024 : Shape := ⟨1, ![1024]⟩
abbrev S1024x5632 : Shape := ⟨2, ![1024, 5632]⟩
abbrev S4x6144 : Shape := ⟨2, ![4, 6144]⟩
abbrev S4x1024 : Shape := ⟨2, ![4, 1024]⟩
abbrev S4x1x1024 : Shape := ⟨3, ![4, 1, 1024]⟩
abbrev S32x6144 : Shape := ⟨2, ![32, 6144]⟩
abbrev S32x1024 : Shape := ⟨2, ![32, 1024]⟩
abbrev S32x1x1024 : Shape := ⟨3, ![32, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S32x8 : Shape := ⟨2, ![32, 8]⟩
abbrev S32x8x1 : Shape := ⟨3, ![32, 8, 1]⟩
abbrev S4x4096x5632 : Shape := ⟨3, ![4, 4096, 5632]⟩
abbrev S16384x5632 : Shape := ⟨2, ![16384, 5632]⟩
abbrev S32x8x5632 : Shape := ⟨3, ![32, 8, 5632]⟩
abbrev S256x5632 : Shape := ⟨2, ![256, 5632]⟩
abbrev S16640x5632 : Shape := ⟨2, ![16640, 5632]⟩
abbrev S16640x2048 : Shape := ⟨2, ![16640, 2048]⟩
abbrev S16640x1536 : Shape := ⟨2, ![16640, 1536]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S32x8x1024, .f32⟩
  | .hbm, ⟨2, _⟩ => ⟨S36x6144, .f32⟩
  | .hbm, ⟨3, _⟩ => ⟨S1024, .f32⟩
  | .hbm, ⟨4, _⟩ => ⟨S1024x5632, .f32⟩
  | .hbm, ⟨5, _⟩ => ⟨S4x6144, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S32x6144, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1x1024, .f32⟩
  | .hbm, ⟨26, _⟩ => ⟨S32x1x1024, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S32x8x1024, .f32⟩
  | .hbm, ⟨55, _⟩ => ⟨S_, .f32⟩
  | .hbm, ⟨56, _⟩ => ⟨S32x8, .f32⟩
  | .hbm, ⟨57, _⟩ => ⟨S32x8x1, .f32⟩
  | .hbm, ⟨58, _⟩ => ⟨S_, .f32⟩
  | .hbm, ⟨59, _⟩ => ⟨S32x8x1, .f32⟩
  | .hbm, ⟨60, _⟩ => ⟨S32x8x1, .f32⟩
  | .hbm, ⟨61, _⟩ => ⟨S_, .f32⟩
  | .hbm, ⟨62, _⟩ => ⟨S32x8x1, .f32⟩
  | .hbm, ⟨63, _⟩ => ⟨S32x8x1, .f32⟩
  | .hbm, ⟨64, _⟩ => ⟨S32x8x1, .f32⟩
  | .hbm, ⟨65, _⟩ => ⟨S32x8x1024, .f32⟩
  | .hbm, ⟨66, _⟩ => ⟨S32x8x1024, .f32⟩
  | .hbm, ⟨67, _⟩ => ⟨S1x1x1024, .f32⟩
  | .hbm, ⟨68, _⟩ => ⟨S32x8x1024, .f32⟩
  | .hbm, ⟨69, _⟩ => ⟨S32x8x1024, .f32⟩
  | .hbm, ⟨70, _⟩ => ⟨S_, .f32⟩
  | .hbm, ⟨71, _⟩ => ⟨S32x1x1024, .f32⟩
  | .hbm, ⟨72, _⟩ => ⟨S32x1x1024, .f32⟩
  | .hbm, ⟨73, _⟩ => ⟨S32x8x1024, .f32⟩
  | .hbm, ⟨74, _⟩ => ⟨S32x8x1024, .f32⟩
  | .hbm, ⟨75, _⟩ => ⟨S32x8x1024, .f32⟩
  | .hbm, ⟨76, _⟩ => ⟨S32x8x1024, .f32⟩
  | .hbm, ⟨77, _⟩ => ⟨S4x4096x5632, .f32⟩
  | .hbm, ⟨78, _⟩ => ⟨S16384x5632, .f32⟩
  | .hbm, ⟨79, _⟩ => ⟨S32x8x5632, .f32⟩
  | .hbm, ⟨80, _⟩ => ⟨S256x5632, .f32⟩
  | .hbm, ⟨81, _⟩ => ⟨S16640x5632, .f32⟩
  | .hbm, ⟨82, _⟩ => ⟨S16640x2048, .f32⟩
  | .hbm, ⟨83, _⟩ => ⟨S16640x1536, .f32⟩
  | .hbm, ⟨84, _⟩ => ⟨S16640x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_cst_5 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩

abbrev nD : Nat := 1
abbrev τ : Topo := Topo.v7x

variable {F : FTy → Type} [FloatOps F]
-- ==== Kernel3.lean ====
abbrev S16640x1536 : Shape := ⟨2, ![16640, 1536]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S4x8x4096x64 : Shape := ⟨4, ![4, 8, 4096, 64]⟩
abbrev S512x512 : Shape := ⟨2, ![512, 512]⟩
abbrev S1x8x512x64 : Shape := ⟨4, ![1, 8, 512, 64]⟩
abbrev S512x64 : Shape := ⟨2, ![512, 64]⟩
abbrev S1x1x512x64 : Shape := ⟨4, ![1, 1, 512, 64]⟩

abbrev nBuf : Space → Nat
  | .hbm => 45
  | .vmem => 18
  | .smem => 0
  | _ => 0

abbrev bufTy : (tb : Table) → Fin (tcTables nBuf tb) → BufTy
  | .hbm, ⟨0, _⟩ => ⟨S16640x1536, .f32⟩
  | .hbm, ⟨1, _⟩ => ⟨S4096, .i32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S4096, .f32⟩
  | .hbm, ⟨14, _⟩ => ⟨S4096x1, .f32⟩
  | .hbm, ⟨15, _⟩ => ⟨S1x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x48, .f32⟩
  | .hbm, ⟨23, _⟩ => ⟨S4096x64, .f32⟩
  | .hbm, ⟨24, _⟩ => ⟨S4096x8, .f32⟩
  | .hbm, ⟨25, _⟩ => ⟨S_, .f32⟩
  | .hbm, ⟨26, _⟩ => ⟨S4096x56, .f32⟩
  | .hbm, ⟨27, _⟩ => ⟨S4096x64, .f32⟩
  | .hbm, ⟨28, _⟩ => ⟨S_, .f32⟩
  | .hbm, ⟨29, _⟩ => ⟨S4096x8, .f32⟩
  | .hbm, ⟨30, _⟩ => ⟨S_, .f32⟩
  | .hbm, ⟨31, _⟩ => ⟨S4096x48, .f32⟩
  | .hbm, ⟨32, _⟩ => ⟨S4096x64, .f32⟩
  | .hbm, ⟨33, _⟩ => ⟨S1x4096x1x64, .f32⟩
  | .hbm, ⟨34, _⟩ => ⟨S1x4096x8x64, .f32⟩
  | .hbm, ⟨35, _⟩ => ⟨S4096x512, .f32⟩
  | .hbm, ⟨36, _⟩ => ⟨S1x4096x1x64, .f32⟩
  | .hbm, ⟨37, _⟩ => ⟨S1x4096x8x64, .f32⟩
  | .hbm, ⟨38, _⟩ => ⟨S4096x512, .f32⟩
  | .hbm, ⟨39, _⟩ => ⟨S1x4096x1x64, .f32⟩
  | .hbm, ⟨40, _⟩ => ⟨S1x4096x8x64, .f32⟩
  | .hbm, ⟨41, _⟩ => ⟨S4096x512, .f32⟩
  | .hbm, ⟨42, _⟩ => ⟨S4x8x4096x64, .f32⟩
  | .hbm, ⟨43, _⟩ => ⟨S4x8x4096x64, .f32⟩
  | .hbm, ⟨44, _⟩ => ⟨S4x8x4096x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x8x512x64, .f32⟩
  | .local _ .vmem, ⟨13, _⟩ => ⟨S1x8x512x64, .f32⟩
  | .local _ .vmem, ⟨14, _⟩ => ⟨S1x8x512x64, .f32⟩
  | .local _ .vmem, ⟨15, _⟩ => ⟨S1x8x512x64, .f32⟩
  | .local _ .vmem, ⟨16, _⟩ => ⟨S1x8x512x64, .f32⟩
  | .local _ .vmem, ⟨17, _⟩ => ⟨S1x8x512x64, .f32⟩
  | _, _ => ⟨S16640x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S16640x1536 : Shape := ⟨2, ![16640, 1536]⟩
abbrev S16384x1536 : Shape := ⟨2, ![16384, 1536]⟩
abbrev S4x4096x1536 : Shape := ⟨3, ![4, 4096, 1536]⟩
abbrev S4096 : Shape := ⟨1, ![4096]⟩
abbrev S4x4096x512 : Shape := ⟨3, ![4, 4096, 512]⟩
abbrev S4x4096x8x64 : Shape := ⟨4, ![4, 4096, 8, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x8x8 : Shape := ⟨4, ![4, 4096, 8, 8]⟩
abbrev S1x4096x1x8 : Shape := ⟨4, ![1, 4096, 1, 8]⟩
abbrev S4x4096x8x48 : Shape := ⟨4, ![4, 4096, 8, 48]⟩
abbrev S4x8x4096x64 : Shape := ⟨4, ![4, 8, 4096, 64]⟩

abbrev nBuf : Space → Nat
  | .hbm => 94
  | .vmem => 0
  | .smem => 0
  | _ => 0

abbrev bufTy : (tb : Table) → Fin (tcTables nBuf tb) → BufTy
  | .hbm, ⟨0, _⟩ => ⟨S16640x1536, .f32⟩
  | .hbm, ⟨1, _⟩ => ⟨S16384x1536, .f32⟩
  | .hbm, ⟨2, _⟩ => ⟨S4x4096x1536, .f32⟩
  | .hbm, ⟨3, _⟩ => ⟨S4096, .i32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x8x64, .f32⟩
  | .hbm, ⟨8, _⟩ => ⟨S4x4096x8x64, .f32⟩
  | .hbm, ⟨9, _⟩ => ⟨S4x4096x8x64, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4096, .f32⟩
  | .hbm, ⟨22, _⟩ => ⟨S4096x1, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x1x8, .f32⟩
  | .hbm, ⟨29, _⟩ => ⟨S4096x8, .f32⟩
  | .hbm, ⟨30, _⟩ => ⟨S4096x1x8, .f32⟩
  | .hbm, ⟨31, _⟩ => ⟨S4x4096x8x8, .f32⟩
  | .hbm, ⟨32, _⟩ => ⟨S4x4096x8x8, .f32⟩
  | .hbm, ⟨33, _⟩ => ⟨S1x4096x1x8, .f32⟩
  | .hbm, ⟨34, _⟩ => ⟨S4x4096x8x8, .f32⟩
  | .hbm, ⟨35, _⟩ => ⟨S4x4096x8x8, .f32⟩
  | .hbm, ⟨36, _⟩ => ⟨S1x4096x1x8, .f32⟩
  | .hbm, ⟨37, _⟩ => ⟨S4x4096x8x8, .f32⟩
  | .hbm, ⟨38, _⟩ => ⟨S4x4096x8x8, .f32⟩
  | .hbm, ⟨39, _⟩ => ⟨S4x4096x8x8, .f32⟩
  | .hbm, ⟨40, _⟩ => ⟨S1x4096x1x8, .f32⟩
  | .hbm, ⟨41, _⟩ => ⟨S4x4096x8x8, .f32⟩
  | .hbm, ⟨42, _⟩ => ⟨S4x4096x8x8, .f32⟩
  | .hbm, ⟨43, _⟩ => ⟨S1x4096x1x8, .f32⟩
  | .hbm, ⟨44, _⟩ => ⟨S4x4096x8x8, .f32⟩
  | .hbm, ⟨45, _⟩ => ⟨S4x4096x8x8, .f32⟩
  | .hbm, ⟨46, _⟩ => ⟨S4x4096x8x8, .f32⟩
  | .hbm, ⟨47, _⟩ => ⟨S4x4096x8x48, .f32⟩
  | .hbm, ⟨48, _⟩ => ⟨S4x4096x8x64, .f32⟩
  | .hbm, ⟨49, _⟩ => ⟨S4x8x4096x64, .f32⟩
  | .hbm, ⟨50, _⟩ => ⟨S_, .f32⟩
  | .hbm, ⟨51, _⟩ => ⟨S4x8x4096x64, .f32⟩
  | .hbm, ⟨52, _⟩ => ⟨S4x8x4096x64, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S4096, .f32⟩
  | .hbm, ⟨65, _⟩ => ⟨S4096x1, .f32⟩
  | .hbm, ⟨66, _⟩ => ⟨S1x8, .f32⟩
  | .hbm, ⟨67, _⟩ => ⟨S4096x8, .f32⟩
  | .hbm, ⟨68, _⟩ => ⟨S4096x8, .f32⟩
  | .hbm, ⟨69, _⟩ => ⟨S4096x8, .f32⟩
  | .hbm, ⟨70, _⟩ => ⟨S4096x8, .f32⟩
  | .hbm, ⟨71, _⟩ => ⟨S4096x1x8, .f32⟩
  | .hbm, ⟨72, _⟩ => ⟨S4096x8, .f32⟩
  | .hbm, ⟨73, _⟩ => ⟨S4096x1x8, .f32⟩
  | .hbm, ⟨74, _⟩ => ⟨S4x4096x8x8, .f32⟩
  | .hbm, ⟨75, _⟩ => ⟨S4x4096x8x8, .f32⟩
  | .hbm, ⟨76, _⟩ => ⟨S1x4096x1x8, .f32⟩
  | .hbm, ⟨77, _⟩ => ⟨S4x4096x8x8, .f32⟩
  | .hbm, ⟨78, _⟩ => ⟨S4x4096x8x8, .f32⟩
  | .hbm, ⟨79, _⟩ => ⟨S1x4096x1x8, .f32⟩
  | .hbm, ⟨80, _⟩ => ⟨S4x4096x8x8, .f32⟩
  | .hbm, ⟨81, _⟩ => ⟨S4x4096x8x8, .f32⟩
  | .hbm, ⟨82, _⟩ => ⟨S4x4096x8x8, .f32⟩
  | .hbm, ⟨83, _⟩ => ⟨S1x4096x1x8, .f32⟩
  | .hbm, ⟨84, _⟩ => ⟨S4x4096x8x8, .f32⟩
  | .hbm, ⟨85, _⟩ => ⟨S4x4096x8x8, .f32⟩
  | .hbm, ⟨86, _⟩ => ⟨S1x4096x1x8, .f32⟩
  | .hbm, ⟨87, _⟩ => ⟨S4x4096x8x8, .f32⟩
  | .hbm, ⟨88, _⟩ => ⟨S4x4096x8x8, .f32⟩
  | .hbm, ⟨89, _⟩ => ⟨S4x4096x8x8, .f32⟩
  | .hbm, ⟨90, _⟩ => ⟨S4x4096x8x48, .f32⟩
  | .hbm, ⟨91, _⟩ => ⟨S4x4096x8x64, .f32⟩
  | .hbm, ⟨92, _⟩ => ⟨S4x8x4096x64, .f32⟩
  | .hbm, ⟨93, _⟩ => ⟨S4x8x4096x64, .f32⟩
  | _, _ => ⟨S16640x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_2 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_cst_3 : Ref sig .tc := ⟨.hbm, 54, rfl⟩
abbrev main_v49 : Ref sig .tc := ⟨.hbm, 55, rfl⟩
abbrev main_v50 : Ref sig .tc := ⟨.hbm, 56, rfl⟩
abbrev main_cst_4 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_5 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩

abbrev nD : Nat := 1
abbrev τ : Topo := Topo.v7x

variable {F : FTy → Type} [FloatOps F]
-- ==== Kernel4.lean ====
abbrev S16640x1536 : Shape := ⟨2, ![16640, 1536]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S8x48 : Shape := ⟨2, ![8, 48]⟩
abbrev S8x64 : Shape := ⟨2, ![8, 64]⟩
abbrev S8x56 : Shape := ⟨2, ![8, 56]⟩
abbrev S1x8x1x64 : Shape := ⟨4, ![1, 8, 1, 64]⟩
abbrev S1x8x8x64 : Shape := ⟨4, ![1, 8, 8, 64]⟩
abbrev S8x512 : Shape := ⟨2, ![8, 512]⟩
abbrev S32x8x8x64 : Shape := ⟨4, ![32, 8, 8, 64]⟩
abbrev S1x1x8x64 : Shape := ⟨4, ![1, 1, 8, 64]⟩

abbrev nBuf : Space → Nat
  | .hbm => 48
  | .vmem => 15
  | .smem => 0
  | _ => 0

abbrev bufTy : (tb : Table) → Fin (tcTables nBuf tb) → BufTy
  | .hbm, ⟨0, _⟩ => ⟨S16640x1536, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S1x8, .f32⟩
  | .hbm, ⟨19, _⟩ => ⟨S8x8, .f32⟩
  | .hbm, ⟨20, _⟩ => ⟨S8x8, .f32⟩
  | .hbm, ⟨21, _⟩ => ⟨S8x8, .f32⟩
  | .hbm, ⟨22, _⟩ => ⟨S8x8, .f32⟩
  | .hbm, ⟨23, _⟩ => ⟨S8x8, .f32⟩
  | .hbm, ⟨24, _⟩ => ⟨S_, .f32⟩
  | .hbm, ⟨25, _⟩ => ⟨S8x48, .f32⟩
  | .hbm, ⟨26, _⟩ => ⟨S8x64, .f32⟩
  | .hbm, ⟨27, _⟩ => ⟨S8x8, .f32⟩
  | .hbm, ⟨28, _⟩ => ⟨S_, .f32⟩
  | .hbm, ⟨29, _⟩ => ⟨S8x56, .f32⟩
  | .hbm, ⟨30, _⟩ => ⟨S8x64, .f32⟩
  | .hbm, ⟨31, _⟩ => ⟨S_, .f32⟩
  | .hbm, ⟨32, _⟩ => ⟨S8x8, .f32⟩
  | .hbm, ⟨33, _⟩ => ⟨S_, .f32⟩
  | .hbm, ⟨34, _⟩ => ⟨S8x48, .f32⟩
  | .hbm, ⟨35, _⟩ => ⟨S8x64, .f32⟩
  | .hbm, ⟨36, _⟩ => ⟨S1x8x1x64, .f32⟩
  | .hbm, ⟨37, _⟩ => ⟨S1x8x8x64, .f32⟩
  | .hbm, ⟨38, _⟩ => ⟨S8x512, .f32⟩
  | .hbm, ⟨39, _⟩ => ⟨S1x8x1x64, .f32⟩
  | .hbm, ⟨40, _⟩ => ⟨S1x8x8x64, .f32⟩
  | .hbm, ⟨41, _⟩ => ⟨S8x512, .f32⟩
  | .hbm, ⟨42, _⟩ => ⟨S1x8x1x64, .f32⟩
  | .hbm, ⟨43, _⟩ => ⟨S1x8x8x64, .f32⟩
  | .hbm, ⟨44, _⟩ => ⟨S8x512, .f32⟩
  | .hbm, ⟨45, _⟩ => ⟨S32x8x8x64, .f32⟩
  | .hbm, ⟨46, _⟩ => ⟨S32x8x8x64, .f32⟩
  | .hbm, ⟨47, _⟩ => ⟨S32x8x8x64, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S1x8x8x64, .f32⟩
  | .local _ .vmem, ⟨10, _⟩ => ⟨S1x8x8x64, .f32⟩
  | .local _ .vmem, ⟨11, _⟩ => ⟨S1x8x8x64, .f32⟩
  | .local _ .vmem, ⟨12, _⟩ => ⟨S1x8x8x64, .f32⟩
  | .local _ .vmem, ⟨13, _⟩ => ⟨S1x8x8x64, .f32⟩
  | .local _ .vmem, ⟨14, _⟩ => ⟨S1x8x8x64, .f32⟩
  | _, _ => ⟨S16640x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg1
  let c2_i32 : BitVec 32 := 2#32
  let c0_i32 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1x8x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S16640x1536 : Shape := ⟨2, ![16640, 1536]⟩
abbrev S256x1536 : Shape := ⟨2, ![256, 1536]⟩
abbrev S32x8x1536 : Shape := ⟨3, ![32, 8, 1536]⟩
abbrev S8 : Shape := ⟨1, ![8]⟩
abbrev S_ : Shape := ⟨0, ![]⟩
abbrev S32x8x512 : Shape := ⟨3, ![32, 8, 512]⟩
abbrev S32x8x8x64 : Shape := ⟨4, ![32, 8, 8, 64]⟩
abbrev S8x1 : Shape := ⟨2, ![8, 1]⟩
abbrev S1x8 : Shape := ⟨2, ![1, 8]⟩
abbrev S8x8 : Shape := ⟨2, ![8, 8]⟩
abbrev S8x1x8 : Shape := ⟨3, ![8, 1, 8]⟩
abbrev S32x8x8x8 : Shape := ⟨4, ![32, 8, 8, 8]⟩
abbrev S1x8x1x8 : Shape := ⟨4, ![1, 8, 1, 8]⟩
abbrev S32x8x8x48 : Shape := ⟨4, ![32, 8, 8, 48]⟩

abbrev nBuf : Space → Nat
  | .hbm => 97
  | .vmem => 0
  | .smem => 0
  | _ => 0

abbrev bufTy : (tb : Table) → Fin (tcTables nBuf tb) → BufTy
  | .hbm, ⟨0, _⟩ => ⟨S16640x1536, .f32⟩
  | .hbm, ⟨1, _⟩ => ⟨S256x1536, .f32⟩
  | .hbm, ⟨2, _⟩ => ⟨S32x8x1536, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S32x8x512, .f32⟩
  | .hbm, ⟨8, _⟩ => ⟨S32x8x512, .f32⟩
  | .hbm, ⟨9, _⟩ => ⟨S32x8x512, .f32⟩
  | .hbm, ⟨10, _⟩ => ⟨S32x8x8x64, .f32⟩
  | .hbm, ⟨11, _⟩ => ⟨S32x8x8x64, .f32⟩
  | .hbm, ⟨12, _⟩ => ⟨S32x8x8x64, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S8x1, .f32⟩
  | .hbm, ⟨26, _⟩ => ⟨S1x8, .f32⟩
  | .hbm, ⟨27, _⟩ => ⟨S8x8, .f32⟩
  | .hbm, ⟨28, _⟩ => ⟨S8x8, .f32⟩
  | .hbm, ⟨29, _⟩ => ⟨S8x8, .f32⟩
  | .hbm, ⟨30, _⟩ => ⟨S8x8, .f32⟩
  | .hbm, ⟨31, _⟩ => ⟨S8x1x8, .f32⟩
  | .hbm, ⟨32, _⟩ => ⟨S8x8, .f32⟩
  | .hbm, ⟨33, _⟩ => ⟨S8x1x8, .f32⟩
  | .hbm, ⟨34, _⟩ => ⟨S32x8x8x8, .f32⟩
  | .hbm, ⟨35, _⟩ => ⟨S32x8x8x8, .f32⟩
  | .hbm, ⟨36, _⟩ => ⟨S1x8x1x8, .f32⟩
  | .hbm, ⟨37, _⟩ => ⟨S32x8x8x8, .f32⟩
  | .hbm, ⟨38, _⟩ => ⟨S32x8x8x8, .f32⟩
  | .hbm, ⟨39, _⟩ => ⟨S1x8x1x8, .f32⟩
  | .hbm, ⟨40, _⟩ => ⟨S32x8x8x8, .f32⟩
  | .hbm, ⟨41, _⟩ => ⟨S32x8x8x8, .f32⟩
  | .hbm, ⟨42, _⟩ => ⟨S32x8x8x8, .f32⟩
  | .hbm, ⟨43, _⟩ => ⟨S1x8x1x8, .f32⟩
  | .hbm, ⟨44, _⟩ => ⟨S32x8x8x8, .f32⟩
  | .hbm, ⟨45, _⟩ => ⟨S32x8x8x8, .f32⟩
  | .hbm, ⟨46, _⟩ => ⟨S1x8x1x8, .f32⟩
  | .hbm, ⟨47, _⟩ => ⟨S32x8x8x8, .f32⟩
  | .hbm, ⟨48, _⟩ => ⟨S32x8x8x8, .f32⟩
  | .hbm, ⟨49, _⟩ => ⟨S32x8x8x8, .f32⟩
  | .hbm, ⟨50, _⟩ => ⟨S32x8x8x48, .f32⟩
  | .hbm, ⟨51, _⟩ => ⟨S32x8x8x64, .f32⟩
  | .hbm, ⟨52, _⟩ => ⟨S32x8x8x64, .f32⟩
  | .hbm, ⟨53, _⟩ => ⟨S_, .f32⟩
  | .hbm, ⟨54, _⟩ => ⟨S32x8x8x64, .f32⟩
  | .hbm, ⟨55, _⟩ => ⟨S32x8x8x64, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S8x1, .f32⟩
  | .hbm, ⟨69, _⟩ => ⟨S1x8, .f32⟩
  | .hbm, ⟨70, _⟩ => ⟨S8x8, .f32⟩
  | .hbm, ⟨71, _⟩ => ⟨S8x8, .f32⟩
  | .hbm, ⟨72, _⟩ => ⟨S8x8, .f32⟩
  | .hbm, ⟨73, _⟩ => ⟨S8x8, .f32⟩
  | .hbm, ⟨74, _⟩ => ⟨S8x1x8, .f32⟩
  | .hbm, ⟨75, _⟩ => ⟨S8x8, .f32⟩
  | .hbm, ⟨76, _⟩ => ⟨S8x1x8, .f32⟩
  | .hbm, ⟨77, _⟩ => ⟨S32x8x8x8, .f32⟩
  | .hbm, ⟨78, _⟩ => ⟨S32x8x8x8, .f32⟩
  | .hbm, ⟨79, _⟩ => ⟨S1x8x1x8, .f32⟩
  | .hbm, ⟨80, _⟩ => ⟨S32x8x8x8, .f32⟩
  | .hbm, ⟨81, _⟩ => ⟨S32x8x8x8, .f32⟩
  | .hbm, ⟨82, _⟩ => ⟨S1x8x1x8, .f32⟩
  | .hbm, ⟨83, _⟩ => ⟨S32x8x8x8, .f32⟩
  | .hbm, ⟨84, _⟩ => ⟨S32x8x8x8, .f32⟩
  | .hbm, ⟨85, _⟩ => ⟨S32x8x8x8, .f32⟩
  | .hbm, ⟨86, _⟩ => ⟨S1x8x1x8, .f32⟩
  | .hbm, ⟨87, _⟩ => ⟨S32x8x8x8, .f32⟩
  | .hbm, ⟨88, _⟩ => ⟨S32x8x8x8, .f32⟩
  | .hbm, ⟨89, _⟩ => ⟨S1x8x1x8, .f32⟩
  | .hbm, ⟨90, _⟩ => ⟨S32x8x8x8, .f32⟩
  | .hbm, ⟨91, _⟩ => ⟨S32x8x8x8, .f32⟩
  | .hbm, ⟨92, _⟩ => ⟨S32x8x8x8, .f32⟩
  | .hbm, ⟨93, _⟩ => ⟨S32x8x8x48, .f32⟩
  | .hbm, ⟨94, _⟩ => ⟨S32x8x8x64, .f32⟩
  | .hbm, ⟨95, _⟩ => ⟨S32x8x8x64, .f32⟩
  | .hbm, ⟨96, _⟩ => ⟨S32x8x8x64, .f32⟩
  | _, _ => ⟨S16640x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_cst_2 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_3 : Ref sig .tc := ⟨.hbm, 57, rfl⟩
abbrev main_v51 : Ref sig .tc := ⟨.hbm, 58, rfl⟩
abbrev main_v52 : Ref sig .tc := ⟨.hbm, 59, rfl⟩
abbrev main_cst_4 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_cst_5 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩

abbrev nD : Nat := 1
abbrev τ : Topo := Topo.v7x

variable {F : FTy → Type} [FloatOps F]
-- ==== Kernel5.lean ====
abbrev S4x4096x1024 : Shape := ⟨3, ![4, 4096, 1024]⟩
abbrev S32x8x1024 : Shape := ⟨3, ![32, 8, 1024]⟩
abbrev S16384x512 : Shape := ⟨2, ![16384, 512]⟩
abbrev S256x512 : Shape := ⟨2, ![256, 512]⟩
abbrev S16640x2048 : Shape := ⟨2, ![16640, 2048]⟩
abbrev S36x6144 : Shape := ⟨2, ![36, 6144]⟩
abbrev S1024 : Shape := ⟨1, ![1024]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S16384x1024 : Shape := ⟨2, ![16384, 1024]⟩
abbrev S256x1024 : Shape := ⟨2, ![256, 1024]⟩
abbrev S36x6x1024 : Shape := ⟨3, ![36, 6, 1024]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S32x6x1024 : Shape := ⟨3, ![32, 6, 1024]⟩
abbrev S32x8x6x1024 : Shape := ⟨4, ![32, 8, 6, 1024]⟩
abbrev S256x6x1024 : Shape := ⟨3, ![256, 6, 1024]⟩
abbrev S6x256x1024 : Shape := ⟨3, ![6, 256, 1024]⟩
abbrev S1024x4x8 : Shape := ⟨3, ![1024, 4, 8]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S16640x1024 : Shape := ⟨2, ![16640, 1024]⟩
abbrev S16640x4x128 : Shape := ⟨3, ![16640, 4, 128]⟩
abbrev S16640x128 : Shape := ⟨2, ![16640, 128]⟩
abbrev S1x1x1x1024 : Shape := ⟨4, ![1, 1, 1, 1024]⟩
abbrev S1x256x1024 : Shape := ⟨3, ![1, 256, 1024]⟩
abbrev S256x4x128 : Shape := ⟨3, ![256, 4, 128]⟩
abbrev S256x128 : Shape := ⟨2, ![256, 128]⟩
abbrev S256 : Shape := ⟨1, ![256]⟩
abbrev S256x1 : Shape := ⟨2, ![256, 1]⟩
abbrev S256x1x128 : Shape := ⟨3, ![256, 1, 128]⟩

abbrev nBuf : Space → Nat
  | .hbm => 44
  | .vmem => 36
  | .smem => 0
  | _ => 0

abbrev bufTy : (tb : Table) → Fin (tcTables nBuf tb) → BufTy
  | .hbm, ⟨0, _⟩ => ⟨S4x4096x1024, .f32⟩
  | .hbm, ⟨1, _⟩ => ⟨S32x8x1024, .f32⟩
  | .hbm, ⟨2, _⟩ => ⟨S16384x512, .f32⟩
  | .hbm, ⟨3, _⟩ => ⟨S256x512, .f32⟩
  | .hbm, ⟨4, _⟩ => ⟨S16384x512, .bf16⟩
  | .hbm, ⟨5, _⟩ => ⟨S256x512, .bf16⟩
  | .hbm, ⟨6, _⟩ => ⟨S16640x2048, .f32⟩
  | .hbm, ⟨7, _⟩ => ⟨S36x6144, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x4, .f32⟩
  | .hbm, ⟨13, _⟩ => ⟨S4, .f32⟩
  | .hbm, ⟨14, _⟩ => ⟨S4x1024x8, .f32⟩
  | .hbm, ⟨15, _⟩ => ⟨S4x8, .f32⟩
  | .hbm, ⟨16, _⟩ => ⟨S16384x1024, .f32⟩
  | .hbm, ⟨17, _⟩ => ⟨S256x1024, .f32⟩
  | .hbm, ⟨18, _⟩ => ⟨S36x6x1024, .f32⟩
  | .hbm, ⟨19, _⟩ => ⟨S4x6x1024, .f32⟩
  | .hbm, ⟨20, _⟩ => ⟨S6x4x1024, .f32⟩
  | .hbm, ⟨21, _⟩ => ⟨S6x4x1x1024, .f32⟩
  | .hbm, ⟨22, _⟩ => ⟨S32x6x1024, .f32⟩
  | .hbm, ⟨23, _⟩ => ⟨S32x8x6x1024, .f32⟩
  | .hbm, ⟨24, _⟩ => ⟨S256x6x1024, .f32⟩
  | .hbm, ⟨25, _⟩ => ⟨S6x256x1024, .f32⟩
  | .hbm, ⟨26, _⟩ => ⟨S1024x4x8, .f32⟩
  | .hbm, ⟨27, _⟩ => ⟨S1024x32, .f32⟩
  | .hbm, ⟨28, _⟩ => ⟨S_, .f32⟩
  | .hbm, ⟨29, _⟩ => ⟨S1024x92, .f32⟩
  | .hbm, ⟨30, _⟩ => ⟨S1024x128, .f32⟩
  | .hbm, ⟨31, _⟩ => ⟨S32, .f32⟩
  | .hbm, ⟨32, _⟩ => ⟨S_, .f32⟩
  | .hbm, ⟨33, _⟩ => ⟨S92, .f32⟩
  | .hbm, ⟨34, _⟩ => ⟨S128, .f32⟩
  | .hbm, ⟨35, _⟩ => ⟨S1x128, .f32⟩
  | .hbm, ⟨36, _⟩ => ⟨S512x1024, .bf16⟩
  | .hbm, ⟨37, _⟩ => ⟨S512x1024, .bf16⟩
  | .hbm, ⟨38, _⟩ => ⟨S1024x1024, .bf16⟩
  | .hbm, ⟨39, _⟩ => ⟨S1x1024, .f32⟩
  | .hbm, ⟨40, _⟩ => ⟨S16640x1024, .f32⟩
  | .hbm, ⟨41, _⟩ => ⟨S16640x4x128, .i32⟩
  | .hbm, ⟨42, _⟩ => ⟨S16640x128, .i32⟩
  | .hbm, ⟨43, _⟩ => ⟨S16640x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x256x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x256x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x256x1024, .f32⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x128, .f32⟩
  | .local _ .vmem, ⟨27, _⟩ => ⟨S1x128, .f32⟩
  | .local _ .vmem, ⟨28, _⟩ => ⟨S256x1024, .f32⟩
  | .local _ .vmem, ⟨29, _⟩ => ⟨S256x1024, .f32⟩
  | .local _ .vmem, ⟨30, _⟩ => ⟨S256x4x128, .i32⟩
  | .local _ .vmem, ⟨31, _⟩ => ⟨S256x4x128, .i32⟩
  | .local _ .vmem, ⟨32, _⟩ => ⟨S256x128, .i32⟩
  | .local _ .vmem, ⟨33, _⟩ => ⟨S256x128, .i32⟩
  | .local _ .vmem, ⟨34, _⟩ => ⟨S256x128, .f32⟩
  | .local _ .vmem, ⟨35, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev main_v22_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [BitOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c2_i32 : BitVec 32 := 2#32
  let c0_i32_4 : BitVec 32 := 0#32
  let c0_i32_5 : BitVec 32 := 0#32
  let c0_i32_6 : BitVec 32 := 0#32
  ![c2_i32.toNat, v17.toNat, c0_i32_4.toNat, c0_i32_5.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c3_i32_4 : BitVec 32 := 3#32
  let c0_i32_5 : BitVec 32 := 0#32
  let c0_i32_6 : BitVec 32 := 0#32
  let c0_i32_7 : BitVec 32 := 0#32
  ![c3_i32_4.toNat, v17.toNat, c0_i32_5.toNat, c0_i32_6.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c4_i32 : BitVec 32 := 4#32
  let c0_i32_4 : BitVec 32 := 0#32
  let c0_i32_5 : BitVec 32 := 0#32
  let c0_i32_6 : BitVec 32 := 0#32
  ![c4_i32.toNat, v17.toNat, c0_i32_4.toNat, c0_i32_5.toNat]

def cc0_transform_13 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x4x128 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .i32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Kernel5Ideal.lean ====
abbrev S4x4096x1024 : Shape := ⟨3, ![4, 4096, 1024]⟩
abbrev S32x8x1024 : Shape := ⟨3, ![32, 8, 1024]⟩
abbrev S16384x512 : Shape := ⟨2, ![16384, 512]⟩
abbrev S256x512 : Shape := ⟨2, ![256, 512]⟩
abbrev S16640x2048 : Shape := ⟨2, ![16640, 2048]⟩
abbrev S36x6144 : Shape := ⟨2, ![36, 6144]⟩
abbrev S1024 : Shape := ⟨1, ![1024]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S16384x1024 : Shape := ⟨2, ![16384, 1024]⟩
abbrev S256x1024 : Shape := ⟨2, ![256, 1024]⟩
abbrev S36x6x1024 : Shape := ⟨3, ![36, 6, 1024]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S32x6x1024 : Shape := ⟨3, ![32, 6, 1024]⟩
abbrev S32x8x6x1024 : Shape := ⟨4, ![32, 8, 6, 1024]⟩
abbrev S256x6x1024 : Shape := ⟨3, ![256, 6, 1024]⟩
abbrev S6x256x1024 : Shape := ⟨3, ![6, 256, 1024]⟩
abbrev S1024x4x8 : Shape := ⟨3, ![1024, 4, 8]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S92 : Shape := ⟨1, ![92]⟩
abbrev S128 : Shape := ⟨1, ![128]⟩
abbrev S1x128 : Shape := ⟨2, ![1, 128]⟩
abbrev S1x1024 : Shape := ⟨2, ![1, 1024]⟩
abbrev S16640x1024 : Shape := ⟨2, ![16640, 1024]⟩
abbrev S16640x4x2x128 : Shape := ⟨4, ![16640, 4, 2, 128]⟩
abbrev S16640x128 : Shape := ⟨2, ![16640, 128]⟩
abbrev S16640x4x1x128 : Shape := ⟨4, ![16640, 4, 1, 128]⟩
abbrev S16640x4x128 : Shape := ⟨3, ![16640, 4, 128]⟩
abbrev S1x1x1x1024 : Shape := ⟨4, ![1, 1, 1, 1024]⟩
abbrev S1x256x1024 : Shape := ⟨3, ![1, 256, 1024]⟩
abbrev S256x4x128 : Shape := ⟨3, ![256, 4, 128]⟩
abbrev S256x4x2x128 : Shape := ⟨4, ![256, 4, 2, 128]⟩
abbrev S256x4x1x128 : Shape := ⟨4, ![256, 4, 1, 128]⟩
abbrev S256x128 : Shape := ⟨2, ![256, 128]⟩
abbrev S256 : Shape := ⟨1, ![256]⟩
abbrev S256x1 : Shape := ⟨2, ![256, 1]⟩
abbrev S256x1x128 : Shape := ⟨3, ![256, 1, 128]⟩
abbrev S256x1x2x128 : Shape := ⟨4, ![256, 1, 2, 128]⟩
abbrev S256x1x1x128 : Shape := ⟨4, ![256, 1, 1, 128]⟩

abbrev nBuf : Space → Nat
  | .hbm => 44
  | .vmem => 36
  | .smem => 0
  | _ => 0

abbrev bufTy : (tb : Table) → Fin (tcTables nBuf tb) → BufTy
  | .hbm, ⟨0, _⟩ => ⟨S4x4096x1024, .f32⟩
  | .hbm, ⟨1, _⟩ => ⟨S32x8x1024, .f32⟩
  | .hbm, ⟨2, _⟩ => ⟨S16384x512, .f32⟩
  | .hbm, ⟨3, _⟩ => ⟨S256x512, .f32⟩
  | .hbm, ⟨4, _⟩ => ⟨S16384x512, .bf16⟩
  | .hbm, ⟨5, _⟩ => ⟨S256x512, .bf16⟩
  | .hbm, ⟨6, _⟩ => ⟨S16640x2048, .f32⟩
  | .hbm, ⟨7, _⟩ => ⟨S36x6144, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x4, .f32⟩
  | .hbm, ⟨13, _⟩ => ⟨S4, .f32⟩
  | .hbm, ⟨14, _⟩ => ⟨S4x1024x8, .f32⟩
  | .hbm, ⟨15, _⟩ => ⟨S4x8, .f32⟩
  | .hbm, ⟨16, _⟩ => ⟨S16384x1024, .f32⟩
  | .hbm, ⟨17, _⟩ => ⟨S256x1024, .f32⟩
  | .hbm, ⟨18, _⟩ => ⟨S36x6x1024, .f32⟩
  | .hbm, ⟨19, _⟩ => ⟨S4x6x1024, .f32⟩
  | .hbm, ⟨20, _⟩ => ⟨S6x4x1024, .f32⟩
  | .hbm, ⟨21, _⟩ => ⟨S6x4x1x1024, .f32⟩
  | .hbm, ⟨22, _⟩ => ⟨S32x6x1024, .f32⟩
  | .hbm, ⟨23, _⟩ => ⟨S32x8x6x1024, .f32⟩
  | .hbm, ⟨24, _⟩ => ⟨S256x6x1024, .f32⟩
  | .hbm, ⟨25, _⟩ => ⟨S6x256x1024, .f32⟩
  | .hbm, ⟨26, _⟩ => ⟨S1024x4x8, .f32⟩
  | .hbm, ⟨27, _⟩ => ⟨S1024x32, .f32⟩
  | .hbm, ⟨28, _⟩ => ⟨S_, .f32⟩
  | .hbm, ⟨29, _⟩ => ⟨S1024x92, .f32⟩
  | .hbm, ⟨30, _⟩ => ⟨S1024x128, .f32⟩
  | .hbm, ⟨31, _⟩ => ⟨S32, .f32⟩
  | .hbm, ⟨32, _⟩ => ⟨S_, .f32⟩
  | .hbm, ⟨33, _⟩ => ⟨S92, .f32⟩
  | .hbm, ⟨34, _⟩ => ⟨S128, .f32⟩
  | .hbm, ⟨35, _⟩ => ⟨S1x128, .f32⟩
  | .hbm, ⟨36, _⟩ => ⟨S512x1024, .bf16⟩
  | .hbm, ⟨37, _⟩ => ⟨S512x1024, .bf16⟩
  | .hbm, ⟨38, _⟩ => ⟨S1024x1024, .bf16⟩
  | .hbm, ⟨39, _⟩ => ⟨S1x1024, .f32⟩
  | .hbm, ⟨40, _⟩ => ⟨S16640x1024, .f32⟩
  | .hbm, ⟨41, _⟩ => ⟨S16640x4x2x128, .bf16⟩
  | .hbm, ⟨42, _⟩ => ⟨S16640x128, .i32⟩
  | .hbm, ⟨43, _⟩ => ⟨S16640x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x256x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x256x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x256x1024, .f32⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x128, .f32⟩
  | .local _ .vmem, ⟨27, _⟩ => ⟨S1x128, .f32⟩
  | .local _ .vmem, ⟨28, _⟩ => ⟨S256x1024, .f32⟩
  | .local _ .vmem, ⟨29, _⟩ => ⟨S256x1024, .f32⟩
  | .local _ .vmem, ⟨30, _⟩ => ⟨S256x4x2x128, .bf16⟩
  | .local _ .vmem, ⟨31, _⟩ => ⟨S256x4x2x128, .bf16⟩
  | .local _ .vmem, ⟨32, _⟩ => ⟨S256x128, .i32⟩
  | .local _ .vmem, ⟨33, _⟩ => ⟨S256x128, .i32⟩
  | .local _ .vmem, ⟨34, _⟩ => ⟨S256x128, .f32⟩
  | .local _ .vmem, ⟨35, _⟩ => ⟨S256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev main_v22_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c2_i32 : BitVec 32 := 2#32
  let c0_i32_4 : BitVec 32 := 0#32
  let c0_i32_5 : BitVec 32 := 0#32
  let c0_i32_6 : BitVec 32 := 0#32
  ![c2_i32.toNat, v17.toNat, c0_i32_4.toNat, c0_i32_5.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c3_i32_4 : BitVec 32 := 3#32
  let c0_i32_5 : BitVec 32 := 0#32
  let c0_i32_6 : BitVec 32 := 0#32
  let c0_i32_7 : BitVec 32 := 0#32
  ![c3_i32_4.toNat, v17.toNat, c0_i32_5.toNat, c0_i32_6.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c4_i32 : BitVec 32 := 4#32
  let c0_i32_4 : BitVec 32 := 0#32
  let c0_i32_5 : BitVec 32 := 0#32
  let c0_i32_6 : BitVec 32 := 0#32
  ![c4_i32.toNat, v17.toNat, c0_i32_4.toNat, c0_i32_5.toNat]

def cc0_transform_13 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x4x2x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .i32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S4x4096x1024 : Shape := ⟨3, ![4, 4096, 1024]⟩
abbrev S32x8x1024 : Shape := ⟨3, ![32, 8, 1024]⟩
abbrev S16384x512 : Shape := ⟨2, ![16384, 512]⟩
abbrev S256x512 : Shape := ⟨2, ![256, 512]⟩
abbrev S16640x2048 : Shape := ⟨2, ![16640, 2048]⟩
abbrev S36x6144 : Shape := ⟨2, ![36, 6144]⟩
abbrev S1024 : Shape := ⟨1, ![1024]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S4x1024 : Shape := ⟨2, ![4, 1024]⟩
abbrev S4x1x1024 : Shape := ⟨3, ![4, 1, 1024]⟩
abbrev S32x1024 : Shape := ⟨2, ![32, 1024]⟩
abbrev S32x1x1024 : Shape := ⟨3, ![32, 1, 1024]⟩
abbrev S4x4096x512 : Shape := ⟨3, ![4, 4096, 512]⟩
abbrev S32x8x512 : Shape := ⟨3, ![32, 8, 512]⟩
abbrev S16384x2048 : Shape := ⟨2, ![16384, 2048]⟩
abbrev S4x4096x2048 : Shape := ⟨3, ![4, 4096, 2048]⟩
abbrev S256x2048 : Shape := ⟨2, ![256, 2048]⟩
abbrev S32x8x2048 : Shape := ⟨3, ![32, 8, 2048]⟩
abbrev S_ : Shape := ⟨0, ![]⟩
abbrev S16384x1024 : Shape := ⟨2, ![16384, 1024]⟩
abbrev S256x1024 : Shape := ⟨2, ![256, 1024]⟩
abbrev S16640x1024 : Shape := ⟨2, ![16640, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S32x8x1024, .f32⟩
  | .hbm, ⟨2, _⟩ => ⟨S16384x512, .f32⟩
  | .hbm, ⟨3, _⟩ => ⟨S256x512, .f32⟩
  | .hbm, ⟨4, _⟩ => ⟨S16384x512, .bf16⟩
  | .hbm, ⟨5, _⟩ => ⟨S256x512, .bf16⟩
  | .hbm, ⟨6, _⟩ => ⟨S16640x2048, .f32⟩
  | .hbm, ⟨7, _⟩ => ⟨S36x6144, .f32⟩
  | .hbm, ⟨8, _⟩ => ⟨S1024, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S1024x4, .f32⟩
  | .hbm, ⟨13, _⟩ => ⟨S4, .f32⟩
  | .hbm, ⟨14, _⟩ => ⟨S4x1024x8, .f32⟩
  | .hbm, ⟨15, _⟩ => ⟨S4x8, .f32⟩
  | .hbm, ⟨16, _⟩ => ⟨S4x1024, .f32⟩
  | .hbm, ⟨17, _⟩ => ⟨S4x1x1024, .f32⟩
  | .hbm, ⟨18, _⟩ => ⟨S32x1024, .f32⟩
  | .hbm, ⟨19, _⟩ => ⟨S32x1x1024, .f32⟩
  | .hbm, ⟨20, _⟩ => ⟨S4x4096x512, .f32⟩
  | .hbm, ⟨21, _⟩ => ⟨S16384x512, .f32⟩
  | .hbm, ⟨22, _⟩ => ⟨S4x4096x512, .f32⟩
  | .hbm, ⟨23, _⟩ => ⟨S32x8x512, .f32⟩
  | .hbm, ⟨24, _⟩ => ⟨S256x512, .f32⟩
  | .hbm, ⟨25, _⟩ => ⟨S32x8x512, .f32⟩
  | .hbm, ⟨26, _⟩ => ⟨S16384x2048, .f32⟩
  | .hbm, ⟨27, _⟩ => ⟨S4x4096x2048, .f32⟩
  | .hbm, ⟨28, _⟩ => ⟨S4x4096x1024, .f32⟩
  | .hbm, ⟨29, _⟩ => ⟨S4x4096x1024, .f32⟩
  | .hbm, ⟨30, _⟩ => ⟨S256x2048, .f32⟩
  | .hbm, ⟨31, _⟩ => ⟨S32x8x2048, .f32⟩
  | .hbm, ⟨32, _⟩ => ⟨S32x8x1024, .f32⟩
  | .hbm, ⟨33, _⟩ => ⟨S32x8x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S32x8x1024, .f32⟩
  | .hbm, ⟨57, _⟩ => ⟨S32x8x1024, .f32⟩
  | .hbm, ⟨58, _⟩ => ⟨S_, .f32⟩
  | .hbm, ⟨59, _⟩ => ⟨S32x8x1024, .f32⟩
  | .hbm, ⟨60, _⟩ => ⟨S32x8x1024, .f32⟩
  | .hbm, ⟨61, _⟩ => ⟨S_, .f32⟩
  | .hbm, ⟨62, _⟩ => ⟨S32x8x1024, .f32⟩
  | .hbm, ⟨63, _⟩ => ⟨S32x8x1024, .f32⟩
  | .hbm, ⟨64, _⟩ => ⟨S32x8x1024, .f32⟩
  | .hbm, ⟨65, _⟩ => ⟨S32x8x1024, .f32⟩
  | .hbm, ⟨66, _⟩ => ⟨S32x8x1024, .f32⟩
  | .hbm, ⟨67, _⟩ => ⟨S32x8x1024, .f32⟩
  | .hbm, ⟨68, _⟩ => ⟨S_, .f32⟩
  | .hbm, ⟨69, _⟩ => ⟨S32x8x1024, .f32⟩
  | .hbm, ⟨70, _⟩ => ⟨S32x8x1024, .f32⟩
  | .hbm, ⟨71, _⟩ => ⟨S_, .f32⟩
  | .hbm, ⟨72, _⟩ => ⟨S32x8x1024, .f32⟩
  | .hbm, ⟨73, _⟩ => ⟨S32x8x1024, .f32⟩
  | .hbm, ⟨74, _⟩ => ⟨S32x8x1024, .f32⟩
  | .hbm, ⟨75, _⟩ => ⟨S32x8x1024, .f32⟩
  | .hbm, ⟨76, _⟩ => ⟨S32x8x1024, .f32⟩
  | .hbm, ⟨77, _⟩ => ⟨S32x8x1024, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S32x8x1024, .f32⟩
  | .hbm, ⟨82, _⟩ => ⟨S32x8x1024, .f32⟩
  | .hbm, ⟨83, _⟩ => ⟨S32x8x1024, .f32⟩
  | .hbm, ⟨84, _⟩ => ⟨S16384x1024, .f32⟩
  | .hbm, ⟨85, _⟩ => ⟨S256x1024, .f32⟩
  | .hbm, ⟨86, _⟩ => ⟨S16640x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_cst_6 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== Kernel6.lean ====
abbrev S16640x1024 : Shape := ⟨2, ![16640, 1024]⟩
abbrev S16640x128 : Shape := ⟨2, ![16640, 128]⟩
abbrev S36x6144 : Shape := ⟨2, ![36, 6144]⟩
abbrev S1024 : Shape := ⟨1, ![1024]⟩
abbrev S36x6x1024 : Shape := ⟨3, ![36, 6, 1024]⟩
abbrev S4x6x1024 : Shape := ⟨3, ![4, 6, 1024]⟩
abbrev S6x4x1024 : Shape := ⟨3, ![6, 4, 1024]⟩
abbrev S6x4x1x1024 : Shape := ⟨4, ![6, 4, 1, 1024]⟩
abbrev S32x6x1024 : Shape := ⟨3, ![32, 6, 1024]⟩
abbrev S32x8x6x1024 : Shape := ⟨4, ![32, 8, 6, 1024]⟩
abbrev S256x6x1024 : Shape := ⟨3, ![256, 6, 1024]⟩
abbrev S6x256x1024 : Shape := ⟨3, ![6, 256, 1024]⟩
abbrev S1x1024 : Shape := ⟨2, ![1, 1024]⟩
abbrev S16384x1024 : Shape := ⟨2, ![16384, 1024]⟩
abbrev S256x1024 : Shape := ⟨2, ![256, 1024]⟩
abbrev S256x128 : Shape := ⟨2, ![256, 128]⟩
abbrev S1x1x1x1024 : Shape := ⟨4, ![1, 1, 1, 1024]⟩
abbrev S1x256x1024 : Shape := ⟨3, ![1, 256, 1024]⟩
abbrev S256x1 : Shape := ⟨2, ![256, 1]⟩
abbrev S256 : Shape := ⟨1, ![256]⟩

abbrev nBuf : Space → Nat
  | .hbm => 17
  | .vmem => 15
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S16640x128, .f32⟩
  | .hbm, ⟨4, _⟩ => ⟨S36x6144, .f32⟩
  | .hbm, ⟨5, _⟩ => ⟨S1024, .f32⟩
  | .hbm, ⟨6, _⟩ => ⟨S36x6x1024, .f32⟩
  | .hbm, ⟨7, _⟩ => ⟨S4x6x1024, .f32⟩
  | .hbm, ⟨8, _⟩ => ⟨S6x4x1024, .f32⟩
  | .hbm, ⟨9, _⟩ => ⟨S6x4x1x1024, .f32⟩
  | .hbm, ⟨10, _⟩ => ⟨S32x6x1024, .f32⟩
  | .hbm, ⟨11, _⟩ => ⟨S32x8x6x1024, .f32⟩
  | .hbm, ⟨12, _⟩ => ⟨S256x6x1024, .f32⟩
  | .hbm, ⟨13, _⟩ => ⟨S6x256x1024, .f32⟩
  | .hbm, ⟨14, _⟩ => ⟨S1x1024, .f32⟩
  | .hbm, ⟨15, _⟩ => ⟨S16384x1024, .f32⟩
  | .hbm, ⟨16, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x256x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32_18 : BitVec 32 := 64#32
  let v35 : BitVec 1 := Scalar.cmpi .slt arg0 c64_i32_18
  let v36 : BitVec 32 := Scalar.extui v35
  let c0_i32 : BitVec 32 := 0#32
  let v37 : BitVec 1 := Scalar.cmpi .ne v36 c0_i32
  v37

def k0_cond2 (i : grid0.Coords) : BitVec 1 :=
  let arg0 : BitVec 32 := BitVec.ofNat 32 (i 0).val
  let c64_i32_19 : BitVec 32 := 64#32
  let v38 : BitVec 1 := Scalar.cmpi .sge arg0 c64_i32_19
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.minsi v16 c3_i32
  let c5_i32 : BitVec 32 := 5#32
  let c0_i32_4 : BitVec 32 := 0#32
  let c0_i32_5 : BitVec 32 := 0#32
  let c0_i32_6 : BitVec 32 := 0#32
  ![c5_i32.toNat, v17.toNat, c0_i32_4.toNat, c0_i32_5.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S16640x1024 : Shape := ⟨2, ![16640, 1024]⟩
abbrev S16640x128 : Shape := ⟨2, ![16640, 128]⟩
abbrev S36x6144 : Shape := ⟨2, ![36, 6144]⟩
abbrev S1024 : Shape := ⟨1, ![1024]⟩
abbrev S4x1024 : Shape := ⟨2, ![4, 1024]⟩
abbrev S4x1x1024 : Shape := ⟨3, ![4, 1, 1024]⟩
abbrev S32x1024 : Shape := ⟨2, ![32, 1024]⟩
abbrev S32x1x1024 : Shape := ⟨3, ![32, 1, 1024]⟩
abbrev S16640x1 : Shape := ⟨2, ![16640, 1]⟩
abbrev S16384x1024 : Shape := ⟨2, ![16384, 1024]⟩
abbrev S4x4096x1024 : Shape := ⟨3, ![4, 4096, 1024]⟩
abbrev S256x1024 : Shape := ⟨2, ![256, 1024]⟩
abbrev S32x8x1024 : Shape := ⟨3, ![32, 8, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S32x8 : Shape := ⟨2, ![32, 8]⟩
abbrev S32x8x1 : Shape := ⟨3, ![32, 8, 1]⟩

abbrev nBuf : Space → Nat
  | .hbm => 65
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S16640x128, .f32⟩
  | .hbm, ⟨4, _⟩ => ⟨S36x6144, .f32⟩
  | .hbm, ⟨5, _⟩ => ⟨S1024, .f32⟩
  | .hbm, ⟨6, _⟩ => ⟨S4x1024, .f32⟩
  | .hbm, ⟨7, _⟩ => ⟨S4x1x1024, .f32⟩
  | .hbm, ⟨8, _⟩ => ⟨S32x1024, .f32⟩
  | .hbm, ⟨9, _⟩ => ⟨S32x1x1024, .f32⟩
  | .hbm, ⟨10, _⟩ => ⟨S16640x1, .f32⟩
  | .hbm, ⟨11, _⟩ => ⟨S16640x1024, .f32⟩
  | .hbm, ⟨12, _⟩ => ⟨S16640x1024, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S16640x1024, .f32⟩
  | .hbm, ⟨17, _⟩ => ⟨S16384x1024, .f32⟩
  | .hbm, ⟨18, _⟩ => ⟨S4x4096x1024, .f32⟩
  | .hbm, ⟨19, _⟩ => ⟨S16384x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S256x1024, .f32⟩
  | .hbm, ⟨25, _⟩ => ⟨S32x8x1024, .f32⟩
  | .hbm, ⟨26, _⟩ => ⟨S256x1024, .f32⟩
  | .hbm, ⟨27, _⟩ => ⟨S32x8x1024, .f32⟩
  | .hbm, ⟨28, _⟩ => ⟨S32x8x1024, .f32⟩
  | .hbm, ⟨29, _⟩ => ⟨S32x8x1024, .f32⟩
  | .hbm, ⟨30, _⟩ => ⟨S32x8x1024, .f32⟩
  | .hbm, ⟨31, _⟩ => ⟨S4x4096x1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x1024, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S16384x1024, .f32⟩
  | .hbm, ⟨48, _⟩ => ⟨S32x8x1024, .f32⟩
  | .hbm, ⟨49, _⟩ => ⟨S_, .f32⟩
  | .hbm, ⟨50, _⟩ => ⟨S32x8, .f32⟩
  | .hbm, ⟨51, _⟩ => ⟨S32x8x1, .f32⟩
  | .hbm, ⟨52, _⟩ => ⟨S_, .f32⟩
  | .hbm, ⟨53, _⟩ => ⟨S32x8x1, .f32⟩
  | .hbm, ⟨54, _⟩ => ⟨S32x8x1, .f32⟩
  | .hbm, ⟨55, _⟩ => ⟨S_, .f32⟩
  | .hbm, ⟨56, _⟩ => ⟨S32x8x1, .f32⟩
  | .hbm, ⟨57, _⟩ => ⟨S32x8x1, .f32⟩
  | .hbm, ⟨58, _⟩ => ⟨S32x8x1, .f32⟩
  | .hbm, ⟨59, _⟩ => ⟨S32x8x1024, .f32⟩
  | .hbm, ⟨60, _⟩ => ⟨S32x8x1024, .f32⟩
  | .hbm, ⟨61, _⟩ => ⟨S1x1x1024, .f32⟩
  | .hbm, ⟨62, _⟩ => ⟨S32x8x1024, .f32⟩
  | .hbm, ⟨63, _⟩ => ⟨S32x8x1024, .f32⟩
  | .hbm, ⟨64, _⟩ => ⟨S256x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel7.lean ====
abbrev S4x1024 : Shape := ⟨2, ![4, 1024]⟩
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S40x1024 : Shape := ⟨2, ![40, 1024]⟩
abbrev S1x6144 : Shape := ⟨2, ![1, 6144]⟩
abbrev S40x6144 : Shape := ⟨2, ![40, 6144]⟩
abbrev S1024x1024 : Shape := ⟨2, ![1024, 1024]⟩
abbrev S1x1024 : Shape := ⟨2, ![1, 1024]⟩
abbrev S36x6144 : Shape := ⟨2, ![36, 6144]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S4x1024, .f32⟩
  | .hbm, ⟨6, _⟩ => ⟨S40x1024, .f32⟩
  | .hbm, ⟨7, _⟩ => ⟨S1x6144, .f32⟩
  | .hbm, ⟨8, _⟩ => ⟨S40x6144, .f32⟩
  | .hbm, ⟨9, _⟩ => ⟨S36x6144, .f32⟩
  | .local _ .vmem, ⟨0, _⟩ => ⟨S40x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x1024 : Shape := ⟨2, ![4, 1024]⟩
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S32x6144 : Shape := ⟨2, ![32, 6144]⟩
abbrev S36x6144 : Shape := ⟨2, ![36, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x6144, .f32⟩
  | .hbm, ⟨14, _⟩ => ⟨S1x6144, .f32⟩
  | .hbm, ⟨15, _⟩ => ⟨S4x6144, .f32⟩
  | .hbm, ⟨16, _⟩ => ⟨S4x6144, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x6144, .f32⟩
  | .hbm, ⟨27, _⟩ => ⟨S1x6144, .f32⟩
  | .hbm, ⟨28, _⟩ => ⟨S32x6144, .f32⟩
  | .hbm, ⟨29, _⟩ => ⟨S32x6144, .f32⟩
  | .hbm, ⟨30, _⟩ => ⟨S36x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Proof.HgrnSpec.lean ====
/-
  The gated recurrence of one sequence, written at scalars: eight new tokens, four heads of width 128, one starting
  state per head. Both programs are shown to compute these functions.
-/
module

public import Idealize.ShloMosaic.Lib.Pointwise

@[expose] public section

set_option maxRecDepth 16384

noncomputable section

namespace Cert.HgrnSpec

open Idealize.ShloMosaic

/-- The forget gate: the lower bound plus the rest of the unit interval times a sigmoid. -/
def gate (lb z : EReal) : EReal := lb + (1 - lb) * Ideal.logistic z

/-- The running sum of eight logarithms up to and with token `t`. -/
def cum (a : Fin 8 → EReal) (t : Fin 8) : EReal := ∑ s : Fin 8, if s ≤ t then a s else 0

/-- The decay from token `s` to token `t` in lane `x`: zero where `s` is later than `t`. -/
def decay (B : Fin 8 → Fin 128 → EReal) (t s : Fin 8) (x : Fin 128) : EReal :=
  Ideal.exp (Scalar.select (IntOp.cmpi CmpIPredicate.sge (BitVec.ofNat 32 t.val) (BitVec.ofNat 32 s.val)) (B t x - B s x)
    (Ideal.ofBits FTy.f32 4286578688#32))

/-- What token `t` reads at value lane `e`: from the starting state, and from the tokens up to its own. -/
def read (Q B K V : Fin 8 → Fin 128 → EReal) (S : Fin 128 → Fin 128 → EReal) (t : Fin 8) (e : Fin 128) : EReal :=
  (∑ x, Q t x * Ideal.exp (B t x) * S x e) + ∑ s, (∑ x, Q t x * decay B t s x * K s x) * V s e

/-- The state left after the eight tokens, at key lane `x` and value lane `e`. -/
def left (B K V : Fin 8 → Fin 128 → EReal) (S : Fin 128 → Fin 128 → EReal) (x e : Fin 128) : EReal :=
  Ideal.exp (B 7 x) * S x e + ∑ s, K s x * Ideal.exp (B 7 x - B s x) * V s e

/-- A row normalised to unit mean square, times a gain, times its gate `g · σ(g)`. -/
def finish (o : Fin 128 → EReal) (gain g : EReal) (e : Fin 128) : EReal :=
  o e * Ideal.rsqrt (Ideal.div (∑ x, o x * o x) (Ideal.ofBits FTy.f32 0x43000000#32) + Ideal.ofBits FTy.f32 0x358637BD#32) * gain * (g * Ideal.logistic g)

/-- Token `t` of sequence `n` in the packed projections: column group `c`, head `h`, lane `k`. -/
def at4 (za : FVec Ideal ⟨2, ![16640, 2048]⟩ .f32) (c : ℕ) (hc : c < 4) (n : Fin 32) (h : Fin 4) (t : Fin 8) (k : Fin 128) : EReal :=
  za (ix2 (⟨16384 + (n.val * 8 + t.val), by omega⟩ : Fin 16640) (⟨c * 512 + h.val * 128 + k.val, by omega⟩ : Fin 2048))

/-- The gate of a head's lane, of the arrays. -/
def gateOf (za : FVec Ideal ⟨2, ![16640, 2048]⟩ .f32) (lb : FVec Ideal ⟨1, ![512]⟩ .f32) (n : Fin 32) (h : Fin 4) (t : Fin 8) (k : Fin 128) : EReal :=
  gate (lb (ix1 (⟨h.val * 128 + k.val, by omega⟩ : Fin 512))) (at4 za 1 (by decide) n h t k)

/-- The running sums of the gates' logarithms, of the arrays. -/
def cumOf (za : FVec Ideal ⟨2, ![16640, 2048]⟩ .f32) (lb : FVec Ideal ⟨1, ![512]⟩ .f32) (n : Fin 32) (h : Fin 4) (t : Fin 8) (k : Fin 128) : EReal :=
  cum (fun s => Ideal.log (gateOf za lb n h s k)) t

/-- The state left, of the arrays. -/
def leftOf (za : FVec Ideal ⟨2, ![16640, 2048]⟩ .f32) (lb : FVec Ideal ⟨1, ![512]⟩ .f32) (s0 : FVec Ideal ⟨4, ![32, 4, 128, 128]⟩ .f32)
    (n : Fin 32) (h : Fin 4) (k e : Fin 128) : EReal :=
  left (cumOf za lb n h) (fun t k => 1 - gateOf za lb n h t k) (at4 za 2 (by decide) n h) (fun k e => s0 (ix4 n h k e)) k e

/-- What a token reads, of the arrays. -/
def readOf (za : FVec Ideal ⟨2, ![16640, 2048]⟩ .f32) (lb : FVec Ideal ⟨1, ![512]⟩ .f32) (s0 : FVec Ideal ⟨4, ![32, 4, 128, 128]⟩ .f32)
    (n : Fin 32) (h : Fin 4) (t : Fin 8) (e : Fin 128) : EReal :=
  read (fun t k => at4 za 0 (by decide) n h t k * Ideal.logistic (at4 za 0 (by decide) n h t k)) (cumOf za lb n h)
    (fun t k => 1 - gateOf za lb n h t k) (at4 za 2 (by decide) n h) (fun k e => s0 (ix4 n h k e)) t e

/-- The output row, of the arrays. -/
def rowOf (za : FVec Ideal ⟨2, ![16640, 2048]⟩ .f32) (lb : FVec Ideal ⟨1, ![512]⟩ .f32) (gain : FVec Ideal ⟨1, ![128]⟩ .f32)
    (s0 : FVec Ideal ⟨4, ![32, 4, 128, 128]⟩ .f32) (n : Fin 32) (h : Fin 4) (t : Fin 8) (e : Fin 128) : EReal :=
  finish (readOf za lb s0 n h t) (gain (ix1 e)) (at4 za 3 (by decide) n h t e) e

end Cert.HgrnSpec

end
-- ==== Proof.HgrnPay.lean ====
/-
  The kernel's arithmetic for one head over the eight tokens, at loose arrays: what a token reads and the state left are the functions of
  Proof/HgrnSpec.lean. The four heads are four copies of one body, cut at different places by the program's text; each copy has its own lemma.
-/
module

public import proofs.«01_k».proof.Proof.HgrnSpec
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Hgrn

open Cert.KernelIdeal Cert.KernelIdeal.Gen Idealize.ShloMosaic Idealize.ShloMosaic.TcCoe Idealize.SL.Sem Cert.HgrnSpec

/-- The token counter of a head's tile. -/
abbrev Ctr : IVec S8x128 32 := iota Kind.tc S8x128 32 [0] iota_S8x128_d0_w32

/-- A tile's rows. -/
abbrev rows (q : Vec Ideal S8x128 .f32) (t : Fin 8) (x : Fin 128) : EReal := q (ix2 t x)

variable (q b k v : Vec Ideal S8x128 .f32) (st : Vec Ideal S1x1x128x128 .f32)

/-- Head 0's reads. -/
def o0 : FVec Ideal S8x128 .f32 :=
  k0_pay26 Ctr q b k v (k0_pay23 Ctr q b k v (k0_pay21 Ctr q b k v (k0_pay19 q b (k0_pay6 st)) (k0_pay20 b)) (k0_pay22 b) 3#32) (k0_pay24 Ctr q b k) (k0_pay25 v)
/-- Head 1's reads. -/
def o1 : FVec Ideal S8x128 .f32 :=
  k0_pay38 Ctr q b k v (k0_pay36 Ctr q b k v (k0_pay34 Ctr q b k v (k0_pay31 Ctr q b k v (k0_pay7 st)) (k0_pay32 b) k0_pay33) (k0_pay35 Ctr q b k v)) (k0_pay37 Ctr q b k)
/-- Head 2's reads. -/
def o2 : FVec Ideal S8x128 .f32 :=
  k0_pay47 q k v (k0_pay45 Ctr q b k v (k0_pay43 Ctr q b k v (k0_pay42 Ctr q b k v (k0_pay8 st))) (k0_pay44 Ctr q b k)) (k0_pay46 Ctr b)
/-- Head 3's reads. -/
def o3 : FVec Ideal S8x128 .f32 :=
  k0_pay57 Ctr q b k v (k0_pay55 Ctr q b k v (k0_pay53 Ctr q b k v (k0_pay51 q b (k0_pay9 st)) (k0_pay52 b)) (k0_pay54 Ctr q b k)) (k0_pay56 Ctr q b)

theorem o0_at (t : Fin 8) (e : Fin 128) :
    o0 q b k v st (ix2 t e) = HgrnSpec.read (rows q) (rows b) (rows k) (rows v) (fun x e => st (ix4 0 0 x e)) t e := by
  unfold HgrnSpec.read
  rw [Fin.sum_univ_eight]
  simp only [← add_assoc]
  pointwise [o0, k0_pay26, k0_pay23, k0_pay21, k0_pay19, k0_pay20, k0_pay22, k0_pay24, k0_pay25, k0_pay6, k0_pay17, k0_pay18, rows, decay]

theorem o1_at (t : Fin 8) (e : Fin 128) :
    o1 q b k v st (ix2 t e) = HgrnSpec.read (rows q) (rows b) (rows k) (rows v) (fun x e => st (ix4 0 0 x e)) t e := by
  unfold HgrnSpec.read
  rw [Fin.sum_univ_eight]
  simp only [← add_assoc]
  pointwise [o1, k0_pay38, k0_pay36, k0_pay34, k0_pay31, k0_pay32, k0_pay33, k0_pay35, k0_pay37, k0_pay7, k0_pay29, k0_pay30, rows, decay]

theorem o2_at (t : Fin 8) (e : Fin 128) :
    o2 q b k v st (ix2 t e) = HgrnSpec.read (rows q) (rows b) (rows k) (rows v) (fun x e => st (ix4 0 0 x e)) t e := by
  unfold HgrnSpec.read
  rw [Fin.sum_univ_eight]
  simp only [← add_assoc]
  pointwise [o2, k0_pay47, k0_pay45, k0_pay43, k0_pay42, k0_pay44, k0_pay46, k0_pay8, k0_pay40, k0_pay41, rows, decay]

theorem o3_at (t : Fin 8) (e : Fin 128) :
    o3 q b k v st (ix2 t e) = HgrnSpec.read (rows q) (rows b) (rows k) (rows v) (fun x e => st (ix4 0 0 x e)) t e := by
  unfold HgrnSpec.read
  rw [Fin.sum_univ_eight]
  simp only [← add_assoc]
  pointwise [o3, k0_pay57, k0_pay55, k0_pay53, k0_pay51, k0_pay52, k0_pay54, k0_pay56, k0_pay9, k0_pay49, k0_pay50, rows, decay]

/-- Head 0's state left. -/
def s0 : FVec Ideal S1x1x128x128 .f32 := k0_pay2 (k0_pay28 (k0_pay27 b k v (k0_pay17 (k0_pay6 st)) (k0_pay18 b)))
/-- Head 1's state left. -/
def s1 : FVec Ideal S1x1x128x128 .f32 := k0_pay3 (k0_pay39 b k v (k0_pay29 (k0_pay7 st)) (k0_pay30 b))
/-- Head 2's state left. -/
def s2 : FVec Ideal S1x1x128x128 .f32 := k0_pay4 (k0_pay48 b k v (k0_pay40 (k0_pay8 st)) (k0_pay41 b))
/-- Head 3's state left. -/
def s3 : FVec Ideal S1x1x128x128 .f32 := k0_pay5 (k0_pay60 v (k0_pay49 (k0_pay9 st)) (k0_pay58 b k (k0_pay50 b)) (k0_pay59 (k0_pay50 b)))

theorem s0_at (x e : Fin 128) : s0 b k v st (ix4 0 0 x e) = left (rows b) (rows k) (rows v) (fun x e => st (ix4 0 0 x e)) x e := by
  pointwise [s0, k0_pay2, k0_pay28, k0_pay27, k0_pay17, k0_pay18, k0_pay6, rows, left]
  rw [mul_comm (st _)]
  exact congrArg _ (Finset.sum_congr rfl fun _ _ => mul_comm _ _)
theorem s1_at (x e : Fin 128) : s1 b k v st (ix4 0 0 x e) = left (rows b) (rows k) (rows v) (fun x e => st (ix4 0 0 x e)) x e := by
  pointwise [s1, k0_pay3, k0_pay39, k0_pay29, k0_pay30, k0_pay7, rows, left]
  rw [mul_comm (st _)]
  exact congrArg _ (Finset.sum_congr rfl fun _ _ => mul_comm _ _)
theorem s2_at (x e : Fin 128) : s2 b k v st (ix4 0 0 x e) = left (rows b) (rows k) (rows v) (fun x e => st (ix4 0 0 x e)) x e := by
  pointwise [s2, k0_pay4, k0_pay48, k0_pay40, k0_pay41, k0_pay8, rows, left]
  rw [mul_comm (st _)]
  exact congrArg _ (Finset.sum_congr rfl fun _ _ => mul_comm _ _)
theorem s3_at (x e : Fin 128) : s3 b k v st (ix4 0 0 x e) = left (rows b) (rows k) (rows v) (fun x e => st (ix4 0 0 x e)) x e := by
  pointwise [s3, k0_pay5, k0_pay60, k0_pay49, k0_pay50, k0_pay58, k0_pay59, k0_pay9, rows, left]
  rw [mul_comm (st _)]
  exact congrArg _ (Finset.sum_congr rfl fun _ _ => mul_comm _ _)

/-- The queries. -/
theorem q_at (x : Vec Ideal S8x512 .f32) (t : Fin 8) (j : Fin 512) : k0_pay11 x (ix2 t j) = x (ix2 t j) * Ideal.logistic (x (ix2 t j)) := by
  pointwise [k0_pay11]

/-- The keys. -/
theorem k_at (lb : Vec Ideal S1x512 .f32) (x : Vec Ideal S8x512 .f32) (t : Fin 8) (j : Fin 512) :
    k0_pay12 lb x (ix2 t j) = 1 - gate (lb (ix2 0 j)) (x (ix2 t j)) := by
  pointwise [k0_pay12, k0_pay10, gate]

/-- The running sums. -/
theorem b_at (lb : Vec Ideal S1x512 .f32) (x : Vec Ideal S8x512 .f32) (t : Fin 8) (j : Fin 512) :
    k0_pay16 k0_pay13 (k0_pay14 lb x) k0_pay15 (ix2 t j) = cum (fun s => Ideal.log (gate (lb (ix2 0 j)) (x (ix2 s j)))) t := by
  pointwise [k0_pay16, k0_pay13, k0_pay14, k0_pay15, k0_pay10]
  unfold cum gate
  fin_cases t
  all_goals
    simp [Fin.sum_univ_eight]
    generalize Ideal.log (lb (ix2 0 j) + (1 - lb (ix2 0 j)) * Ideal.logistic (x (ix2 0 j))) = a0
    generalize Ideal.log (lb (ix2 0 j) + (1 - lb (ix2 0 j)) * Ideal.logistic (x (ix2 1 j))) = a1
    generalize Ideal.log (lb (ix2 0 j) + (1 - lb (ix2 0 j)) * Ideal.logistic (x (ix2 2 j))) = a2
    generalize Ideal.log (lb (ix2 0 j) + (1 - lb (ix2 0 j)) * Ideal.logistic (x (ix2 3 j))) = a3
    generalize Ideal.log (lb (ix2 0 j) + (1 - lb (ix2 0 j)) * Ideal.logistic (x (ix2 4 j))) = a4
    generalize Ideal.log (lb (ix2 0 j) + (1 - lb (ix2 0 j)) * Ideal.logistic (x (ix2 5 j))) = a5
    generalize Ideal.log (lb (ix2 0 j) + (1 - lb (ix2 0 j)) * Ideal.logistic (x (ix2 6 j))) = a6
    generalize Ideal.log (lb (ix2 0 j) + (1 - lb (ix2 0 j)) * Ideal.logistic (x (ix2 7 j))) = a7
    try simp [Scalar.select, IntOp.cmpi, IntOp.andi]
    try abel

variable (gain : Vec Ideal S1x128 .f32) (o g : Vec Ideal S8x128 .f32)

theorem f0_at (t : Fin 8) (e : Fin 128) : k0_pay62 gain o g (ix2 t e) = finish (fun e => o (ix2 t e)) (gain (ix2 0 e)) (g (ix2 t e)) e := by
  pointwise [k0_pay62, k0_pay61, finish]
theorem f1_at (t : Fin 8) (e : Fin 128) :
    k0_pay65 (k0_pay61 gain) (k0_pay63 o) (k0_pay64 o) g (ix2 t e) = finish (fun e => o (ix2 t e)) (gain (ix2 0 e)) (g (ix2 t e)) e := by
  pointwise [k0_pay65, k0_pay61, k0_pay63, k0_pay64, finish]
theorem f2_at (t : Fin 8) (e : Fin 128) :
    k0_pay66 (k0_pay61 gain) o g (ix2 t e) = finish (fun e => o (ix2 t e)) (gain (ix2 0 e)) (g (ix2 t e)) e := by
  pointwise [k0_pay66, k0_pay61, finish]
theorem f3_at (t : Fin 8) (e : Fin 128) :
    k0_pay1 (k0_pay61 gain) (k0_pay67 o) (k0_pay68 o) k0_pay69 g (ix2 t e) = finish (fun e => o (ix2 t e)) (gain (ix2 0 e)) (g (ix2 t e)) e := by
  pointwise [k0_pay1, k0_pay61, k0_pay67, k0_pay68, k0_pay69, finish]

end Cert.KernelIdeal.Hgrn

end
-- ==== Proof.HgrnFinal.lean ====
/-
  The kernel's two result arrays of the gated recurrence: what the grid of sequences leaves is the functions of Proof/HgrnSpec.lean, of the arrays.
-/
module

public import proofs.«01_k».proof.Proof.HgrnPay
public import Idealize.ShloMosaic.Lib.Pipeline.ReadBack

@[expose] public section

set_option maxRecDepth 16384

noncomputable section

namespace Cert.KernelIdeal.Hgrn

open Cert.KernelIdeal Cert.KernelIdeal.Gen Idealize.ShloMosaic Idealize.ShloMosaic.TcCoe Idealize.SL.Sem Cert.HgrnSpec
open Idealize.ShloMosaic.Pipeline (Dat)

variable (m : (ℓ : Loc nD τ sig) → Buf (Elt Ideal) ℓ)

/-- The token offset of the only chunk. -/
theorem off0 : BitVec.toNat (Scalar.indexCast (Scalar.muli 0#32 8#32) : BitVec 32) = 0 := rfl

/-- Which block each window reads or writes at a grid point. -/
theorem idx : ∀ t : Fin cfg0.N, win0_0.index t = ![2048 + t.val, 0] ∧ win0_1.index t = ![2048 + t.val, 1] ∧ win0_2.index t = ![2048 + t.val, 2]
    ∧ win0_3.index t = ![2048 + t.val, 3] ∧ win0_4.index t = ![0, 0] ∧ win0_5.index t = ![0, 0] ∧ win0_6.index t = ![t.val, 0, 0, 0]
    ∧ win0_7.index t = ![t.val, 0] ∧ win0_8.index t = ![t.val, 0, 0, 0] :=
  (by decide +kernel : ∀ t : Fin grid0.N, _)

/-- The lower bounds' row. -/
theorem lb_at (c : Dev nD) (t : Fin cfg0.N) (j : Fin 512) : iblk m c 4 t (ix2 0 j) = m ((c : Thread nD τ).loc main_arg1) (ix1 j) := by
  blk_simp [iblk]
  entry_read
  pointwise
  blk_ext [idx t]

/-- The gain's row. -/
theorem gain_at (c : Dev nD) (t : Fin cfg0.N) (e : Fin 128) : iblk m c 5 t (ix2 0 e) = m ((c : Thread nD τ).loc main_arg2) (ix1 e) := by
  blk_simp [iblk]
  entry_read
  pointwise
  blk_ext [idx t]

/-- The four column groups of the projections. -/
theorem z0_at (c : Dev nD) (t : Fin cfg0.N) (n : Fin 32) (hn : n.val = t.val) (h : Fin 4) (a : Fin 8) (k : Fin 128) (j : Fin 512) (hj : j.val = h.val * 128 + k.val) :
    iblk m c 0 t (ix2 a j) = at4 (m ((c : Thread nD τ).loc main_arg0)) 0 (by decide) n h a k := by
  unfold at4
  blk_point [iblk, V, idx t]
theorem z1_at (c : Dev nD) (t : Fin cfg0.N) (n : Fin 32) (hn : n.val = t.val) (h : Fin 4) (a : Fin 8) (k : Fin 128) (j : Fin 512) (hj : j.val = h.val * 128 + k.val) :
    iblk m c 1 t (ix2 a j) = at4 (m ((c : Thread nD τ).loc main_arg0)) 1 (by decide) n h a k := by
  unfold at4
  blk_point [iblk, V, idx t]
theorem z2_at (c : Dev nD) (t : Fin cfg0.N) (n : Fin 32) (hn : n.val = t.val) (h : Fin 4) (a : Fin 8) (k : Fin 128) (j : Fin 512) (hj : j.val = h.val * 128 + k.val) :
    iblk m c 2 t (ix2 a j) = at4 (m ((c : Thread nD τ).loc main_arg0)) 2 (by decide) n h a k := by
  unfold at4
  blk_point [iblk, V, idx t]
theorem z3_at (c : Dev nD) (t : Fin cfg0.N) (n : Fin 32) (hn : n.val = t.val) (h : Fin 4) (a : Fin 8) (k : Fin 128) (j : Fin 512) (hj : j.val = h.val * 128 + k.val) :
    iblk m c 3 t (ix2 a j) = at4 (m ((c : Thread nD τ).loc main_arg0)) 3 (by decide) n h a k := by
  unfold at4
  blk_point [iblk, V, idx t]

/-- The states left, as one array. -/
def stateArr (c : Dev nD) : FVec Ideal S32x4x128x128 .f32 := fun i =>
  leftOf (m ((c : Thread nD τ).loc main_arg0)) (m ((c : Thread nD τ).loc main_arg1)) (m ((c : Thread nD τ).loc main_arg3)) (i 0) (i 1) (i 2) (i 3)

/-- The output rows, as one array. -/
def rowArr (c : Dev nD) : FVec Ideal S256x512 .f32 := fun i =>
  rowOf (m ((c : Thread nD τ).loc main_arg0)) (m ((c : Thread nD τ).loc main_arg1)) (m ((c : Thread nD τ).loc main_arg2)) (m ((c : Thread nD τ).loc main_arg3))
    ⟨(i 0).val / 8, by have : (i 0).val < 256 := (i 0).isLt; omega⟩ ⟨(i 1).val / 128, by have : (i 1).val < 512 := (i 1).isLt; omega⟩
    ⟨(i 0).val % 8, by omega⟩ ⟨(i 1).val % 128, by omega⟩

/-- The starting states' block. -/
theorem st_at (c : Dev nD) (t : Fin cfg0.N) (n : Fin 32) (hn : n.val = t.val) (h : Fin 4) (x e : Fin 128) :
    iblk m c 6 t (ix4 0 h x e) = m ((c : Thread nD τ).loc main_arg3) (ix4 n h x e) := by
  blk_point [iblk, V, idx t]

/-- What one head's state left is, of tiles that are the head's lanes of the blocks. -/
theorem left_head (c : Dev nD) (t : Fin cfg0.N) (n : Fin 32) (hn : n.val = t.val) (h : Fin 4) (b k v : Vec Ideal S8x128 .f32) (st : Vec Ideal S1x1x128x128 .f32)
    (hb : ∀ (a : Fin 8) (x : Fin 128), b (ix2 a x) = k0_pay16 (F := Ideal) k0_pay13 (k0_pay14 (iblk m c 4 t) (iblk m c 1 t)) k0_pay15 (ix2 a (⟨h.val * 128 + x.val, by omega⟩ : Fin 512)))
    (hk : ∀ (a : Fin 8) (x : Fin 128), k (ix2 a x) = k0_pay12 (F := Ideal) (iblk m c 4 t) (iblk m c 1 t) (ix2 a (⟨h.val * 128 + x.val, by omega⟩ : Fin 512)))
    (hv : ∀ (a : Fin 8) (x : Fin 128), v (ix2 a x) = iblk m c 2 t (ix2 a (⟨h.val * 128 + x.val, by omega⟩ : Fin 512)))
    (hst : ∀ (x e : Fin 128), st (ix4 0 0 x e) = iblk m c 6 t (ix4 0 h x e)) (x e : Fin 128) :
    left (rows b) (rows k) (rows v) (fun x e => st (ix4 0 0 x e)) x e
      = leftOf (m ((c : Thread nD τ).loc main_arg0)) (m ((c : Thread nD τ).loc main_arg1)) (m ((c : Thread nD τ).loc main_arg3)) n h x e := by
  have eb : rows b = cumOf (m ((c : Thread nD τ).loc main_arg0)) (m ((c : Thread nD τ).loc main_arg1)) n h := by
    funext a x
    refine (hb a x).trans ((b_at _ _ a _).trans ?_)
    unfold cumOf gateOf
    rw [lb_at]
    exact congrArg (fun f => cum f a) (funext fun s => by rw [z1_at m c t n hn h s x _ rfl])
  have ek : rows k = fun a x => 1 - gateOf (m ((c : Thread nD τ).loc main_arg0)) (m ((c : Thread nD τ).loc main_arg1)) n h a x := by
    funext a x
    refine (hk a x).trans ((k_at _ _ a _).trans ?_)
    unfold gateOf
    rw [lb_at, z1_at m c t n hn h a x _ rfl]
  have ev : rows v = at4 (m ((c : Thread nD τ).loc main_arg0)) 2 (by decide) n h := by
    funext a x
    exact (hv a x).trans (z2_at m c t n hn h a x _ rfl)
  have es : (fun x e => st (ix4 0 0 x e)) = fun x e => m ((c : Thread nD τ).loc main_arg3) (ix4 n h x e) := by
    funext x e
    exact (hst x e).trans (st_at m c t n hn h x e)
  unfold leftOf
  rw [eb, ek, ev, es]

/-- What one head's tokens read, likewise. -/
theorem read_head (c : Dev nD) (t : Fin cfg0.N) (n : Fin 32) (hn : n.val = t.val) (h : Fin 4) (q b k v : Vec Ideal S8x128 .f32) (st : Vec Ideal S1x1x128x128 .f32)
    (hq : ∀ (a : Fin 8) (x : Fin 128), q (ix2 a x) = k0_pay11 (F := Ideal) (iblk m c 0 t) (ix2 a (⟨h.val * 128 + x.val, by omega⟩ : Fin 512)))
    (hb : ∀ (a : Fin 8) (x : Fin 128), b (ix2 a x) = k0_pay16 (F := Ideal) k0_pay13 (k0_pay14 (iblk m c 4 t) (iblk m c 1 t)) k0_pay15 (ix2 a (⟨h.val * 128 + x.val, by omega⟩ : Fin 512)))
    (hk : ∀ (a : Fin 8) (x : Fin 128), k (ix2 a x) = k0_pay12 (F := Ideal) (iblk m c 4 t) (iblk m c 1 t) (ix2 a (⟨h.val * 128 + x.val, by omega⟩ : Fin 512)))
    (hv : ∀ (a : Fin 8) (x : Fin 128), v (ix2 a x) = iblk m c 2 t (ix2 a (⟨h.val * 128 + x.val, by omega⟩ : Fin 512)))
    (hst : ∀ (x e : Fin 128), st (ix4 0 0 x e) = iblk m c 6 t (ix4 0 h x e)) (a : Fin 8) (e : Fin 128) :
    HgrnSpec.read (rows q) (rows b) (rows k) (rows v) (fun x e => st (ix4 0 0 x e)) a e
      = readOf (m ((c : Thread nD τ).loc main_arg0)) (m ((c : Thread nD τ).loc main_arg1)) (m ((c : Thread nD τ).loc main_arg3)) n h a e := by
  have eq : rows q = fun a x => at4 (m ((c : Thread nD τ).loc main_arg0)) 0 (by decide) n h a x * Ideal.logistic (at4 (m ((c : Thread nD τ).loc main_arg0)) 0 (by decide) n h a x) := by
    funext a x
    refine (hq a x).trans ((q_at _ a _).trans ?_)
    rw [z0_at m c t n hn h a x _ rfl]
  have eb : rows b = cumOf (m ((c : Thread nD τ).loc main_arg0)) (m ((c : Thread nD τ).loc main_arg1)) n h := by
    funext a x
    refine (hb a x).trans ((b_at _ _ a _).trans ?_)
    unfold cumOf gateOf
    rw [lb_at]
    exact congrArg (fun f => cum f a) (funext fun s => by rw [z1_at m c t n hn h s x _ rfl])
  have ek : rows k = fun a x => 1 - gateOf (m ((c : Thread nD τ).loc main_arg0)) (m ((c : Thread nD τ).loc main_arg1)) n h a x := by
    funext a x
    refine (hk a x).trans ((k_at _ _ a _).trans ?_)
    unfold gateOf
    rw [lb_at, z1_at m c t n hn h a x _ rfl]
  have ev : rows v = at4 (m ((c : Thread nD τ).loc main_arg0)) 2 (by decide) n h := by
    funext a x
    exact (hv a x).trans (z2_at m c t n hn h a x _ rfl)
  have es : (fun x e => st (ix4 0 0 x e)) = fun x e => m ((c : Thread nD τ).loc main_arg3) (ix4 n h x e) := by
    funext x e
    exact (hst x e).trans (st_at m c t n hn h x e)
  unfold readOf
  rw [eq, eb, ek, ev, es]

/-- An index of a head's state tile. -/
theorem tile4 (x : S1x1x128x128.Idx) : x = ix4 0 0 (x 2) (x 3) := by
  funext a; fin_cases a; all_goals first | rfl | (apply Fin.ext; simp)

/-- An index of a head's tile. -/
theorem tile2 (x : S8x128.Idx) : x = ix2 (x 0) (x 1) := by
  funext a; fin_cases a <;> rfl

/-- The states' array, at loose coordinates. -/
theorem stateArr_at (c : Dev nD) (i : S32x4x128x128.Idx) (n : Fin 32) (h : Fin 4) (x e : Fin 128) (h0 : (i 0).val = n.val) (h1 : (i 1).val = h.val)
    (h2 : (i 2).val = x.val) (h3 : (i 3).val = e.val) :
    stateArr m c i = leftOf (m ((c : Thread nD τ).loc main_arg0)) (m ((c : Thread nD τ).loc main_arg1)) (m ((c : Thread nD τ).loc main_arg3)) n h x e := by
  have e0 : i 0 = n := Fin.ext h0
  have e1 : i 1 = h := Fin.ext h1
  have e2 : i 2 = x := Fin.ext h2
  have e3 : i 3 = e := Fin.ext h3
  unfold stateArr
  rw [e0, e1, e2, e3]

/-- The rows' array, at loose coordinates. -/
theorem rowArr_at (c : Dev nD) (i : S256x512.Idx) (n : Fin 32) (h : Fin 4) (a : Fin 8) (e : Fin 128) (h0 : (i 0).val = n.val * 8 + a.val)
    (h1 : (i 1).val = h.val * 128 + e.val) :
    rowArr m c i = rowOf (m ((c : Thread nD τ).loc main_arg0)) (m ((c : Thread nD τ).loc main_arg1)) (m ((c : Thread nD τ).loc main_arg2))
      (m ((c : Thread nD τ).loc main_arg3)) n h a e := by
  unfold rowArr
  congr 1
  all_goals (apply Fin.ext; dsimp only; omega)

/-- The states the grid leaves. -/
theorem final8 (c : Dev nD) : (dats m 0 c).arrAt 8 (cfgs 0).N = stateArr m c := by
  refine (dats m 0 c).arrAt_eq_of_covers 8 _ (by decide +kernel) fun t hf y => ?_
  have ht : t.val < 32 := lt_of_lt_of_eq t.isLt N_0
  blk_simp
  rw [after0_8]
  unfold Gen.outsAt0
  frame_open
  dsimp only [k0_off1, k0_off2, k0_off3, k0_off4, off0]
  simp (disch := decide) only [↓ View.readCov_skip, ↓ View.readCov_cons_toLoadRect, ↓ View.readCov_fill]
  frame_out
  canon_tiles x h
  · rw [tile4 x]
    refine (s3_at _ _ _ _ (x 2) (x 3)).trans ?_
    refine (left_head m c t ⟨t.val, ht⟩ rfl 3 _ _ _ _ (fun a z => ?_) (fun a z => ?_) (fun a z => ?_) (fun z z' => ?_) _ _).trans (stateArr_at m c _ ⟨t.val, ht⟩ 3 (x 2) (x 3) ?_ ?_ ?_ ?_).symm
    · generalize k0_pay16 (F := Ideal) k0_pay13 (k0_pay14 (iblk m c 4 t) (iblk m c 1 t)) k0_pay15 = X
      refine congrArg X (funext fun d => Fin.ext ?_)
      fin_cases d
      all_goals simp [LoadRect.idx, Rect.unit]
    · generalize k0_pay12 (F := Ideal) (iblk m c 4 t) (iblk m c 1 t) = X
      refine congrArg X (funext fun d => Fin.ext ?_)
      fin_cases d
      all_goals simp [LoadRect.idx, Rect.unit]
    · generalize iblk m c 2 t = X
      refine congrArg X (funext fun d => Fin.ext ?_)
      fin_cases d
      all_goals simp [LoadRect.idx, Rect.unit]
    · generalize iblk m c 6 t = X
      refine congrArg X (funext fun d => Fin.ext ?_)
      fin_cases d
      all_goals simp [LoadRect.idx, Rect.unit]
    all_goals (blk_simp [idx t] <;> try omega)
  · rw [tile4 x]
    refine (s2_at _ _ _ _ (x 2) (x 3)).trans ?_
    refine (left_head m c t ⟨t.val, ht⟩ rfl 2 _ _ _ _ (fun a z => ?_) (fun a z => ?_) (fun a z => ?_) (fun z z' => ?_) _ _).trans (stateArr_at m c _ ⟨t.val, ht⟩ 2 (x 2) (x 3) ?_ ?_ ?_ ?_).symm
    · generalize k0_pay16 (F := Ideal) k0_pay13 (k0_pay14 (iblk m c 4 t) (iblk m c 1 t)) k0_pay15 = X
      refine congrArg X (funext fun d => Fin.ext ?_)
      fin_cases d
      all_goals simp [LoadRect.idx, Rect.unit]
    · generalize k0_pay12 (F := Ideal) (iblk m c 4 t) (iblk m c 1 t) = X
      refine congrArg X (funext fun d => Fin.ext ?_)
      fin_cases d
      all_goals simp [LoadRect.idx, Rect.unit]
    · generalize iblk m c 2 t = X
      refine congrArg X (funext fun d => Fin.ext ?_)
      fin_cases d
      all_goals simp [LoadRect.idx, Rect.unit]
    · generalize iblk m c 6 t = X
      refine congrArg X (funext fun d => Fin.ext ?_)
      fin_cases d
      all_goals simp [LoadRect.idx, Rect.unit]
    all_goals (blk_simp [idx t] <;> try omega)
  · rw [tile4 x]
    refine (s1_at _ _ _ _ (x 2) (x 3)).trans ?_
    refine (left_head m c t ⟨t.val, ht⟩ rfl 1 _ _ _ _ (fun a z => ?_) (fun a z => ?_) (fun a z => ?_) (fun z z' => ?_) _ _).trans (stateArr_at m c _ ⟨t.val, ht⟩ 1 (x 2) (x 3) ?_ ?_ ?_ ?_).symm
    · generalize k0_pay16 (F := Ideal) k0_pay13 (k0_pay14 (iblk m c 4 t) (iblk m c 1 t)) k0_pay15 = X
      refine congrArg X (funext fun d => Fin.ext ?_)
      fin_cases d
      all_goals simp [LoadRect.idx, Rect.unit]
    · generalize k0_pay12 (F := Ideal) (iblk m c 4 t) (iblk m c 1 t) = X
      refine congrArg X (funext fun d => Fin.ext ?_)
      fin_cases d
      all_goals simp [LoadRect.idx, Rect.unit]
    · generalize iblk m c 2 t = X
      refine congrArg X (funext fun d => Fin.ext ?_)
      fin_cases d
      all_goals simp [LoadRect.idx, Rect.unit]
    · generalize iblk m c 6 t = X
      refine congrArg X (funext fun d => Fin.ext ?_)
      fin_cases d
      all_goals simp [LoadRect.idx, Rect.unit]
    all_goals (blk_simp [idx t] <;> try omega)
  · rw [tile4 x]
    refine (s0_at _ _ _ _ (x 2) (x 3)).trans ?_
    refine (left_head m c t ⟨t.val, ht⟩ rfl 0 _ _ _ _ (fun a z => ?_) (fun a z => ?_) (fun a z => ?_) (fun z z' => ?_) _ _).trans (stateArr_at m c _ ⟨t.val, ht⟩ 0 (x 2) (x 3) ?_ ?_ ?_ ?_).symm
    · generalize k0_pay16 (F := Ideal) k0_pay13 (k0_pay14 (iblk m c 4 t) (iblk m c 1 t)) k0_pay15 = X
      refine congrArg X (funext fun d => Fin.ext ?_)
      fin_cases d
      all_goals simp [LoadRect.idx, Rect.unit]
    · generalize k0_pay12 (F := Ideal) (iblk m c 4 t) (iblk m c 1 t) = X
      refine congrArg X (funext fun d => Fin.ext ?_)
      fin_cases d
      all_goals simp [LoadRect.idx, Rect.unit]
    · generalize iblk m c 2 t = X
      refine congrArg X (funext fun d => Fin.ext ?_)
      fin_cases d
      all_goals simp [LoadRect.idx, Rect.unit]
    · generalize iblk m c 6 t = X
      refine congrArg X (funext fun d => Fin.ext ?_)
      fin_cases d
      all_goals simp [LoadRect.idx, Rect.unit]
    all_goals (blk_simp [idx t] <;> try omega)

set_option maxHeartbeats 4000000 in
/-- The output rows the grid leaves. -/
theorem final7 (c : Dev nD) : (dats m 0 c).arrAt 7 (cfgs 0).N = rowArr m c := by
  refine (dats m 0 c).arrAt_eq_of_covers 7 _ (by decide +kernel) fun t hf y => ?_
  have ht : t.val < 32 := lt_of_lt_of_eq t.isLt N_0
  blk_simp
  rw [after0_7]
  unfold Gen.outsAt0
  frame_open
  dsimp only [k0_off1, k0_off2, k0_off3, k0_off4, off0]
  simp (disch := decide) only [↓ View.readCov_skip, ↓ View.readCov_cons_toLoadRect, ↓ View.readCov_fill]
  frame_out
  refine View.canon_append_of_piecesOf (Val := Elt Ideal) (e := .f32) (fun y' => rowArr m c (((View.whole main_v2_0).slice (win0_7.rect t)).emb y')) [_, _, _, _] [_, _, _, _] ⟨?_, ?_, ?_, ?_, trivial⟩ y ?_
  · intro x
    rw [tile2 x]
    refine (f3_at _ _ _ (x 0) (x 1)).trans ?_
    refine Eq.trans ?_ (rowArr_at m c _ ⟨t.val, ht⟩ 3 (x 0) (x 1) ?_ ?_).symm
    · unfold rowOf
      refine congrArg₂ (fun (p : (Fin 128 → EReal) × EReal) g => finish p.1 p.2 g (x 1)) (congrArg₂ Prod.mk (funext fun e => ?_) (gain_at m c t (x 1))) ?_
      · refine (o3_at _ _ _ _ _ (x 0) e).trans (read_head m c t ⟨t.val, ht⟩ rfl 3 _ _ _ _ _ (fun a z => ?_) (fun a z => ?_) (fun a z => ?_) (fun a z => ?_) (fun z z' => ?_) _ _)
        · generalize k0_pay11 (F := Ideal) (iblk m c 0 t) = X
          refine congrArg X (funext fun d => Fin.ext ?_)
          fin_cases d
          all_goals simp [LoadRect.idx, Rect.unit]
        · generalize k0_pay16 (F := Ideal) k0_pay13 (k0_pay14 (iblk m c 4 t) (iblk m c 1 t)) k0_pay15 = X
          refine congrArg X (funext fun d => Fin.ext ?_)
          fin_cases d
          all_goals simp [LoadRect.idx, Rect.unit]
        · generalize k0_pay12 (F := Ideal) (iblk m c 4 t) (iblk m c 1 t) = X
          refine congrArg X (funext fun d => Fin.ext ?_)
          fin_cases d
          all_goals simp [LoadRect.idx, Rect.unit]
        · generalize iblk m c 2 t = X
          refine congrArg X (funext fun d => Fin.ext ?_)
          fin_cases d
          all_goals simp [LoadRect.idx, Rect.unit]
        · generalize iblk m c 6 t = X
          refine congrArg X (funext fun d => Fin.ext ?_)
          fin_cases d
          all_goals simp [LoadRect.idx, Rect.unit]
      · refine Eq.trans (b := iblk m c 3 t (ix2 (x 0) (⟨3 * 128 + (x 1).val, ?_⟩ : Fin 512))) ?_ (z3_at m c t ⟨t.val, ht⟩ rfl 3 (x 0) (x 1) _ rfl)
        · have : (x 1).val < 128 := (x 1).isLt
          omega
        · generalize iblk m c 3 t = X
          refine congrArg X (funext fun d => Fin.ext ?_)
          fin_cases d
          all_goals simp [LoadRect.idx, Rect.unit]
    all_goals (blk_simp [idx t] <;> try omega)
    · show t.val * 8 + (0 + 1 * (x 0).val) = t.val * 8 + (x 0).val
      omega
    · show 384 + 1 * (x 1).val = 384 + (x 1).val
      omega
  · intro x
    rw [tile2 x]
    refine (f2_at _ _ _ (x 0) (x 1)).trans ?_
    refine Eq.trans ?_ (rowArr_at m c _ ⟨t.val, ht⟩ 2 (x 0) (x 1) ?_ ?_).symm
    · unfold rowOf
      refine congrArg₂ (fun (p : (Fin 128 → EReal) × EReal) g => finish p.1 p.2 g (x 1)) (congrArg₂ Prod.mk (funext fun e => ?_) (gain_at m c t (x 1))) ?_
      · refine (o2_at _ _ _ _ _ (x 0) e).trans (read_head m c t ⟨t.val, ht⟩ rfl 2 _ _ _ _ _ (fun a z => ?_) (fun a z => ?_) (fun a z => ?_) (fun a z => ?_) (fun z z' => ?_) _ _)
        · generalize k0_pay11 (F := Ideal) (iblk m c 0 t) = X
          refine congrArg X (funext fun d => Fin.ext ?_)
          fin_cases d
          all_goals simp [LoadRect.idx, Rect.unit]
        · generalize k0_pay16 (F := Ideal) k0_pay13 (k0_pay14 (iblk m c 4 t) (iblk m c 1 t)) k0_pay15 = X
          refine congrArg X (funext fun d => Fin.ext ?_)
          fin_cases d
          all_goals simp [LoadRect.idx, Rect.unit]
        · generalize k0_pay12 (F := Ideal) (iblk m c 4 t) (iblk m c 1 t) = X
          refine congrArg X (funext fun d => Fin.ext ?_)
          fin_cases d
          all_goals simp [LoadRect.idx, Rect.unit]
        · generalize iblk m c 2 t = X
          refine congrArg X (funext fun d => Fin.ext ?_)
          fin_cases d
          all_goals simp [LoadRect.idx, Rect.unit]
        · generalize iblk m c 6 t = X
          refine congrArg X (funext fun d => Fin.ext ?_)
          fin_cases d
          all_goals simp [LoadRect.idx, Rect.unit]
      · refine Eq.trans (b := iblk m c 3 t (ix2 (x 0) (⟨2 * 128 + (x 1).val, ?_⟩ : Fin 512))) ?_ (z3_at m c t ⟨t.val, ht⟩ rfl 2 (x 0) (x 1) _ rfl)
        · have : (x 1).val < 128 := (x 1).isLt
          omega
        · generalize iblk m c 3 t = X
          refine congrArg X (funext fun d => Fin.ext ?_)
          fin_cases d
          all_goals simp [LoadRect.idx, Rect.unit]
    all_goals (blk_simp [idx t] <;> try omega)
    · show t.val * 8 + (0 + 1 * (x 0).val) = t.val * 8 + (x 0).val
      omega
    · show 256 + 1 * (x 1).val = 256 + (x 1).val
      omega
  · intro x
    rw [tile2 x]
    refine (f1_at _ _ _ (x 0) (x 1)).trans ?_
    refine Eq.trans ?_ (rowArr_at m c _ ⟨t.val, ht⟩ 1 (x 0) (x 1) ?_ ?_).symm
    · unfold rowOf
      refine congrArg₂ (fun (p : (Fin 128 → EReal) × EReal) g => finish p.1 p.2 g (x 1)) (congrArg₂ Prod.mk (funext fun e => ?_) (gain_at m c t (x 1))) ?_
      · refine (o1_at _ _ _ _ _ (x 0) e).trans (read_head m c t ⟨t.val, ht⟩ rfl 1 _ _ _ _ _ (fun a z => ?_) (fun a z => ?_) (fun a z => ?_) (fun a z => ?_) (fun z z' => ?_) _ _)
        · generalize k0_pay11 (F := Ideal) (iblk m c 0 t) = X
          refine congrArg X (funext fun d => Fin.ext ?_)
          fin_cases d
          all_goals simp [LoadRect.idx, Rect.unit]
        · generalize k0_pay16 (F := Ideal) k0_pay13 (k0_pay14 (iblk m c 4 t) (iblk m c 1 t)) k0_pay15 = X
          refine congrArg X (funext fun d => Fin.ext ?_)
          fin_cases d
          all_goals simp [LoadRect.idx, Rect.unit]
        · generalize k0_pay12 (F := Ideal) (iblk m c 4 t) (iblk m c 1 t) = X
          refine congrArg X (funext fun d => Fin.ext ?_)
          fin_cases d
          all_goals simp [LoadRect.idx, Rect.unit]
        · generalize iblk m c 2 t = X
          refine congrArg X (funext fun d => Fin.ext ?_)
          fin_cases d
          all_goals simp [LoadRect.idx, Rect.unit]
        · generalize iblk m c 6 t = X
          refine congrArg X (funext fun d => Fin.ext ?_)
          fin_cases d
          all_goals simp [LoadRect.idx, Rect.unit]
      · refine Eq.trans (b := iblk m c 3 t (ix2 (x 0) (⟨1 * 128 + (x 1).val, ?_⟩ : Fin 512))) ?_ (z3_at m c t ⟨t.val, ht⟩ rfl 1 (x 0) (x 1) _ rfl)
        · have : (x 1).val < 128 := (x 1).isLt
          omega
        · generalize iblk m c 3 t = X
          refine congrArg X (funext fun d => Fin.ext ?_)
          fin_cases d
          all_goals simp [LoadRect.idx, Rect.unit]
    all_goals (blk_simp [idx t] <;> try omega)
    · show t.val * 8 + (0 + 1 * (x 0).val) = t.val * 8 + (x 0).val
      omega
    · show 128 + 1 * (x 1).val = 128 + (x 1).val
      omega
  · intro x
    rw [tile2 x]
    refine (f0_at _ _ _ (x 0) (x 1)).trans ?_
    refine Eq.trans ?_ (rowArr_at m c _ ⟨t.val, ht⟩ 0 (x 0) (x 1) ?_ ?_).symm
    · unfold rowOf
      refine congrArg₂ (fun (p : (Fin 128 → EReal) × EReal) g => finish p.1 p.2 g (x 1)) (congrArg₂ Prod.mk (funext fun e => ?_) (gain_at m c t (x 1))) ?_
      · refine (o0_at _ _ _ _ _ (x 0) e).trans (read_head m c t ⟨t.val, ht⟩ rfl 0 _ _ _ _ _ (fun a z => ?_) (fun a z => ?_) (fun a z => ?_) (fun a z => ?_) (fun z z' => ?_) _ _)
        · generalize k0_pay11 (F := Ideal) (iblk m c 0 t) = X
          refine congrArg X (funext fun d => Fin.ext ?_)
          fin_cases d
          all_goals simp [LoadRect.idx, Rect.unit]
        · generalize k0_pay16 (F := Ideal) k0_pay13 (k0_pay14 (iblk m c 4 t) (iblk m c 1 t)) k0_pay15 = X
          refine congrArg X (funext fun d => Fin.ext ?_)
          fin_cases d
          all_goals simp [LoadRect.idx, Rect.unit]
        · generalize k0_pay12 (F := Ideal) (iblk m c 4 t) (iblk m c 1 t) = X
          refine congrArg X (funext fun d => Fin.ext ?_)
          fin_cases d
          all_goals simp [LoadRect.idx, Rect.unit]
        · generalize iblk m c 2 t = X
          refine congrArg X (funext fun d => Fin.ext ?_)
          fin_cases d
          all_goals simp [LoadRect.idx, Rect.unit]
        · generalize iblk m c 6 t = X
          refine congrArg X (funext fun d => Fin.ext ?_)
          fin_cases d
          all_goals simp [LoadRect.idx, Rect.unit]
      · refine Eq.trans (b := iblk m c 3 t (ix2 (x 0) (⟨0 * 128 + (x 1).val, ?_⟩ : Fin 512))) ?_ (z3_at m c t ⟨t.val, ht⟩ rfl 0 (x 0) (x 1) _ rfl)
        · have : (x 1).val < 128 := (x 1).isLt
          omega
        · generalize iblk m c 3 t = X
          refine congrArg X (funext fun d => Fin.ext ?_)
          fin_cases d
          all_goals simp [LoadRect.idx, Rect.unit]
    all_goals (blk_simp [idx t] <;> try omega)
    · show t.val * 8 + (0 + 1 * (x 0).val) = t.val * 8 + (x 0).val
      omega
    · show 0 + 1 * (x 1).val = 0 + (x 1).val
      omega
  · exact View.cover_of_tiledL _ ![8, 128] (by sl_kernel_rfl) y

end Cert.KernelIdeal.Hgrn

end
-- ==== Proof.HgrnCum.lean ====
/-
  The reference's running sum over the eight tokens, read at an index.
-/
module

public import proofs.«01_k».proof.Proof.Gen.ReferenceIdeal.Run
public import proofs.«01_k».proof.Proof.HgrnSpec
public import Idealize.ShloMosaic.Lib.Pointwise

@[expose] public section

set_option maxRecDepth 16384

noncomputable section

namespace Cert.ReferenceIdeal.Hgrn

open Cert.ReferenceIdeal Cert.ReferenceIdeal.Gen Idealize.ShloMosaic Idealize.ShloMosaic.TcCoe Idealize.SL.Sem Cert.HgrnSpec

/-- A fold of additions over a list is the start plus the list's sum. -/
theorem foldl_add {α : Type} (g : α → EReal) (l : List α) (z : EReal) : l.foldl (fun r n => r + g n) z = z + (l.map g).sum := by
  induction l generalizing z with
  | nil => simp
  | cons a l ih => rw [List.foldl_cons, ih, List.map_cons, List.sum_cons, add_assoc]

/-- The window of the running sum: eight positions along the third axis. -/
abbrev Win : Shape := ⟨4, ![1, 1, 8, 1]⟩

/-- It has eight positions. -/
theorem win_numel : Win.numel = 8 := by decide

/-- The coordinates of a position of that window. -/
theorem win_coord (n : Fin Win.numel) : (Win.rowMajor.symm n 0).val = 0 ∧ (Win.rowMajor.symm n 1).val = 0 ∧ (Win.rowMajor.symm n 2).val = n.val
    ∧ (Win.rowMajor.symm n 3).val = 0 := by
  have h := Shape.rowMajor_val_four (Win.rowMajor.symm n)
  rw [Equiv.apply_symm_apply] at h
  have h0 : (Win.rowMajor.symm n 0).val < 1 := (Win.rowMajor.symm n 0).isLt
  have h1 : (Win.rowMajor.symm n 1).val < 1 := (Win.rowMajor.symm n 1).isLt
  have h3 : (Win.rowMajor.symm n 3).val < 1 := (Win.rowMajor.symm n 3).isLt
  change n.val = (((Win.rowMajor.symm n 0).val * 1 + (Win.rowMajor.symm n 1).val) * 8 + (Win.rowMajor.symm n 2).val) * 1 + (Win.rowMajor.symm n 3).val at h
  omega

/-- The reference's running sum, read at an index. -/
theorem cum_at (x : FVec Ideal S32x4x8x128 .f32) (n : Fin 32) (h : Fin 4) (t : Fin 8) (k : Fin 128) :
    Host.reduceWindowAdd ![1, 1, 8, 1] ![1, 1, 1, 1] ![0, 0, 7, 0] ![0, 0, 0, 0] x (broadcastInDim S_ ![] bcast_S_S_ (constant S_ FTy.f32 0#32))
      reduceWindows_S32x4x8x128_S32x4x8x128_w1s1p0_0_w1s1p0_0_w8s1p7_0_w1s1p0_0 h_S_ (ix4 n h t k) = cum (fun s => x (ix4 n h s k)) t := by
  have hz : (broadcastInDim S_ ![] bcast_S_S_ (constant (F := Ideal) S_ FTy.f32 0#32)) (Shape.Idx.first h_S_) = (0 : EReal) := by pointwise
  unfold Host.reduceWindowAdd
  rw [hz]
  have ht := t.isLt
  rw [Ideal.hostReduceWindowAdd_def]
  unfold Ideal.hostReduceWindowAdd Host.reduceWindow
  dsimp only
  refine (foldl_add _ _ _).trans ?_
  rw [zero_add, ← Fin.sum_univ_def]
  refine Eq.trans (b := ∑ n' : Fin Win.numel, if hh : 7 ≤ t.val + n'.val ∧ t.val + n'.val - 7 < 8 then x (ix4 n h ⟨t.val + n'.val - 7, hh.2⟩ k) else (0 : EReal))
    (Finset.sum_congr rfl fun n' _ => ?_) ?_
  · obtain ⟨w0, w1, w2, w3⟩ := win_coord n'
    have hn : n'.val < 8 := lt_of_lt_of_eq n'.isLt win_numel
    split
    · next hin =>
      have h2 := hin 2
      change 7 ≤ t.val * 1 + (Win.rowMajor.symm n' 2).val ∧ t.val * 1 + (Win.rowMajor.symm n' 2).val - 7 < 8 at h2
      rw [w2] at h2
      rw [dif_pos (by omega)]
      refine congrArg x (funext fun a => Fin.ext ?_)
      match a with
      | ⟨0, _⟩ => show n.val * 1 + (Win.rowMajor.symm n' 0).val - 0 = n.val; omega
      | ⟨1, _⟩ => show h.val * 1 + (Win.rowMajor.symm n' 1).val - 0 = h.val; omega
      | ⟨2, _⟩ => show t.val * 1 + (Win.rowMajor.symm n' 2).val - 7 = t.val + n'.val - 7; omega
      | ⟨3, _⟩ => show k.val * 1 + (Win.rowMajor.symm n' 3).val - 0 = k.val; omega
    · next hin =>
      rw [dif_neg fun hh => hin fun a => ?_]
      have := n.isLt; have := h.isLt; have := k.isLt
      match a with
      | ⟨0, _⟩ => show 0 ≤ n.val * 1 + (Win.rowMajor.symm n' 0).val ∧ n.val * 1 + (Win.rowMajor.symm n' 0).val - 0 < 32; omega
      | ⟨1, _⟩ => show 0 ≤ h.val * 1 + (Win.rowMajor.symm n' 1).val ∧ h.val * 1 + (Win.rowMajor.symm n' 1).val - 0 < 4; omega
      | ⟨2, _⟩ => show 7 ≤ t.val * 1 + (Win.rowMajor.symm n' 2).val ∧ t.val * 1 + (Win.rowMajor.symm n' 2).val - 7 < 8; omega
      | ⟨3, _⟩ => show 0 ≤ k.val * 1 + (Win.rowMajor.symm n' 3).val ∧ k.val * 1 + (Win.rowMajor.symm n' 3).val - 0 < 128; omega
  refine (Fintype.sum_equiv (finCongr win_numel) _
      (fun n' : Fin 8 => if hh : 7 ≤ t.val + n'.val ∧ t.val + n'.val - 7 < 8 then x (ix4 n h ⟨t.val + n'.val - 7, hh.2⟩ k) else (0 : EReal)) fun _ => rfl).trans ?_
  unfold cum
  fin_cases t <;> simp [Fin.sum_univ_eight] <;> rfl

end Cert.ReferenceIdeal.Hgrn
-- ==== Proof.HgrnRef.lean ====
/-
  The reference's two results of the gated recurrence, read at an index: the functions of Proof/HgrnSpec.lean.
-/
module

public import proofs.«01_k».proof.Proof.HgrnCum

@[expose] public section

set_option maxRecDepth 16384

noncomputable section

namespace Cert.ReferenceIdeal.Hgrn

open Cert.ReferenceIdeal Cert.ReferenceIdeal.Gen Idealize.ShloMosaic Idealize.ShloMosaic.TcCoe Idealize.SL.Sem Cert.HgrnSpec

variable (m : (ℓ : Loc nD τ sig) → Buf (Elt Ideal) ℓ)

/-- The running sums of an array along its third axis. -/
def cumV (x : FVec Ideal S32x4x8x128 .f32) : FVec Ideal S32x4x8x128 .f32 := fun i => cum (fun s => x (ix4 (i 0) (i 1) s (i 3))) (i 2)

/-- They are the reference's. -/
theorem cumV_eq (x : FVec Ideal S32x4x8x128 .f32) :
    Host.reduceWindowAdd ![1, 1, 8, 1] ![1, 1, 1, 1] ![0, 0, 7, 0] ![0, 0, 0, 0] x (broadcastInDim S_ ![] bcast_S_S_ (constant S_ FTy.f32 0#32))
      reduceWindows_S32x4x8x128_S32x4x8x128_w1s1p0_0_w1s1p0_0_w8s1p7_0_w1s1p0_0 h_S_ = cumV x := by
  funext i
  have hi : i = ix4 (i 0) (i 1) (i 2) (i 3) := by funext a; fin_cases a <;> rfl
  rw [hi]
  exact cum_at x (i 0) (i 1) (i 2) (i 3)

/-- The state left. -/
theorem state_at (c : Dev nD) (n : Fin 32) (h : Fin 4) (k e : Fin 128) :
    Value.res_out1 m c (ix4 n h k e) = leftOf (m ((c : Thread nD τ).loc main_arg0)) (m ((c : Thread nD τ).loc main_arg1)) (m ((c : Thread nD τ).loc main_arg3)) n h k e := by
  unfold Value.res_out1 Value.res_main_v62
  rw [cumV_eq]
  pointwise [cumV, leftOf, left, cumOf, gateOf, gate, at4, Ideal.logistic]

/-- The causal mask: the reference's comparison of two counters, and its plain form. -/
theorem mask : ∀ t s : Fin 8, (Scalar.select (IntOp.cmpi CmpIPredicate.sge (IntOp.addi (BitVec.ofNat 32 t.val) 0#32) (BitVec.ofNat 32 s.val)) 1#1 0#1 : BitVec 1)
    = IntOp.cmpi CmpIPredicate.sge (BitVec.ofNat 32 t.val) (BitVec.ofNat 32 s.val) := by decide

set_option maxHeartbeats 1600000 in
/-- The output rows. -/
theorem row_at (c : Dev nD) (n : Fin 32) (h : Fin 4) (t : Fin 8) (e : Fin 128) :
    Value.res_out0 m c (ix2 (⟨n.val * 8 + t.val, by omega⟩ : Fin 256) (⟨h.val * 128 + e.val, by omega⟩ : Fin 512)) = rowOf (m ((c : Thread nD τ).loc main_arg0)) (m ((c : Thread nD τ).loc main_arg1)) (m ((c : Thread nD τ).loc main_arg2)) (m ((c : Thread nD τ).loc main_arg3)) n h t e := by
  unfold Value.res_out0 Value.res_main_v81
  rw [cumV_eq]
  unfold rowOf finish readOf HgrnSpec.read
  pointwise [cumV, id, decay, cumOf, gateOf, gate, at4, Ideal.logistic]
  simp only [mask]

end Cert.ReferenceIdeal.Hgrn
-- ==== Proof.HgrnClaim.lean ====
/-
  The gated recurrence's value claim: kernel and reference leave the same two arrays.
-/
module

public import proofs.«01_k».proof.Defs
public import proofs.«01_k».proof.Proof.HgrnFinal
public import proofs.«01_k».proof.Proof.HgrnRef
public import Idealize.ShloMosaic.Lib.Claim

@[expose] public section

set_option maxRecDepth 16384

noncomputable section

namespace Cert.HgrnClaim

open Idealize.ShloMosaic Idealize.SL.Sem Cert.HgrnSpec

/-- The states: the reference's array is the specification's. -/
theorem state_ref (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out1 m c = fun i => leftOf (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg3)) (i 0) (i 1) (i 2) (i 3) := by
  funext i
  have hi : i = ix4 (i 0) (i 1) (i 2) (i 3) := by funext a; fin_cases a <;> rfl
  exact (congrArg (Cert.ReferenceIdeal.Value.res_out1 m c) hi).trans (Cert.ReferenceIdeal.Hgrn.state_at m c (i 0) (i 1) (i 2) (i 3))

/-- The output rows likewise. -/
theorem row_ref (m : (ℓ : Loc Cert.ReferenceIdeal.nD Cert.ReferenceIdeal.τ Cert.ReferenceIdeal.sig) → Buf (Elt Ideal) ℓ) (c : Dev Cert.ReferenceIdeal.nD)
    (i : Cert.ReferenceIdeal.S256x512.Idx) :
    Cert.ReferenceIdeal.Value.res_out0 m c i = rowOf (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      ⟨(i 0).val / 8, by have : (i 0).val < 256 := (i 0).isLt; omega⟩ ⟨(i 1).val / 128, by have : (i 1).val < 512 := (i 1).isLt; omega⟩
      ⟨(i 0).val % 8, by omega⟩ ⟨(i 1).val % 128, by omega⟩ := by
  have h0 : (i 0).val < 256 := (i 0).isLt
  have h1 : (i 1).val < 512 := (i 1).isLt
  have hi : i = ix2 (⟨(i 0).val / 8 * 8 + (i 0).val % 8, by omega⟩ : Fin 256) (⟨(i 1).val / 128 * 128 + (i 1).val % 128, by omega⟩ : Fin 512) := by
    funext a
    fin_cases a
    · exact Fin.ext (by show (i 0).val = (i 0).val / 8 * 8 + (i 0).val % 8; omega)
    · exact Fin.ext (by show (i 1).val = (i 1).val / 128 * 128 + (i 1).val % 128; omega)
  exact (congrArg (Cert.ReferenceIdeal.Value.res_out0 m c) hi).trans
    (Cert.ReferenceIdeal.Hgrn.row_at m c ⟨(i 0).val / 8, by omega⟩ ⟨(i 1).val / 128, by omega⟩ ⟨(i 0).val % 8, by omega⟩ ⟨(i 1).val % 128, by omega⟩)

set_option backward.isDefEq.respectTransparency.types false in
/-- The value claim. -/
theorem algebraic : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    · obtain ⟨a0, a1, a2, a3⟩ := hagree c
      rw [Cert.KernelIdeal.Hgrn.final7 m c]
      funext i
      refine (row_ref m' c i).trans ?_
      rw [a0, a1, a2, a3]
      rfl
    · obtain ⟨a0, a1, a2, a3⟩ := hagree c
      rw [Cert.KernelIdeal.Hgrn.final8 m c]
      refine (state_ref m' c).trans ?_
      rw [a0, a1, a3]
      rfl

end Cert.HgrnClaim

end
-- ==== Proof.ProjSpec.lean ====
/-
  The input projection, in plain arithmetic over the extended reals: a row normalised to unit mean square, times the gain, scaled and
  shifted by its sequence's conditioning row, then one product with the weights. Both programs' results are shown to be these functions.
-/
module

public import Idealize.ShloMosaic.Lib.Pointwise

@[expose] public section

noncomputable section

namespace Cert.ProjSpec

open Idealize.ShloMosaic

/-- A row normalised to unit mean square, times the gain. -/
def rms (x g : Fin 1024 → EReal) (k : Fin 1024) : EReal :=
  x k * Ideal.rsqrt (Ideal.div (∑ j, x j * x j) (Ideal.ofBits FTy.f32 0x44800000#32) + Ideal.ofBits FTy.f32 0x358637BD#32) * g k

/-- The normalised row, scaled and shifted. -/
def normed (x g sc sh : Fin 1024 → EReal) (k : Fin 1024) : EReal :=
  rms x g k * (1 + sc k) + sh k

/-- A row of the conditioning: sequence `s`, its part `p` of six. -/
def cond (mod : FVec Ideal ⟨2, ![36, 6144]⟩ .f32) (s : Fin 36) (p : Fin 6) (k : Fin 1024) : EReal :=
  mod (ix2 s (⟨p.val * 1024 + k.val, by omega⟩ : Fin 6144))

/-- The prompt's row: sequence `b`, token `t`. -/
def promptRow (x : FVec Ideal ⟨3, ![4, 4096, 1024]⟩ .f32) (mod : FVec Ideal ⟨2, ![36, 6144]⟩ .f32) (g : FVec Ideal ⟨1, ![1024]⟩ .f32)
    (b : Fin 4) (t : Fin 4096) : Fin 1024 → EReal :=
  normed (fun k => x (ix3 b t k)) (fun k => g (ix1 k)) (cond mod ⟨b.val, by omega⟩ 1) (cond mod ⟨b.val, by omega⟩ 0)

/-- The sample's row: sequence `n`, token `t`. -/
def sampleRow (x : FVec Ideal ⟨3, ![32, 8, 1024]⟩ .f32) (mod : FVec Ideal ⟨2, ![36, 6144]⟩ .f32) (g : FVec Ideal ⟨1, ![1024]⟩ .f32)
    (n : Fin 32) (t : Fin 8) : Fin 1024 → EReal :=
  normed (fun k => x (ix3 n t k)) (fun k => g (ix1 k)) (cond mod ⟨4 + n.val, by omega⟩ 1) (cond mod ⟨4 + n.val, by omega⟩ 0)

/-- Row `r` of both groups together, the prompt's rows first. -/
def rowIn (xp : FVec Ideal ⟨3, ![4, 4096, 1024]⟩ .f32) (xs : FVec Ideal ⟨3, ![32, 8, 1024]⟩ .f32) (mod : FVec Ideal ⟨2, ![36, 6144]⟩ .f32)
    (g : FVec Ideal ⟨1, ![1024]⟩ .f32) (r : Fin 16640) : Fin 1024 → EReal :=
  if h : r.val < 16384 then promptRow xp mod g ⟨r.val / 4096, by omega⟩ ⟨r.val % 4096, by omega⟩
  else sampleRow xs mod g ⟨(r.val - 16384) / 8, by omega⟩ ⟨(r.val - 16384) % 8, by omega⟩

/-- Column `j` of a row's product with the weights. -/
def proj (h : Fin 1024 → EReal) (w : FVec Ideal ⟨2, ![1024, 5632]⟩ .f32) (j : Fin 5632) : EReal :=
  ∑ k, h k * w (ix2 k j)

end Cert.ProjSpec

end
-- ==== Proof.ProjPay.lean ====
/-
  The projection kernel's arithmetic at one grid point, at loose blocks: the rows it normalises, scales and shifts, and one tile of 512 columns of
  their product with the weights.
-/
module

public import proofs.«01_k».proof.Proof.ProjSpec
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Proj

open Cert.Kernel2Ideal Cert.Kernel2Ideal.Gen Idealize.ShloMosaic Idealize.ShloMosaic.TcCoe Idealize.SL.Sem Cert.ProjSpec

variable (i : grid0.Coords) (x0 x1 : Vec Ideal S256x1024 .f32) (g : Vec Ideal S1x1024 .f32) (sc0 sh0 : Vec Ideal S1x1x1x1024 .f32)
  (sc1 sh1 : Vec Ideal S1x256x1024 .f32)

/-- The rows that the products take. -/
abbrev hid : FVec Ideal S256x1024 .bf16 :=
  k0_pay3 (k0_pay1 i x0 x1 g sc0 sc1) (Scalar.cmpi .slt (BitVec.ofNat 32 (i 0).val) 64#32) (k0_pay2 sh0) sh1

/-- A selection by one. -/
theorem sel_one {α : Type} (a b : α) : Scalar.select 1#1 a b = a := rfl

/-- A selection by zero. -/
theorem sel_zero {α : Type} (a b : α) : Scalar.select 0#1 a b = b := rfl

/-- The comparison of the grid point, for a prompt block. -/
theorem sel_lt (h : (i 0).val < 64) : Scalar.cmpi .slt (BitVec.ofNat 32 (i 0).val) 64#32 = 1#1 := by
  have : ∀ j : Fin 65, j.val < 64 → Scalar.cmpi .slt (BitVec.ofNat 32 j.val) 64#32 = 1#1 := by decide +kernel
  exact this (i 0) h

/-- The comparison of the grid point, for the sample block. -/
theorem sel_ge (h : ¬ (i 0).val < 64) : Scalar.cmpi .slt (BitVec.ofNat 32 (i 0).val) 64#32 = 0#1 := by
  have : ∀ j : Fin 65, ¬ j.val < 64 → Scalar.cmpi .slt (BitVec.ofNat 32 j.val) 64#32 = 0#1 := by decide +kernel
  exact this (i 0) h

/-- A prompt block's rows. -/
theorem hid_lt (h : (i 0).val < 64) (a : Fin 256) (k : Fin 1024) :
    hid i x0 x1 g sc0 sh0 sc1 sh1 (ix2 a k)
      = normed (fun j => x0 (ix2 a j)) (fun j => g (ix2 0 j)) (fun j => sc0 (ix4 0 0 0 j)) (fun j => sh0 (ix4 0 0 0 j)) k := by
  unfold hid k0_pay1 k0_pay3
  simp only [sel_lt i h, sel_one]
  pointwise [k0_pay2, normed, rms]

/-- The sample block's rows. -/
theorem hid_ge (h : ¬ (i 0).val < 64) (a : Fin 256) (k : Fin 1024) :
    hid i x0 x1 g sc0 sh0 sc1 sh1 (ix2 a k)
      = normed (fun j => x1 (ix2 a j)) (fun j => g (ix2 0 j)) (fun j => sc1 (ix3 0 a j)) (fun j => sh1 (ix3 0 a j)) k := by
  unfold hid k0_pay1 k0_pay3
  simp only [sel_ge i h, sel_zero]
  pointwise [k0_pay2, normed, rms]

/-- One tile of 512 columns of the product of rows `H` with the weights. -/
theorem tile_at (H : FVec Ideal S256x1024 .bf16) (w : Vec Ideal S1024x512 .bf16) (a : Fin 256) (e : Fin 512) :
    k0_pay11 H w (ix2 a e) = ∑ k, H (ix2 a k) * w (ix2 k e) := by
  pointwise [k0_pay11]

end Cert.Kernel2Ideal.Proj

end
-- ==== Proof.ProjFinal.lean ====
/-
  The projection kernel's blocks: what each window holds at a grid point, of the argument arrays, and so the rows that the products take.
-/
module

public import proofs.«01_k».proof.Proof.ProjPay
public import Idealize.ShloMosaic.Lib.Pipeline.ReadBack

@[expose] public section

set_option maxRecDepth 16384

noncomputable section

namespace Cert.Kernel2Ideal.Proj

open Cert.Kernel2Ideal Cert.Kernel2Ideal.Gen Idealize.ShloMosaic Idealize.ShloMosaic.TcCoe Idealize.SL.Sem Cert.ProjSpec
open Idealize.ShloMosaic.Pipeline (Dat)

variable (m : (ℓ : Loc nD τ sig) → Buf (Elt Ideal) ℓ)

/-- The grid's one coordinate. -/
theorem coord : ∀ t : Fin cfg0.N, (grid0.coords t 0).val = t.val := (by decide +kernel : ∀ t : Fin grid0.N, _)

/-- Which block each window reads or writes at a grid point. -/
theorem idx : ∀ t : Fin cfg0.N, win0_1.index t = ![0, 0] ∧ win0_3.index t = ![0, 0, 0] ∧ win0_5.index t = ![1, 0, 0]
    ∧ win0_6.index t = ![0, 0] ∧ win0_7.index t = ![0, 0] ∧ win0_8.index t = ![t.val, 0] ∧ win0_9.index t = ![t.val, 0] ∧ win0_10.index t = ![t.val, 0] :=
  (by decide +kernel : ∀ t : Fin grid0.N, _)

/-- Which block the prompt's windows read at a prompt's grid point. -/
theorem idxP : ∀ t : Fin cfg0.N, t.val < 64 → win0_0.index t = ![t.val, 0] ∧ win0_2.index t = ![0, t.val / 16, 0, 0] ∧ win0_4.index t = ![1, t.val / 16, 0, 0] :=
  (by decide +kernel : ∀ t : Fin grid0.N, _)

/-- The gain's row. -/
theorem gain_at (c : Dev nD) (t : Fin cfg0.N) (k : Fin 1024) : iblk m c 6 t (ix2 0 k) = m ((c : Thread nD τ).loc main_arg3) (ix1 k) := by
  blk_simp [iblk]
  entry_read
  pointwise
  blk_ext [idx t]

/-- The weights. -/
theorem w_at (c : Dev nD) (t : Fin cfg0.N) (k : Fin 1024) (j : Fin 5632) : iblk m c 7 t (ix2 k j) = m ((c : Thread nD τ).loc main_arg4) (ix2 k j) := by
  blk_simp [iblk]
  entry_read
  pointwise
  blk_ext [idx t]

/-- The prompt's rows. -/
theorem xp_at (c : Dev nD) (t : Fin cfg0.N) (h : t.val < 64) (a : Fin 256) (k : Fin 1024) :
    iblk m c 0 t (ix2 a k) = m ((c : Thread nD τ).loc main_arg0) (ix3 ⟨(256 * t.val + a.val) / 4096, by omega⟩ ⟨(256 * t.val + a.val) % 4096, by omega⟩ k) := by
  blk_simp [iblk]
  entry_read
  pointwise
  blk_ext [idxP t h]

/-- The sample's rows. -/
theorem xs_at (c : Dev nD) (t : Fin cfg0.N) (a : Fin 256) (k : Fin 1024) :
    iblk m c 1 t (ix2 a k) = m ((c : Thread nD τ).loc main_arg1) (ix3 ⟨a.val / 8, by omega⟩ ⟨a.val % 8, by omega⟩ k) := by
  blk_simp [iblk]
  entry_read
  pointwise
  blk_ext [idx t]

/-- The prompt's shift. -/
theorem shp_at (c : Dev nD) (t : Fin cfg0.N) (h : t.val < 64) (k : Fin 1024) :
    iblk m c 2 t (ix4 0 0 0 k) = cond (m ((c : Thread nD τ).loc main_arg2)) ⟨t.val / 16, by omega⟩ 0 k := by
  unfold ProjSpec.cond
  blk_simp [iblk]
  entry_read
  pointwise
  blk_ext [idxP t h]

/-- The prompt's scale. -/
theorem scp_at (c : Dev nD) (t : Fin cfg0.N) (h : t.val < 64) (k : Fin 1024) :
    iblk m c 4 t (ix4 0 0 0 k) = cond (m ((c : Thread nD τ).loc main_arg2)) ⟨t.val / 16, by omega⟩ 1 k := by
  unfold ProjSpec.cond
  blk_simp [iblk]
  entry_read
  pointwise
  blk_ext [idxP t h]

/-- The sample's shift. -/
theorem shs_at (c : Dev nD) (t : Fin cfg0.N) (a : Fin 256) (k : Fin 1024) :
    iblk m c 3 t (ix3 0 a k) = cond (m ((c : Thread nD τ).loc main_arg2)) ⟨4 + a.val / 8, by omega⟩ 0 k := by
  unfold ProjSpec.cond
  blk_simp [iblk]
  entry_read
  pointwise
  blk_ext [idx t]

/-- The sample's scale. -/
theorem scs_at (c : Dev nD) (t : Fin cfg0.N) (a : Fin 256) (k : Fin 1024) :
    iblk m c 5 t (ix3 0 a k) = cond (m ((c : Thread nD τ).loc main_arg2)) ⟨4 + a.val / 8, by omega⟩ 1 k := by
  unfold ProjSpec.cond
  blk_simp [iblk]
  entry_read
  pointwise
  blk_ext [idx t]

/-- The rows that grid point `t` takes the products of. -/
abbrev hidB (c : Dev nD) (t : Fin cfg0.N) : FVec Ideal S256x1024 .bf16 :=
  hid (grid0.coords t) (iblk m c 0 t) (iblk m c 1 t) (iblk m c 6 t) (iblk m c 4 t) (iblk m c 2 t) (iblk m c 5 t) (iblk m c 3 t)

/-- They are the specification's. -/
theorem hid_at (c : Dev nD) (t : Fin cfg0.N) (r : Fin 16640) (a : Fin 256) (hr : r.val = t.val * 256 + a.val) (k : Fin 1024) :
    hidB m c t (ix2 a k) = rowIn (m ((c : Thread nD τ).loc main_arg0)) (m ((c : Thread nD τ).loc main_arg1)) (m ((c : Thread nD τ).loc main_arg2))
      (m ((c : Thread nD τ).loc main_arg3)) r k := by
  have ht : t.val < 65 := lt_of_lt_of_eq t.isLt N_0
  unfold rowIn
  by_cases h : t.val < 64
  · rw [dif_pos (by omega)]
    refine (hid_lt _ _ _ _ _ _ _ _ (by rw [coord t]; exact h) a k).trans ?_
    unfold promptRow
    congr 1
    · funext j
      refine (xp_at m c t h a j).trans ?_
      congr 2 <;> (apply Fin.ext; dsimp only; omega)
    · funext j; exact gain_at m c t j
    · funext j
      refine (scp_at m c t h j).trans ?_
      congr 1; apply Fin.ext; dsimp only; omega
    · funext j
      refine (shp_at m c t h j).trans ?_
      congr 1; apply Fin.ext; dsimp only; omega
  · rw [dif_neg (by omega)]
    refine (hid_ge _ _ _ _ _ _ _ _ (by rw [coord t]; exact h) a k).trans ?_
    unfold sampleRow
    congr 1
    · funext j
      refine (xs_at m c t a j).trans ?_
      exact congrArg₂ (fun p q => m ((c : Thread nD τ).loc main_arg1) (ix3 p q j)) (Fin.ext (by dsimp only; omega)) (Fin.ext (by dsimp only; omega))
    · funext j; exact gain_at m c t j
    · funext j
      refine (scs_at m c t a j).trans ?_
      exact congrArg (fun p => ProjSpec.cond _ p 1 j) (Fin.ext (by dsimp only; omega))
    · funext j
      refine (shs_at m c t a j).trans ?_
      exact congrArg (fun p => ProjSpec.cond _ p 0 j) (Fin.ext (by dsimp only; omega))

end Cert.Kernel2Ideal.Proj

end
-- ==== Proof.ProjOut.lean ====
/-
  The projection kernel's three result arrays: what the grid leaves is the rows' product with the weights, in its three column groups.
-/
module

public import proofs.«01_k».proof.Proof.ProjFinal

@[expose] public section

set_option maxRecDepth 16384

noncomputable section

namespace Cert.Kernel2Ideal.Proj

open Cert.Kernel2Ideal Cert.Kernel2Ideal.Gen Idealize.ShloMosaic Idealize.ShloMosaic.TcCoe Idealize.SL.Sem Cert.ProjSpec
open Idealize.ShloMosaic.Pipeline (Dat)

variable (m : (ℓ : Loc nD τ sig) → Buf (Elt Ideal) ℓ)

/-- The product at a row and a column. -/
def outAt (c : Dev nD) (r : Fin 16640) (j : Fin 5632) : EReal :=
  proj (rowIn (m ((c : Thread nD τ).loc main_arg0)) (m ((c : Thread nD τ).loc main_arg1)) (m ((c : Thread nD τ).loc main_arg2))
      (m ((c : Thread nD τ).loc main_arg3)) r) (m ((c : Thread nD τ).loc main_arg4)) j

/-- The first column group. -/
def arrA (c : Dev nD) : FVec Ideal S16640x2048 .f32 := fun i => outAt m c (i 0) ⟨(i 1).val, by have : (i 1).val < 2048 := (i 1).isLt; omega⟩

/-- The second column group. -/
def arrB (c : Dev nD) : FVec Ideal S16640x1536 .f32 := fun i => outAt m c (i 0) ⟨2048 + (i 1).val, by have : (i 1).val < 1536 := (i 1).isLt; omega⟩

/-- The third column group. -/
def arrG (c : Dev nD) : FVec Ideal S16640x2048 .f32 := fun i => outAt m c (i 0) ⟨3584 + (i 1).val, by have : (i 1).val < 2048 := (i 1).isLt; omega⟩

/-- A tile of the product, of the weights' columns from `o` on. -/
theorem tile_out (c : Dev nD) (t : Fin cfg0.N) (H : FVec Ideal S256x1024 .bf16) (hH : hidB m c t = H) (w : Vec Ideal S1024x512 .bf16) (x : S256x512.Idx)
    (r : Fin 16640) (j : Fin 5632) (hr : r.val = t.val * 256 + (x 0).val) (hw : ∀ k : Fin 1024, w (ix2 k (x 1)) = iblk m c 7 t (ix2 k j)) :
    k0_pay11 H w x = outAt m c r j := by
  have hx : x = ix2 (x 0) (x 1) := by funext a; fin_cases a <;> rfl
  refine (congrArg (k0_pay11 H w) hx).trans ((tile_at H w (x 0) (x 1)).trans ?_)
  unfold outAt proj
  refine Finset.sum_congr rfl fun k _ => ?_
  rw [← hH, hid_at m c t r (x 0) hr k, hw k, w_at m c t k j]

/-- The other tiles are the same function of the rows and their weights. -/
theorem pay4_eq (a : FVec Ideal S256x1024 .f32) (b : BitVec 1) (v : FVec Ideal S1x1024 .f32) (u : Vec Ideal S1x256x1024 .f32) (w : Vec Ideal S1024x512 .bf16) :
    k0_pay4 a b v u w = k0_pay11 (k0_pay3 a b v u) w := rfl
theorem pay5_eq (a : FVec Ideal S256x1024 .f32) (b : BitVec 1) (v : FVec Ideal S1x1024 .f32) (u : Vec Ideal S1x256x1024 .f32) (w : Vec Ideal S1024x512 .bf16) :
    k0_pay5 a b v u w = k0_pay11 (k0_pay3 a b v u) w := rfl
theorem pay6_eq (a : FVec Ideal S256x1024 .f32) (b : BitVec 1) (v : FVec Ideal S1x1024 .f32) (u : Vec Ideal S1x256x1024 .f32) (w : Vec Ideal S1024x512 .bf16) :
    k0_pay6 a b v u w = k0_pay11 (k0_pay3 a b v u) w := rfl
theorem pay7_eq (a : FVec Ideal S256x1024 .f32) (b : BitVec 1) (v : FVec Ideal S1x1024 .f32) (u : Vec Ideal S1x256x1024 .f32) (w : Vec Ideal S1024x512 .bf16) :
    k0_pay7 a b v u w = k0_pay11 (k0_pay3 a b v u) w := rfl
theorem pay8_eq (a : FVec Ideal S256x1024 .f32) (b : BitVec 1) (v : FVec Ideal S1x1024 .f32) (u : Vec Ideal S1x256x1024 .f32) (w : Vec Ideal S1024x512 .bf16) :
    k0_pay8 a b v u w = k0_pay11 (k0_pay3 a b v u) w := rfl
theorem pay9_eq (H : FVec Ideal S256x1024 .bf16) (w : Vec Ideal S1024x512 .bf16) : k0_pay9 H w = k0_pay11 H w := rfl
theorem pay10_eq (H : FVec Ideal S256x1024 .bf16) (w : Vec Ideal S1024x512 .bf16) : k0_pay10 H w = k0_pay11 H w := rfl
theorem pay12_eq (H : FVec Ideal S256x1024 .bf16) (w : Vec Ideal S1024x512 .bf16) : k0_pay12 H w = k0_pay11 H w := rfl
theorem pay13_eq (H : FVec Ideal S256x1024 .bf16) (w : Vec Ideal S1024x512 .bf16) : k0_pay13 H w = k0_pay11 H w := rfl
theorem pay14_eq (H : FVec Ideal S256x1024 .bf16) (w : Vec Ideal S1024x512 .bf16) : k0_pay14 H w = k0_pay11 H w := rfl

/-- The group at an index. -/
theorem arrA_at (c : Dev nD) (i : S16640x2048.Idx) (r : Fin 16640) (j : Fin 5632) (h0 : (i 0).val = r.val) (h1 : 0 + (i 1).val = j.val) :
    arrA m c i = outAt m c r j :=
  congrArg₂ (outAt m c) (Fin.ext h0) (Fin.ext (by dsimp only; omega))

/-- The group at an index. -/
theorem arrB_at (c : Dev nD) (i : S16640x1536.Idx) (r : Fin 16640) (j : Fin 5632) (h0 : (i 0).val = r.val) (h1 : 2048 + (i 1).val = j.val) :
    arrB m c i = outAt m c r j :=
  congrArg₂ (outAt m c) (Fin.ext h0) (Fin.ext (by dsimp only; omega))

/-- The group at an index. -/
theorem arrG_at (c : Dev nD) (i : S16640x2048.Idx) (r : Fin 16640) (j : Fin 5632) (h0 : (i 0).val = r.val) (h1 : 3584 + (i 1).val = j.val) :
    arrG m c i = outAt m c r j :=
  congrArg₂ (outAt m c) (Fin.ext h0) (Fin.ext (by dsimp only; omega))

set_option maxHeartbeats 2000000 in
/-- The first column group, as the grid leaves it. -/
theorem final8 (c : Dev nD) : (dats m 0 c).arrAt 8 (cfgs 0).N = arrA m c := by
  refine (dats m 0 c).arrAt_eq_of_covers 8 _ (by decide +kernel) fun t hf y => ?_
  have ht : t.val < 65 := lt_of_lt_of_eq t.isLt N_0
  blk_simp
  rw [after0_8]
  unfold_out out0_8
  simp only [pay4_eq, pay5_eq, pay6_eq, pay7_eq]
  frame_out
  generalize hH : k0_pay3 (k0_pay1 (grid0.coords t) (iblk m c 0 t) (iblk m c 1 t) (iblk m c 6 t) (iblk m c 4 t) (iblk m c 5 t))
    (Scalar.cmpi CmpIPredicate.slt (BitVec.ofNat 32 (grid0.coords t 0).val) 64#32) (k0_pay2 (iblk m c 2 t)) (iblk m c 3 t) = H
  canon_tiles x q
  · refine (tile_out m c t H hH _ x ⟨t.val * 256 + (x 0).val, by omega⟩ ⟨1536 + (x 1).val, by omega⟩ rfl fun k => ?_).trans (arrA_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨1024 + (x 1).val, by omega⟩ rfl fun k => ?_).trans (arrA_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨512 + (x 1).val, by omega⟩ rfl fun k => ?_).trans (arrA_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨0 + (x 1).val, by omega⟩ rfl fun k => ?_).trans (arrA_at m c _ _ _ ?_ ?_).symm
    · generalize iblk m c 7 t = X
      refine congrArg X (funext fun d => Fin.ext ?_)
      fin_cases d
      all_goals simp [LoadRect.idx, Rect.unit]
    all_goals (blk_simp [idx t]; dsimp only; omega)

set_option maxHeartbeats 2000000 in
/-- The second column group, as the grid leaves it. -/
theorem final9 (c : Dev nD) : (dats m 0 c).arrAt 9 (cfgs 0).N = arrB m c := by
  refine (dats m 0 c).arrAt_eq_of_covers 9 _ (by decide +kernel) fun t hf y => ?_
  have ht : t.val < 65 := lt_of_lt_of_eq t.isLt N_0
  blk_simp
  rw [after0_9]
  unfold_out out0_9
  simp only [pay8_eq, pay9_eq, pay10_eq]
  frame_out
  generalize hH : k0_pay3 (k0_pay1 (grid0.coords t) (iblk m c 0 t) (iblk m c 1 t) (iblk m c 6 t) (iblk m c 4 t) (iblk m c 5 t))
    (Scalar.cmpi CmpIPredicate.slt (BitVec.ofNat 32 (grid0.coords t 0).val) 64#32) (k0_pay2 (iblk m c 2 t)) (iblk m c 3 t) = H
  canon_tiles x q
  · refine (tile_out m c t H hH _ x ⟨t.val * 256 + (x 0).val, by omega⟩ ⟨3072 + (x 1).val, by omega⟩ rfl fun k => ?_).trans (arrB_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨2560 + (x 1).val, by omega⟩ rfl fun k => ?_).trans (arrB_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨2048 + (x 1).val, by omega⟩ rfl fun k => ?_).trans (arrB_at m c _ _ _ ?_ ?_).symm
    · generalize iblk m c 7 t = X
      refine congrArg X (funext fun d => Fin.ext ?_)
      fin_cases d
      all_goals simp [LoadRect.idx, Rect.unit]
    all_goals (blk_simp [idx t]; dsimp only; omega)

set_option maxHeartbeats 2000000 in
/-- The third column group, as the grid leaves it. -/
theorem final10 (c : Dev nD) : (dats m 0 c).arrAt 10 (cfgs 0).N = arrG m c := by
  refine (dats m 0 c).arrAt_eq_of_covers 10 _ (by decide +kernel) fun t hf y => ?_
  have ht : t.val < 65 := lt_of_lt_of_eq t.isLt N_0
  blk_simp
  rw [after0_10]
  unfold_out out0_10
  simp only [pay12_eq, pay13_eq, pay14_eq]
  frame_out
  generalize hH : k0_pay3 (k0_pay1 (grid0.coords t) (iblk m c 0 t) (iblk m c 1 t) (iblk m c 6 t) (iblk m c 4 t) (iblk m c 5 t))
    (Scalar.cmpi CmpIPredicate.slt (BitVec.ofNat 32 (grid0.coords t 0).val) 64#32) (k0_pay2 (iblk m c 2 t)) (iblk m c 3 t) = H
  canon_tiles x q
  · refine (tile_out m c t H hH _ x ⟨t.val * 256 + (x 0).val, by omega⟩ ⟨5120 + (x 1).val, by omega⟩ rfl fun k => ?_).trans (arrG_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨4608 + (x 1).val, by omega⟩ rfl fun k => ?_).trans (arrG_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨4096 + (x 1).val, by omega⟩ rfl fun k => ?_).trans (arrG_at m c _ _ _ ?_ ?_).symm
    · generalize iblk m c 7 t = X
      refine congrArg X (funext fun d => Fin.ext ?_)
      fin_cases d
      all_goals simp [LoadRect.idx, Rect.unit]
    all_goals (blk_simp [idx t]; dsimp only; omega)
  · refine (tile_out m c t H hH _ x ⟨t.val * 256 + (x 0).val, by omega⟩ ⟨3584 + (x 1).val, by omega⟩ rfl fun k => ?_).trans (arrG_at m c _ _ _ ?_ ?_).symm
    · generalize iblk m c 7 t = X
      refine congrArg X (funext fun d => Fin.ext ?_)
      fin_cases d
      all_goals simp [LoadRect.idx, Rect.unit]
    all_goals (blk_simp [idx t]; dsimp only; omega)

end Cert.Kernel2Ideal.Proj

end
-- ==== Proof.ProjRef.lean ====
/-
  The reference's projections, read at an index: the functions of Proof/ProjSpec.lean.
-/
module

public import proofs.«01_k».proof.Proof.ProjSpec
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Reference2Ideal.Proj

open Cert.Reference2Ideal Cert.Reference2Ideal.Gen Idealize.ShloMosaic Idealize.ShloMosaic.TcCoe Idealize.SL.Sem Cert.ProjSpec

/-- The prompt's rows, as the reference computes them. -/
def rowsP (x : FVec Ideal S4x4096x1024 .f32) (mod : FVec Ideal S36x6144 .f32) (g : FVec Ideal S1024 .f32) : FVec Ideal S4x4096x1024 .f32 :=
  addf (mulf (mulf (mulf x
      (broadcastInDim S4x4096x1024 ![0, 1, 2] bcast_S4x4096x1_S4x4096x1024_0_1_2
        (Host.rsqrt (addf (Host.divf (broadcastInDim S4x4096x1 ![0, 1] bcast_S4x4096_S4x4096x1_0_1
            (Host.reduceAdd (mulf x x) (constant S_ .f32 0x00000000#32) reducesTo_S4x4096x1024_S4x4096_d2 h_S_))
          (broadcastInDim S4x4096x1 ![] bcast_S_S4x4096x1 (constant S_ .f32 0x44800000#32)))
          (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 g)))
    (broadcastInDim S4x4096x1024 ![0, 1, 2] bcast_S4x1x1024_S4x4096x1024_0_1_2
      (addf (broadcastInDim S4x1x1024 ![] bcast_S_S4x1x1024 (constant S_ .f32 0x3F800000#32))
        (broadcastInDim S4x1x1024 ![0, 2] bcast_S4x1024_S4x1x1024_0_2
          (extractStridedSlice S4x1024 ![0, 1024] (extractStridedSlice S4x6144 ![0, 0] mod slices_S36x6144_S4x6144_0_0) slices_S4x6144_S4x1024_0_1024)))))
    (broadcastInDim S4x4096x1024 ![0, 1, 2] bcast_S4x1x1024_S4x4096x1024_0_1_2
      (broadcastInDim S4x1x1024 ![0, 2] bcast_S4x1024_S4x1x1024_0_2
        (extractStridedSlice S4x1024 ![0, 0] (extractStridedSlice S4x6144 ![0, 0] mod slices_S36x6144_S4x6144_0_0) slices_S4x6144_S4x1024_0_0)))

/-- The sample's rows likewise. -/
def rowsS (x : FVec Ideal S32x8x1024 .f32) (mod : FVec Ideal S36x6144 .f32) (g : FVec Ideal S1024 .f32) : FVec Ideal S32x8x1024 .f32 :=
  addf (mulf (mulf (mulf x
      (broadcastInDim S32x8x1024 ![0, 1, 2] bcast_S32x8x1_S32x8x1024_0_1_2
        (Host.rsqrt (addf (Host.divf (broadcastInDim S32x8x1 ![0, 1] bcast_S32x8_S32x8x1_0_1
            (Host.reduceAdd (mulf x x) (constant S_ .f32 0x00000000#32) reducesTo_S32x8x1024_S32x8_d2 h_S_))
          (broadcastInDim S32x8x1 ![] bcast_S_S32x8x1 (constant S_ .f32 0x44800000#32)))
          (broadcastInDim S32x8x1 ![] bcast_S_S32x8x1 (constant S_ .f32 0x358637BD#32))))))
      (broadcastInDim S32x8x1024 ![0, 1, 2] bcast_S1x1x1024_S32x8x1024_0_1_2 (broadcastInDim S1x1x1024 ![2] bcast_S1024_S1x1x1024_2 g)))
    (broadcastInDim S32x8x1024 ![0, 1, 2] bcast_S32x1x1024_S32x8x1024_0_1_2
      (addf (broadcastInDim S32x1x1024 ![] bcast_S_S32x1x1024 (constant S_ .f32 0x3F800000#32))
        (broadcastInDim S32x1x1024 ![0, 2] bcast_S32x1024_S32x1x1024_0_2
          (extractStridedSlice S32x1024 ![0, 1024] (extractStridedSlice S32x6144 ![4, 0] mod slices_S36x6144_S32x6144_4_0) slices_S32x6144_S32x1024_0_1024)))))
    (broadcastInDim S32x8x1024 ![0, 1, 2] bcast_S32x1x1024_S32x8x1024_0_1_2
      (broadcastInDim S32x1x1024 ![0, 2] bcast_S32x1024_S32x1x1024_0_2
        (extractStridedSlice S32x1024 ![0, 0] (extractStridedSlice S32x6144 ![4, 0] mod slices_S36x6144_S32x6144_4_0) slices_S32x6144_S32x1024_0_0)))

/-- The prompt's rows at an index. -/
theorem rowsP_at (x : FVec Ideal S4x4096x1024 .f32) (mod : FVec Ideal S36x6144 .f32) (g : FVec Ideal S1024 .f32) (b : Fin 4) (t : Fin 4096) (k : Fin 1024) :
    rowsP x mod g (ix3 b t k) = promptRow x mod g b t k := by
  pointwise [rowsP, promptRow, normed, rms, ProjSpec.cond]

/-- The sample's rows at an index. -/
theorem rowsS_at (x : FVec Ideal S32x8x1024 .f32) (mod : FVec Ideal S36x6144 .f32) (g : FVec Ideal S1024 .f32) (b : Fin 32) (t : Fin 8) (k : Fin 1024) :
    rowsS x mod g (ix3 b t k) = sampleRow x mod g b t k := by
  pointwise [rowsS, sampleRow, normed, rms, ProjSpec.cond]

/-- Both groups' products, one above the other. -/
def both (xp : FVec Ideal S4x4096x1024 .f32) (xs : FVec Ideal S32x8x1024 .f32) (w : FVec Ideal S1024x5632 .f32) : FVec Ideal S16640x5632 .f32 :=
  concatenate S16640x5632 0
    [⟨S16384x5632, (shapeCast _ (Host.dotGeneral dot_S4x4096x1024_S1024x5632_S4x4096x5632_2_0_01_1_n_n none xp w) shapeCasts_S4x4096x5632_S16384x5632)⟩,
     ⟨S256x5632, (shapeCast _ (Host.dotGeneral dot_S32x8x1024_S1024x5632_S32x8x5632_2_0_01_1_n_n none xs w) shapeCasts_S32x8x5632_S256x5632)⟩]
    concatenates_S16384x5632_S256x5632_S16640x5632_d0

theorem both_at (xp : FVec Ideal S4x4096x1024 .f32) (xs : FVec Ideal S32x8x1024 .f32) (w : FVec Ideal S1024x5632 .f32) (r : Fin 16640) (j : Fin 5632) :
    both xp xs w (ix2 r j) = if h : r.val < 16384 then ∑ k, xp (ix3 ⟨r.val / 4096, by omega⟩ ⟨r.val % 4096, by omega⟩ k) * w (ix2 k j)
      else ∑ k, xs (ix3 ⟨(r.val - 16384) / 8, by omega⟩ ⟨(r.val - 16384) % 8, by omega⟩ k) * w (ix2 k j) := by
  pointwise [both]

/-- Both groups' products are the specification's. -/
theorem both_spec (xp : FVec Ideal S4x4096x1024 .f32) (xs : FVec Ideal S32x8x1024 .f32) (mod : FVec Ideal S36x6144 .f32) (g : FVec Ideal S1024 .f32)
    (w : FVec Ideal S1024x5632 .f32) (r : Fin 16640) (j : Fin 5632) :
    both (rowsP xp mod g) (rowsS xs mod g) w (ix2 r j) = proj (rowIn xp xs mod g r) w j := by
  rw [both_at]
  unfold rowIn proj
  split
  · exact Finset.sum_congr rfl fun k _ => by rw [rowsP_at]
  · exact Finset.sum_congr rfl fun k _ => by rw [rowsS_at]

/-- The first column group. -/
theorem sliceA (B : FVec Ideal S16640x5632 .f32) (i : S16640x2048.Idx) :
    extractStridedSlice S16640x2048 ![0, 0] B slices_S16640x5632_S16640x2048_0_0 i
      = B (ix2 (i 0) ⟨(i 1).val, by have : (i 1).val < 2048 := (i 1).isLt; omega⟩) := by
  refine congrArg B (funext fun d => Fin.ext ?_)
  fin_cases d
  all_goals simp

/-- The second column group. -/
theorem sliceB (B : FVec Ideal S16640x5632 .f32) (i : S16640x1536.Idx) :
    extractStridedSlice S16640x1536 ![0, 2048] B slices_S16640x5632_S16640x1536_0_2048 i
      = B (ix2 (i 0) ⟨2048 + (i 1).val, by have : (i 1).val < 1536 := (i 1).isLt; omega⟩) := by
  refine congrArg B (funext fun d => Fin.ext ?_)
  fin_cases d
  all_goals simp

/-- The third column group. -/
theorem sliceG (B : FVec Ideal S16640x5632 .f32) (i : S16640x2048.Idx) :
    extractStridedSlice S16640x2048 ![0, 3584] B slices_S16640x5632_S16640x2048_0_3584 i
      = B (ix2 (i 0) ⟨3584 + (i 1).val, by have : (i 1).val < 2048 := (i 1).isLt; omega⟩) := by
  refine congrArg B (funext fun d => Fin.ext ?_)
  fin_cases d
  all_goals simp

end Cert.Reference2Ideal.Proj

end
-- ==== Proof.ProjClaim.lean ====
/-
  The value claim of the projections: the kernel's three arrays and the reference's are the same functions of the arguments.
-/
module

public import proofs.«01_k».proof.Defs
public import proofs.«01_k».proof.Proof.ProjOut
public import proofs.«01_k».proof.Proof.ProjRef

@[expose] public section

set_option maxRecDepth 16384

noncomputable section

namespace Cert.ProjClaim

open Idealize.ShloMosaic Idealize.SL.Sem Cert.ProjSpec

set_option maxHeartbeats 4000000 in
/-- The kernel and the reference agree. -/
theorem algebraic : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    · obtain ⟨a0, a1, a2, a3, a4⟩ := hagree c
      rw [Cert.Kernel2Ideal.Proj.final8 m c]
      unfold Cert.Kernel2Ideal.Proj.arrA Cert.Kernel2Ideal.Proj.outAt
      rw [← a0, ← a1, ← a2, ← a3, ← a4]
      funext i
      exact (Cert.Reference2Ideal.Proj.sliceA (Cert.Reference2Ideal.Proj.both (Cert.Reference2Ideal.Proj.rowsP _ _ _) (Cert.Reference2Ideal.Proj.rowsS _ _ _) _) i).trans
        (Cert.Reference2Ideal.Proj.both_spec _ _ _ _ _ _ _)
    · obtain ⟨a0, a1, a2, a3, a4⟩ := hagree c
      rw [Cert.Kernel2Ideal.Proj.final9 m c]
      unfold Cert.Kernel2Ideal.Proj.arrB Cert.Kernel2Ideal.Proj.outAt
      rw [← a0, ← a1, ← a2, ← a3, ← a4]
      funext i
      exact (Cert.Reference2Ideal.Proj.sliceB (Cert.Reference2Ideal.Proj.both (Cert.Reference2Ideal.Proj.rowsP _ _ _) (Cert.Reference2Ideal.Proj.rowsS _ _ _) _) i).trans
        (Cert.Reference2Ideal.Proj.both_spec _ _ _ _ _ _ _)
    · obtain ⟨a0, a1, a2, a3, a4⟩ := hagree c
      rw [Cert.Kernel2Ideal.Proj.final10 m c]
      unfold Cert.Kernel2Ideal.Proj.arrG Cert.Kernel2Ideal.Proj.outAt
      rw [← a0, ← a1, ← a2, ← a3, ← a4]
      funext i
      exact (Cert.Reference2Ideal.Proj.sliceG (Cert.Reference2Ideal.Proj.both (Cert.Reference2Ideal.Proj.rowsP _ _ _) (Cert.Reference2Ideal.Proj.rowsS _ _ _) _) i).trans
        (Cert.Reference2Ideal.Proj.both_spec _ _ _ _ _ _ _)

end Cert.ProjClaim

end
-- ==== Proof.RopeSpec.lean ====
/-
  The partial rotation of one head: of its 64 values the first 16 turn in eight pairs, the others stay; and the same rotation over the lanes of all heads, by tables.
-/
module

public import Idealize.ShloMosaic.Lib.Pipeline.ValueKit
public import Idealize.ShloMosaic.Lib.Pointwise

@[expose] public section

noncomputable section

namespace Cert.RopeSpec

/-- One head's values turned by its eight angles, whose cosines and sines are given. -/
def turn (x : Fin 64 → EReal) (cs sn : Fin 8 → EReal) (d : Fin 64) : EReal :=
  if h : d.val < 8 then x d * cs ⟨d.val, h⟩ - x ⟨d.val + 8, by omega⟩ * sn ⟨d.val, h⟩
  else if h2 : d.val < 16 then x ⟨d.val - 8, by omega⟩ * sn ⟨d.val - 8, by omega⟩ + x d * cs ⟨d.val - 8, by omega⟩
  else x d

/-- What a lane is multiplied by. -/
def factC (cs : Fin 8 → EReal) (d : Fin 64) : EReal :=
  if h : d.val < 8 then cs ⟨d.val, h⟩ else if h2 : d.val < 16 then cs ⟨d.val - 8, by omega⟩ else 1

/-- What the lane eight above is multiplied by. -/
def factU (sn : Fin 8 → EReal) (d : Fin 64) : EReal :=
  if h : d.val < 8 then - sn ⟨d.val, h⟩ else 0

/-- What the lane eight below is multiplied by. -/
def factD (sn : Fin 8 → EReal) (d : Fin 64) : EReal :=
  if _h : d.val < 8 then 0 else if h2 : d.val < 16 then sn ⟨d.val - 8, by omega⟩ else 0

/-- The rotation over the lanes of all heads is each head's own: a lane of a neighbouring head is only ever multiplied by zero. -/
theorem lanes (x : Fin 512 → EReal) (cs sn : Fin 8 → EReal) (h : Fin 8) (d : Fin 64) (l : Fin 512) (hl : l.val = 64 * h.val + d.val) :
    x l * factC cs d + x ⟨(l.val + 512 - 504) % 512, by omega⟩ * factU sn d + x ⟨(l.val + 512 - 8) % 512, by omega⟩ * factD sn d
      = turn (fun e => x ⟨64 * h.val + e.val, by omega⟩) cs sn d := by
  obtain ⟨l, hlt⟩ := l
  obtain rfl : l = 64 * h.val + d.val := hl
  unfold turn factC factU factD
  split
  · rename_i h1
    have hu : (⟨(64 * h.val + d.val + 512 - 504) % 512, by omega⟩ : Fin 512) = ⟨64 * h.val + (d.val + 8), by omega⟩ := Fin.ext (by dsimp only; omega)
    rw [hu, mul_zero, add_zero, mul_neg, ← sub_eq_add_neg]
  · split
    · rename_i h1 h2
      have hd : (⟨(64 * h.val + d.val + 512 - 8) % 512, by omega⟩ : Fin 512) = ⟨64 * h.val + (d.val - 8), by omega⟩ := Fin.ext (by dsimp only; omega)
      rw [hd, mul_zero, add_zero, add_comm]
    · rw [mul_zero, mul_zero, add_zero, add_zero, mul_one]

/-- One head of one of the three groups of the projections' rows. -/
def head (z : Fin 16640 → Fin 1536 → EReal) (g : Fin 3) (r : Fin 16640) (h : Fin 8) (e : Fin 64) : EReal := z r ⟨512 * g.val + 64 * h.val + e.val, by omega⟩

end Cert.RopeSpec

end
-- ==== Proof.Rope3Final.lean ====
/-
  The rotation kernel of the prompt: its tables, its blocks, and what the grid leaves in its three result arrays.
-/
module

public import proofs.«01_k».proof.Proof.RopeSpec
public import proofs.«01_k».proof.Proof.Gen.Kernel3Ideal.Value
public import Idealize.ShloMosaic.Lib.Pipeline.ReadBack
public import Idealize.ShloMosaic.Lib.StableHlo.RunRead

@[expose] public section

set_option maxRecDepth 16384

noncomputable section

namespace Cert.Kernel3Ideal.Rope

open Cert.Kernel3Ideal Cert.Kernel3Ideal.Gen Idealize.ShloMosaic Idealize.ShloMosaic.TcCoe Idealize.SL.Sem Cert.RopeSpec
open Idealize.ShloMosaic.Pipeline (Dat)

variable (m : (ℓ : Loc nD τ sig) → Buf (Elt Ideal) ℓ)

/-- The angles, by position and pair. -/
def ang : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

/-- Their cosines. -/
def cosT : FVec Ideal S4096x8 .f32 := Host.cos ang

/-- Their sines. -/
def sinT : FVec Ideal S4096x8 .f32 := Host.sin ang

/-- One head's table laid out for all heads. -/
def over (x : FVec Ideal S4096x64 .f32) : FVec Ideal S4096x512 .f32 :=
  shapeCast _ (broadcastInDim S1x4096x8x64 ![0, 1, 2, 3] bcast_S1x4096x1x64_S1x4096x8x64_0_1_2_3 (shapeCast _ x shapeCasts_S4096x64_S1x4096x1x64)) shapeCasts_S1x4096x8x64_S4096x512

/-- The table of the lanes' own factors. -/
def tabC (cs : FVec Ideal S4096x8 .f32) : FVec Ideal S4096x512 .f32 := over
  (concatenate S4096x64 1 [⟨S4096x8, cs⟩, ⟨S4096x8, cs⟩, ⟨S4096x48, broadcastInDim S4096x48 ![] bcast_S_S4096x48 (constant S_ .f32 0x3F800000#32)⟩]
    concatenates_S4096x8_S4096x8_S4096x48_S4096x64_d1)

/-- The table of the upper neighbours' factors. -/
def tabU (sn : FVec Ideal S4096x8 .f32) : FVec Ideal S4096x512 .f32 := over
  (concatenate S4096x64 1 [⟨S4096x8, Host.negf sn⟩, ⟨S4096x56, broadcastInDim S4096x56 ![] bcast_S_S4096x56 (constant S_ .f32 0x00000000#32)⟩]
    concatenates_S4096x8_S4096x56_S4096x64_d1)

/-- The table of the lower neighbours' factors. -/
def tabD (sn : FVec Ideal S4096x8 .f32) : FVec Ideal S4096x512 .f32 := over
  (concatenate S4096x64 1 [⟨S4096x8, broadcastInDim S4096x8 ![] bcast_S_S4096x8 (constant S_ .f32 0x00000000#32)⟩, ⟨S4096x8, sn⟩, ⟨S4096x48, broadcastInDim S4096x48 ![] bcast_S_S4096x48 (constant S_ .f32 0x00000000#32)⟩]
    concatenates_S4096x8_S4096x8_S4096x48_S4096x64_d1)

set_option maxHeartbeats 4000000 in
/-- The kernel finds the first table. -/
theorem V_C (c : Dev nD) : V m c main_v27 = tabC cosT := by
  unfold V hostOps0
  after_reads_simp
  rfl

set_option maxHeartbeats 4000000 in
/-- The kernel finds the second table. -/
theorem V_U (c : Dev nD) : V m c main_v30 = tabU sinT := by
  unfold V hostOps0
  after_reads_simp
  rfl

set_option maxHeartbeats 4000000 in
/-- The kernel finds the third table. -/
theorem V_D (c : Dev nD) : V m c main_v33 = tabD sinT := by
  unfold V hostOps0
  after_reads_simp
  rfl

/-- One head's table laid out for all heads, at a lane. -/
theorem over_at (x : FVec Ideal S4096x64 .f32) (p : Fin 4096) (l : Fin 512) : over x (ix2 p l) = x (ix2 p ⟨l.val % 64, by omega⟩) := by
  pointwise [over]
  blk_ext []

/-- The first table at a lane. -/
theorem tabC_at (cs : FVec Ideal S4096x8 .f32) (p : Fin 4096) (l : Fin 512) : tabC cs (ix2 p l) = factC (fun e => cs (ix2 p e)) ⟨l.val % 64, by omega⟩ := by
  unfold tabC
  refine (over_at _ p l).trans ?_
  generalize (⟨l.val % 64, by omega⟩ : Fin 64) = d
  pointwise [factC]
  split
  · rfl
  · by_cases h2 : d.val < 16
    · rw [dif_pos h2, dif_pos (by omega)]
    · rw [dif_neg h2, dif_neg (by omega)]

/-- The second table at a lane. -/
theorem tabU_at (sn : FVec Ideal S4096x8 .f32) (p : Fin 4096) (l : Fin 512) : tabU sn (ix2 p l) = factU (fun e => sn (ix2 p e)) ⟨l.val % 64, by omega⟩ := by
  unfold tabU
  refine (over_at _ p l).trans ?_
  generalize (⟨l.val % 64, by omega⟩ : Fin 64) = d
  pointwise [factU]

/-- The third table at a lane. -/
theorem tabD_at (sn : FVec Ideal S4096x8 .f32) (p : Fin 4096) (l : Fin 512) : tabD sn (ix2 p l) = factD (fun e => sn (ix2 p e)) ⟨l.val % 64, by omega⟩ := by
  unfold tabD
  refine (over_at _ p l).trans ?_
  generalize (⟨l.val % 64, by omega⟩ : Fin 64) = d
  pointwise [factD]
  split
  · rfl
  · by_cases h2 : d.val < 16
    · rw [dif_pos h2, dif_pos (by omega)]
    · rw [dif_neg h2, dif_neg (by omega)]

/-- Which block each window reads or writes at a grid point. -/
theorem idx : ∀ t : Fin cfg0.N, win0_0.index t = ![t.val, 0] ∧ win0_1.index t = ![t.val, 1] ∧ win0_2.index t = ![t.val, 2]
    ∧ win0_3.index t = ![t.val % 8, 0] ∧ win0_4.index t = ![t.val % 8, 0] ∧ win0_5.index t = ![t.val % 8, 0]
    ∧ win0_6.index t = ![t.val / 8, 0, t.val % 8, 0] ∧ win0_7.index t = ![t.val / 8, 0, t.val % 8, 0] ∧ win0_8.index t = ![t.val / 8, 0, t.val % 8, 0] :=
  (by decide +kernel : ∀ t : Fin grid0.N, _)

/-- The queries' rows. -/
theorem q_at (c : Dev nD) (t : Fin cfg0.N) (ht : t.val < 32) (a l : Fin 512) :
    X0_0 m c t (ix2 a l) = m ((c : Thread nD τ).loc main_arg0) (ix2 ⟨512 * t.val + a.val, by omega⟩ ⟨0 + l.val, by omega⟩) := by
  unfold X0_0 Pipeline.Window.fill
  rw [dif_pos (moved0_0 t _)]
  blk_simp [iblk]
  blk_ext [V, idx t]

/-- The keys' rows. -/
theorem k_at (c : Dev nD) (t : Fin cfg0.N) (ht : t.val < 32) (a l : Fin 512) :
    X0_1 m c t (ix2 a l) = m ((c : Thread nD τ).loc main_arg0) (ix2 ⟨512 * t.val + a.val, by omega⟩ ⟨512 + l.val, by omega⟩) := by
  unfold X0_1 Pipeline.Window.fill
  rw [dif_pos (moved0_1 t _)]
  blk_simp [iblk]
  blk_ext [V, idx t]

/-- The values' rows. -/
theorem v_at (c : Dev nD) (t : Fin cfg0.N) (ht : t.val < 32) (a l : Fin 512) :
    X0_2 m c t (ix2 a l) = m ((c : Thread nD τ).loc main_arg0) (ix2 ⟨512 * t.val + a.val, by omega⟩ ⟨1024 + l.val, by omega⟩) := by
  unfold X0_2 Pipeline.Window.fill
  rw [dif_pos (moved0_2 t _)]
  blk_simp [iblk]
  blk_ext [V, idx t]

/-- The first table's rows. -/
theorem c_at (c : Dev nD) (t : Fin cfg0.N) (a l : Fin 512) :
    iblk m c 3 t (ix2 a l) = tabC cosT (ix2 ⟨512 * (t.val % 8) + a.val, by omega⟩ l) := by
  rw [← V_C m c]
  blk_simp [iblk]
  blk_ext [idx t]

/-- The second table's rows. -/
theorem u_at (c : Dev nD) (t : Fin cfg0.N) (a l : Fin 512) :
    iblk m c 4 t (ix2 a l) = tabU sinT (ix2 ⟨512 * (t.val % 8) + a.val, by omega⟩ l) := by
  rw [← V_U m c]
  blk_simp [iblk]
  blk_ext [idx t]

/-- The third table's rows. -/
theorem d_at (c : Dev nD) (t : Fin cfg0.N) (a l : Fin 512) :
    iblk m c 5 t (ix2 a l) = tabD sinT (ix2 ⟨512 * (t.val % 8) + a.val, by omega⟩ l) := by
  rw [← V_D m c]
  blk_simp [iblk]
  blk_ext [idx t]

/-- The rotation of a block, before the heads are parted. -/
theorem pay7_at (v0 v2 v4 v6 : Vec Ideal S512x512 .f32) (a l : Fin 512) : k0_pay7 v0 v2 v4 v6 (ix2 a l) = k0_pay8 v0 v2 v4 v6 (ix2 a l) * Ideal.ofBits .f32 0x3E000000#32 := by
  pointwise [k0_pay7, k0_pay8]

/-- The rotation of a block of keys. -/
theorem pay8_at (v0 v2 v4 v6 : Vec Ideal S512x512 .f32) (a l : Fin 512) : k0_pay8 v0 v2 v4 v6 (ix2 a l) =
    v6 (ix2 a l) * v0 (ix2 a l) + v6 (ix2 a ⟨(l.val + 512 - 504) % 512, by omega⟩) * v2 (ix2 a l) + v6 (ix2 a ⟨(l.val + 512 - 8) % 512, by omega⟩) * v4 (ix2 a l) := by
  pointwise [k0_pay8, k0_pay4, k0_pay5, k0_pay6]

/-- The projections' rows. -/
abbrev zAt (c : Dev nD) (r : Fin 16640) (j : Fin 1536) : EReal := m ((c : Thread nD τ).loc main_arg0) (ix2 r j)

/-- A head turned. -/
def rotAt (c : Dev nD) (g : Fin 3) (b : Fin 4) (h : Fin 8) (p : Fin 4096) (d : Fin 64) : EReal :=
  turn (head (zAt m c) g ⟨4096 * b.val + p.val, by omega⟩ h) (fun e => cosT (ix2 p e)) (fun e => sinT (ix2 p e)) d

/-- A head turned, at an index given by its coordinates. -/
theorem rot_congr (c : Dev nD) (g : Fin 3) (i : S4x8x4096x64.Idx) {b : Fin 4} {h : Fin 8} {p : Fin 4096} {d : Fin 64}
    (e0 : b = i 0) (e1 : h = i 1) (e2 : p = i 2) (e3 : d = i 3) : rotAt m c g b h p d = rotAt m c g (i 0) (i 1) (i 2) (i 3) := by
  subst e0 e1 e2 e3
  rfl

/-- The queries. -/
def arrQ (c : Dev nD) : FVec Ideal S4x8x4096x64 .f32 := fun i => rotAt m c 0 (i 0) (i 1) (i 2) (i 3) * Ideal.ofBits .f32 0x3E000000#32

/-- The keys. -/
def arrK (c : Dev nD) : FVec Ideal S4x8x4096x64 .f32 := fun i => rotAt m c 1 (i 0) (i 1) (i 2) (i 3)

/-- The values. -/
def arrV (c : Dev nD) : FVec Ideal S4x8x4096x64 .f32 := fun i => head (zAt m c) 2 ⟨4096 * (i 0).val + (i 2).val, by have h0 : (i 0).val < 4 := (i 0).isLt; have h2 : (i 2).val < 4096 := (i 2).isLt; omega⟩ (i 1) (i 3)

/-- A block's rotation is its heads' own. -/
theorem rot_tile (c : Dev nD) (t : Fin cfg0.N) (ht : t.val < 32) (g : Fin 3) (X : Vec Ideal S512x512 .f32)
    (hX : ∀ a l : Fin 512, X (ix2 a l) = zAt m c ⟨512 * t.val + a.val, by omega⟩ ⟨512 * g.val + l.val, by omega⟩)
    (h : Fin 8) (a : Fin 512) (d : Fin 64) (l : Fin 512) (hl : l.val = 64 * h.val + d.val) :
    k0_pay8 (iblk m c 3 t) (iblk m c 4 t) (iblk m c 5 t) X (ix2 a l)
      = rotAt m c g ⟨t.val / 8, by omega⟩ h ⟨512 * (t.val % 8) + a.val, by omega⟩ d := by
  have hd : (⟨l.val % 64, by omega⟩ : Fin 64) = d := Fin.ext (by dsimp only; omega)
  rw [pay8_at, c_at, u_at, d_at, tabC_at, tabU_at, tabD_at, hd]
  refine (lanes (fun l => X (ix2 a l)) _ _ h d l hl).trans ?_
  unfold rotAt
  refine congrArg (fun f => turn f _ _ d) (funext fun e => ?_)
  refine (hX a _).trans ?_
  unfold head
  exact congrArg₂ (zAt m c) (Fin.ext (by dsimp only; omega)) (Fin.ext (by dsimp only; omega))

/-- A head of a block of queries. -/
theorem q_tile (c : Dev nD) (t : Fin cfg0.N) (ht : t.val < 32) (h : Fin 8) (P : FVec Ideal S1x1x512x64 .f32)
    (hP : ∀ (a : Fin 512) (d : Fin 64), P (ix4 0 0 a d) = k0_pay7 (iblk m c 3 t) (iblk m c 4 t) (iblk m c 5 t) (X0_0 m c t) (ix2 a ⟨64 * h.val + d.val, by omega⟩))
    (x : S1x1x512x64.Idx) (i : S4x8x4096x64.Idx) (h0 : (i 0).val = t.val / 8) (h1 : (i 1).val = h.val)
    (h2 : (i 2).val = 512 * (t.val % 8) + (x 2).val) (h3 : (i 3).val = (x 3).val) : P x = arrQ m c i := by
  have hx2 : (x 2).val < 512 := (x 2).isLt
  have hx : x = ix4 0 0 (x 2) (x 3) := by
    funext a; apply Fin.ext; fin_cases a
    · have : (x 0).val < 1 := (x 0).isLt
      show (x 0).val = 0; omega
    · have : (x 1).val < 1 := (x 1).isLt
      show (x 1).val = 0; omega
    · rfl
    · rfl
  refine (congrArg P hx).trans ((hP (x 2) (x 3)).trans ?_)
  refine (pay7_at _ _ _ _ _ _).trans ?_
  have e0 : (⟨t.val / 8, by omega⟩ : Fin 4) = i 0 := Fin.ext h0.symm
  have e1 : h = i 1 := Fin.ext h1.symm
  have e2 : (⟨512 * (t.val % 8) + (x 2).val, by omega⟩ : Fin 4096) = i 2 := Fin.ext h2.symm
  have e3 : x 3 = i 3 := Fin.ext h3.symm
  have e := rot_tile m c t ht 0 (X0_0 m c t) (fun a l => (q_at m c t ht a l).trans (congrArg (zAt m c _) (Fin.ext (by simp)))) h (x 2) (x 3) ⟨64 * h.val + (x 3).val, by have : (x 3).val < 64 := (x 3).isLt; omega⟩ rfl
  exact (congrArg (· * Ideal.ofBits .f32 0x3E000000#32) (e.trans (rot_congr m c 0 i e0 e1 e2 e3)))

/-- A head of a block of keys. -/
theorem k_tile (c : Dev nD) (t : Fin cfg0.N) (ht : t.val < 32) (h : Fin 8) (P : FVec Ideal S1x1x512x64 .f32)
    (hP : ∀ (a : Fin 512) (d : Fin 64), P (ix4 0 0 a d) = k0_pay8 (iblk m c 3 t) (iblk m c 4 t) (iblk m c 5 t) (X0_1 m c t) (ix2 a ⟨64 * h.val + d.val, by omega⟩))
    (x : S1x1x512x64.Idx) (i : S4x8x4096x64.Idx) (h0 : (i 0).val = t.val / 8) (h1 : (i 1).val = h.val)
    (h2 : (i 2).val = 512 * (t.val % 8) + (x 2).val) (h3 : (i 3).val = (x 3).val) : P x = arrK m c i := by
  have hx2 : (x 2).val < 512 := (x 2).isLt
  have hx : x = ix4 0 0 (x 2) (x 3) := by
    funext a; apply Fin.ext; fin_cases a
    · have : (x 0).val < 1 := (x 0).isLt
      show (x 0).val = 0; omega
    · have : (x 1).val < 1 := (x 1).isLt
      show (x 1).val = 0; omega
    · rfl
    · rfl
  refine (congrArg P hx).trans ((hP (x 2) (x 3)).trans ?_)
  have e0 : (⟨t.val / 8, by omega⟩ : Fin 4) = i 0 := Fin.ext h0.symm
  have e1 : h = i 1 := Fin.ext h1.symm
  have e2 : (⟨512 * (t.val % 8) + (x 2).val, by omega⟩ : Fin 4096) = i 2 := Fin.ext h2.symm
  have e3 : x 3 = i 3 := Fin.ext h3.symm
  have e := rot_tile m c t ht 1 (X0_1 m c t) (fun a l => (k_at m c t ht a l).trans (congrArg (zAt m c _) (Fin.ext (by simp)))) h (x 2) (x 3) ⟨64 * h.val + (x 3).val, by have : (x 3).val < 64 := (x 3).isLt; omega⟩ rfl
  exact e.trans (rot_congr m c 1 i e0 e1 e2 e3)

/-- A head of a block of values. -/
theorem v_tile (c : Dev nD) (t : Fin cfg0.N) (ht : t.val < 32) (h : Fin 8) (P : FVec Ideal S1x1x512x64 .f32)
    (hP : ∀ (a : Fin 512) (d : Fin 64), P (ix4 0 0 a d) = X0_2 m c t (ix2 a ⟨64 * h.val + d.val, by omega⟩))
    (x : S1x1x512x64.Idx) (i : S4x8x4096x64.Idx) (h0 : (i 0).val = t.val / 8) (h1 : (i 1).val = h.val)
    (h2 : (i 2).val = 512 * (t.val % 8) + (x 2).val) (h3 : (i 3).val = (x 3).val) : P x = arrV m c i := by
  have hx2 : (x 2).val < 512 := (x 2).isLt
  have hx : x = ix4 0 0 (x 2) (x 3) := by
    funext a; apply Fin.ext; fin_cases a
    · have : (x 0).val < 1 := (x 0).isLt
      show (x 0).val = 0; omega
    · have : (x 1).val < 1 := (x 1).isLt
      show (x 1).val = 0; omega
    · rfl
    · rfl
  refine (congrArg P hx).trans ((hP (x 2) (x 3)).trans ?_)
  refine (v_at m c t ht _ _).trans ?_
  unfold arrV head
  exact congrArg₂ (zAt m c) (Fin.ext (by dsimp only; omega)) (Fin.ext (by dsimp only [show ((2 : Fin 3).val) = 2 from rfl]; omega))

set_option maxHeartbeats 2000000 in
/-- The queries, as the grid leaves them. -/
theorem final6 (c : Dev nD) : (dats m 0 c).arrAt 6 (cfgs 0).N = arrQ m c := by
  refine (dats m 0 c).arrAt_eq_of_covers 6 _ (by decide +kernel) fun t hf y => ?_
  have ht : t.val < 32 := lt_of_lt_of_eq t.isLt N_0
  blk_simp
  rw [after0_6]
  unfold outsAt0
  frame_out
  canon_tiles x q
  · refine q_tile m c t ht 7 _ (fun a d => ?_) x _ ?_ ?_ ?_ ?_
    · pointwise [k0_pay1, k0_pay33]
    all_goals (blk_simp [idx t] <;> (try dsimp only) <;> omega)
  · refine q_tile m c t ht 6 _ (fun a d => ?_) x _ ?_ ?_ ?_ ?_
    · pointwise [k0_pay30]
    all_goals (blk_simp [idx t] <;> (try dsimp only) <;> omega)
  · refine q_tile m c t ht 5 _ (fun a d => ?_) x _ ?_ ?_ ?_ ?_
    · pointwise [k0_pay27, k0_pay26]
    all_goals (blk_simp [idx t] <;> (try dsimp only) <;> omega)
  · refine q_tile m c t ht 4 _ (fun a d => ?_) x _ ?_ ?_ ?_ ?_
    · pointwise [k0_pay23]
    all_goals (blk_simp [idx t] <;> (try dsimp only) <;> omega)
  · refine q_tile m c t ht 3 _ (fun a d => ?_) x _ ?_ ?_ ?_ ?_
    · pointwise [k0_pay20]
    all_goals (blk_simp [idx t] <;> (try dsimp only) <;> omega)
  · refine q_tile m c t ht 2 _ (fun a d => ?_) x _ ?_ ?_ ?_ ?_
    · pointwise [k0_pay16]
    all_goals (blk_simp [idx t] <;> (try dsimp only) <;> omega)
  · refine q_tile m c t ht 1 _ (fun a d => ?_) x _ ?_ ?_ ?_ ?_
    · pointwise [k0_pay13]
    all_goals (blk_simp [idx t] <;> (try dsimp only) <;> omega)
  · refine q_tile m c t ht 0 _ (fun a d => ?_) x _ ?_ ?_ ?_ ?_
    · pointwise [k0_pay9]
    all_goals (blk_simp [idx t] <;> (try dsimp only) <;> omega)

set_option maxHeartbeats 2000000 in
/-- The keys, as the grid leaves them. -/
theorem final7 (c : Dev nD) : (dats m 0 c).arrAt 7 (cfgs 0).N = arrK m c := by
  refine (dats m 0 c).arrAt_eq_of_covers 7 _ (by decide +kernel) fun t hf y => ?_
  have ht : t.val < 32 := lt_of_lt_of_eq t.isLt N_0
  blk_simp
  rw [after0_7]
  unfold outsAt0
  frame_out
  canon_tiles x q
  · refine k_tile m c t ht 7 _ (fun a d => ?_) x _ ?_ ?_ ?_ ?_
    · pointwise [k0_pay2]
    all_goals (blk_simp [idx t] <;> (try dsimp only) <;> omega)
  · refine k_tile m c t ht 6 _ (fun a d => ?_) x _ ?_ ?_ ?_ ?_
    · pointwise [k0_pay31]
    all_goals (blk_simp [idx t] <;> (try dsimp only) <;> omega)
  · refine k_tile m c t ht 5 _ (fun a d => ?_) x _ ?_ ?_ ?_ ?_
    · pointwise [k0_pay28]
    all_goals (blk_simp [idx t] <;> (try dsimp only) <;> omega)
  · refine k_tile m c t ht 4 _ (fun a d => ?_) x _ ?_ ?_ ?_ ?_
    · pointwise [k0_pay24]
    all_goals (blk_simp [idx t] <;> (try dsimp only) <;> omega)
  · refine k_tile m c t ht 3 _ (fun a d => ?_) x _ ?_ ?_ ?_ ?_
    · pointwise [k0_pay21]
    all_goals (blk_simp [idx t] <;> (try dsimp only) <;> omega)
  · refine k_tile m c t ht 2 _ (fun a d => ?_) x _ ?_ ?_ ?_ ?_
    · pointwise [k0_pay17]
    all_goals (blk_simp [idx t] <;> (try dsimp only) <;> omega)
  · refine k_tile m c t ht 1 _ (fun a d => ?_) x _ ?_ ?_ ?_ ?_
    · pointwise [k0_pay14]
    all_goals (blk_simp [idx t] <;> (try dsimp only) <;> omega)
  · refine k_tile m c t ht 0 _ (fun a d => ?_) x _ ?_ ?_ ?_ ?_
    · pointwise [k0_pay11, k0_pay10]
    all_goals (blk_simp [idx t] <;> (try dsimp only) <;> omega)

set_option maxHeartbeats 2000000 in
/-- The values, as the grid leaves them. -/
theorem final8 (c : Dev nD) : (dats m 0 c).arrAt 8 (cfgs 0).N = arrV m c := by
  refine (dats m 0 c).arrAt_eq_of_covers 8 _ (by decide +kernel) fun t hf y => ?_
  have ht : t.val < 32 := lt_of_lt_of_eq t.isLt N_0
  blk_simp
  rw [after0_8]
  unfold outsAt0
  frame_out
  canon_tiles x q
  · refine v_tile m c t ht 7 _ (fun a d => ?_) x _ ?_ ?_ ?_ ?_
    · pointwise [k0_pay3]
    all_goals (blk_simp [idx t] <;> (try dsimp only) <;> omega)
  · refine v_tile m c t ht 6 _ (fun a d => ?_) x _ ?_ ?_ ?_ ?_
    · pointwise [k0_pay32]
    all_goals (blk_simp [idx t] <;> (try dsimp only) <;> omega)
  · refine v_tile m c t ht 5 _ (fun a d => ?_) x _ ?_ ?_ ?_ ?_
    · pointwise [k0_pay29]
    all_goals (blk_simp [idx t] <;> (try dsimp only) <;> omega)
  · refine v_tile m c t ht 4 _ (fun a d => ?_) x _ ?_ ?_ ?_ ?_
    · pointwise [k0_pay25]
    all_goals (blk_simp [idx t] <;> (try dsimp only) <;> omega)
  · refine v_tile m c t ht 3 _ (fun a d => ?_) x _ ?_ ?_ ?_ ?_
    · pointwise [k0_pay22]
    all_goals (blk_simp [idx t] <;> (try dsimp only) <;> omega)
  · refine v_tile m c t ht 2 _ (fun a d => ?_) x _ ?_ ?_ ?_ ?_
    · pointwise [k0_pay19, k0_pay18]
    all_goals (blk_simp [idx t] <;> (try dsimp only) <;> omega)
  · refine v_tile m c t ht 1 _ (fun a d => ?_) x _ ?_ ?_ ?_ ?_
    · pointwise [k0_pay15]
    all_goals (blk_simp [idx t] <;> (try dsimp only) <;> omega)
  · refine v_tile m c t ht 0 _ (fun a d => ?_) x _ ?_ ?_ ?_ ?_
    · pointwise [k0_pay12]
    all_goals (blk_simp [idx t] <;> (try dsimp only) <;> omega)

end Cert.Kernel3Ideal.Rope

end
-- ==== Proof.Rope3Ref.lean ====
/-
  The reference's rotation for the prompt, read at an index: the functions of Proof/RopeSpec.lean.
-/
module

public import proofs.«01_k».proof.Proof.RopeSpec
public import proofs.«01_k».proof.Proof.Gen.Reference3Ideal.Run

@[expose] public section

set_option maxRecDepth 16384

noncomputable section

namespace Cert.Reference3Ideal.Rope

open Cert.Reference3Ideal Cert.Reference3Ideal.Gen Idealize.ShloMosaic Idealize.ShloMosaic.TcCoe Idealize.SL.Sem Cert.RopeSpec

/-- The angles, by position and pair. -/
def ang : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

/-- Their cosines. -/
def cosT : FVec Ideal S4096x8 .f32 := Host.cos ang

/-- Their sines. -/
def sinT : FVec Ideal S4096x8 .f32 := Host.sin ang

/-- The rows of the group, by sequence and position. -/
def rows (z : FVec Ideal S16640x1536 .f32) : FVec Ideal S4x4096x1536 .f32 :=
  shapeCast _ (extractStridedSlice S16384x1536 ![0, 0] z slices_S16640x1536_S16384x1536_0_0) shapeCasts_S16384x1536_S4x4096x1536

/-- The queries by head. -/
def hq (y : FVec Ideal S4x4096x1536 .f32) : FVec Ideal S4x4096x8x64 .f32 :=
  shapeCast _ (extractStridedSlice S4x4096x512 ![0, 0, 0] y slices_S4x4096x1536_S4x4096x512_0_0_0) shapeCasts_S4x4096x512_S4x4096x8x64

/-- The keys by head. -/
def hk (y : FVec Ideal S4x4096x1536 .f32) : FVec Ideal S4x4096x8x64 .f32 :=
  shapeCast _ (extractStridedSlice S4x4096x512 ![0, 0, 512] y slices_S4x4096x1536_S4x4096x512_0_0_512) shapeCasts_S4x4096x512_S4x4096x8x64

/-- The values by head. -/
def hv (y : FVec Ideal S4x4096x1536 .f32) : FVec Ideal S4x4096x8x64 .f32 :=
  shapeCast _ (extractStridedSlice S4x4096x512 ![0, 0, 1024] y slices_S4x4096x1536_S4x4096x512_0_0_1024) shapeCasts_S4x4096x512_S4x4096x8x64

/-- An angle table laid out for all sequences and heads. -/
def wide (x : FVec Ideal S4096x8 .f32) : FVec Ideal S4x4096x8x8 .f32 :=
  broadcastInDim S4x4096x8x8 ![0, 1, 2, 3] bcast_S1x4096x1x8_S4x4096x8x8_0_1_2_3 (broadcastInDim S1x4096x1x8 ![1, 2, 3] bcast_S4096x1x8_S1x4096x1x8_1_2_3
    (broadcastInDim S4096x1x8 ![0, 2] bcast_S4096x8_S4096x1x8_0_2 x))

/-- The rotation. -/
def rot (x : FVec Ideal S4x4096x8x64 .f32) (cs sn : FVec Ideal S4096x8 .f32) : FVec Ideal S4x4096x8x64 .f32 :=
  concatenate S4x4096x8x64 3
    [⟨S4x4096x8x8, subf (mulf (extractStridedSlice S4x4096x8x8 ![0, 0, 0, 0] x slices_S4x4096x8x64_S4x4096x8x8_0_0_0_0) (wide cs))
       (mulf (extractStridedSlice S4x4096x8x8 ![0, 0, 0, 8] x slices_S4x4096x8x64_S4x4096x8x8_0_0_0_8) (wide sn))⟩,
     ⟨S4x4096x8x8, addf (mulf (extractStridedSlice S4x4096x8x8 ![0, 0, 0, 0] x slices_S4x4096x8x64_S4x4096x8x8_0_0_0_0) (wide sn))
       (mulf (extractStridedSlice S4x4096x8x8 ![0, 0, 0, 8] x slices_S4x4096x8x64_S4x4096x8x8_0_0_0_8) (wide cs))⟩,
     ⟨S4x4096x8x48, extractStridedSlice S4x4096x8x48 ![0, 0, 0, 16] x slices_S4x4096x8x64_S4x4096x8x48_0_0_0_16⟩]
    concatenates_S4x4096x8x8_S4x4096x8x8_S4x4096x8x48_S4x4096x8x64_d3

/-- The rows at an index. -/
theorem rows_at (z : FVec Ideal S16640x1536 .f32) (b : Fin 4) (p : Fin 4096) (j : Fin 1536) :
    rows z (ix3 b p j) = z (ix2 ⟨4096 * b.val + p.val, by omega⟩ j) := by
  pointwise [rows]
  blk_ext []

/-- The queries at an index. -/
theorem hq_at (y : FVec Ideal S4x4096x1536 .f32) (b : Fin 4) (p : Fin 4096) (h : Fin 8) (e : Fin 64) :
    hq y (ix4 b p h e) = y (ix3 b p ⟨64 * h.val + e.val, by omega⟩) := by
  pointwise [hq]
  blk_ext []

/-- The keys at an index. -/
theorem hk_at (y : FVec Ideal S4x4096x1536 .f32) (b : Fin 4) (p : Fin 4096) (h : Fin 8) (e : Fin 64) :
    hk y (ix4 b p h e) = y (ix3 b p ⟨512 + (64 * h.val + e.val), by omega⟩) := by
  pointwise [hk]
  blk_ext []

/-- The values at an index. -/
theorem hv_at (y : FVec Ideal S4x4096x1536 .f32) (b : Fin 4) (p : Fin 4096) (h : Fin 8) (e : Fin 64) :
    hv y (ix4 b p h e) = y (ix3 b p ⟨1024 + (64 * h.val + e.val), by omega⟩) := by
  pointwise [hv]
  blk_ext []

/-- The rotation at an index. -/
theorem rot_at (x : FVec Ideal S4x4096x8x64 .f32) (cs sn : FVec Ideal S4096x8 .f32) (b : Fin 4) (p : Fin 4096) (h : Fin 8) (d : Fin 64) :
    rot x cs sn (ix4 b p h d) = turn (fun e => x (ix4 b p h e)) (fun e => cs (ix2 p e)) (fun e => sn (ix2 p e)) d := by
  pointwise [rot, wide, turn]
  split
  · rw [show (⟨8 + d.val, by omega⟩ : Fin 64) = ⟨d.val + 8, by omega⟩ from Fin.ext (Nat.add_comm _ _)]
  · by_cases h2 : d.val < 16
    · rw [dif_pos h2, dif_pos (by omega), show (⟨8 + (d.val - 8), by omega⟩ : Fin 64) = d from Fin.ext (by dsimp only; omega)]
    · rw [dif_neg h2, dif_neg (by omega), show (⟨16 + (d.val - 8 - 8), by omega⟩ : Fin 64) = d from Fin.ext (by dsimp only; omega)]

/-- The queries, as the reference computes them. -/
def resQ (z : FVec Ideal S16640x1536 .f32) : FVec Ideal S4x8x4096x64 .f32 :=
  mulf (transpose S4x8x4096x64 [0, 2, 1, 3] (rot (hq (rows z)) cosT sinT) transposes_S4x4096x8x64_S4x8x4096x64_0_2_1_3)
    (broadcastInDim S4x8x4096x64 ![] bcast_S_S4x8x4096x64 (constant S_ .f32 0x3E000000#32))

/-- The keys, as the reference computes them. -/
def resK (z : FVec Ideal S16640x1536 .f32) : FVec Ideal S4x8x4096x64 .f32 :=
  transpose S4x8x4096x64 [0, 2, 1, 3] (rot (hk (rows z)) cosT sinT) transposes_S4x4096x8x64_S4x8x4096x64_0_2_1_3

/-- The values, as the reference computes them. -/
def resV (z : FVec Ideal S16640x1536 .f32) : FVec Ideal S4x8x4096x64 .f32 :=
  transpose S4x8x4096x64 [0, 2, 1, 3] (hv (rows z)) transposes_S4x4096x8x64_S4x8x4096x64_0_2_1_3

/-- A head turned. -/
def rotAt (z : FVec Ideal S16640x1536 .f32) (g : Fin 3) (b : Fin 4) (h : Fin 8) (p : Fin 4096) (d : Fin 64) : EReal :=
  turn (head (fun r j => z (ix2 r j)) g ⟨4096 * b.val + p.val, by omega⟩ h) (fun e => cosT (ix2 p e)) (fun e => sinT (ix2 p e)) d

/-- The queries at an index. -/
theorem resQ_at (z : FVec Ideal S16640x1536 .f32) (b : Fin 4) (h : Fin 8) (p : Fin 4096) (d : Fin 64) :
    resQ z (ix4 b h p d) = rotAt z 0 b h p d * Ideal.ofBits .f32 0x3E000000#32 := by
  pointwise [resQ]
  refine congrArg (· * Ideal.ofBits .f32 0x3E000000#32) ((rot_at _ _ _ b p h d).trans ?_)
  unfold rotAt
  refine congrArg (fun f => turn f _ _ d) (funext fun e => ?_)
  rw [hq_at, rows_at]
  exact congrArg (fun j => z (ix2 _ j)) (Fin.ext (by simp))

/-- The keys at an index. -/
theorem resK_at (z : FVec Ideal S16640x1536 .f32) (b : Fin 4) (h : Fin 8) (p : Fin 4096) (d : Fin 64) :
    resK z (ix4 b h p d) = rotAt z 1 b h p d := by
  pointwise [resK]
  refine (rot_at _ _ _ b p h d).trans ?_
  unfold rotAt
  refine congrArg (fun f => turn f _ _ d) (funext fun e => ?_)
  rw [hk_at, rows_at]
  exact congrArg (fun j => z (ix2 _ j)) (Fin.ext (by simp [add_assoc]))

/-- The values at an index. -/
theorem resV_at (z : FVec Ideal S16640x1536 .f32) (b : Fin 4) (h : Fin 8) (p : Fin 4096) (d : Fin 64) :
    resV z (ix4 b h p d) = head (fun r j => z (ix2 r j)) 2 ⟨4096 * b.val + p.val, by omega⟩ h d := by
  pointwise [resV]
  rw [hv_at, rows_at]
  exact congrArg (fun j => z (ix2 _ j)) (Fin.ext (by simp [add_assoc]))

end Cert.Reference3Ideal.Rope

end
-- ==== Proof.Rope3Claim.lean ====
/-
  The value claim of the rotation for the prompt: the kernel's three arrays and the reference's are the same functions
  of the projections.
-/
module

public import proofs.«01_k».proof.Defs
public import proofs.«01_k».proof.Proof.Rope3Final
public import proofs.«01_k».proof.Proof.Rope3Ref

@[expose] public section

set_option maxRecDepth 16384

noncomputable section

namespace Cert.Rope3Claim

open Idealize.ShloMosaic Idealize.SL.Sem Cert.RopeSpec

/-- An index is its four coordinates. -/
theorem ix_eta (i : Cert.Kernel3Ideal.S4x8x4096x64.Idx) : i = ix4 (i 0) (i 1) (i 2) (i 3) := by
  funext a; fin_cases a <;> rfl

set_option maxHeartbeats 4000000 in
/-- The kernel and the reference agree. -/
theorem algebraic : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · run_from Cert.Reference3Ideal.Value.run m' g'
    · have a0 := hagree c
      rw [Cert.Kernel3Ideal.Rope.final6 m c]
      unfold Cert.Kernel3Ideal.Rope.arrQ Cert.Kernel3Ideal.Rope.rotAt Cert.Kernel3Ideal.Rope.zAt
      rw [← a0]
      funext i
      exact (congrArg (Cert.Reference3Ideal.Rope.resQ _) (ix_eta i)).trans (Cert.Reference3Ideal.Rope.resQ_at _ (i 0) (i 1) (i 2) (i 3))
    · have a0 := hagree c
      rw [Cert.Kernel3Ideal.Rope.final7 m c]
      unfold Cert.Kernel3Ideal.Rope.arrK Cert.Kernel3Ideal.Rope.rotAt Cert.Kernel3Ideal.Rope.zAt
      rw [← a0]
      funext i
      exact (congrArg (Cert.Reference3Ideal.Rope.resK _) (ix_eta i)).trans (Cert.Reference3Ideal.Rope.resK_at _ (i 0) (i 1) (i 2) (i 3))
    · have a0 := hagree c
      rw [Cert.Kernel3Ideal.Rope.final8 m c]
      unfold Cert.Kernel3Ideal.Rope.arrV Cert.Kernel3Ideal.Rope.zAt
      rw [← a0]
      funext i
      exact (congrArg (Cert.Reference3Ideal.Rope.resV _) (ix_eta i)).trans (Cert.Reference3Ideal.Rope.resV_at _ (i 0) (i 1) (i 2) (i 3))

end Cert.Rope3Claim

end
-- ==== Proof.Rope4Final.lean ====
/-
  The rotation kernel of the sample: its tables, its blocks, and what the grid leaves in its three result arrays.
-/
module

public import proofs.«01_k».proof.Proof.RopeSpec
public import proofs.«01_k».proof.Proof.Gen.Kernel4Ideal.Value
public import Idealize.ShloMosaic.Lib.Pipeline.ReadBack
public import Idealize.ShloMosaic.Lib.StableHlo.RunRead

@[expose] public section

set_option maxRecDepth 16384

noncomputable section

namespace Cert.Kernel4Ideal.Rope

open Cert.Kernel4Ideal Cert.Kernel4Ideal.Gen Idealize.ShloMosaic Idealize.ShloMosaic.TcCoe Idealize.SL.Sem Cert.RopeSpec
open Idealize.ShloMosaic.Pipeline (Dat)

variable (m : (ℓ : Loc nD τ sig) → Buf (Elt Ideal) ℓ)

/-- The angles, by position and pair. -/
def ang : FVec Ideal S8x8 .f32 :=
  mulf (broadcastInDim S8x8 ![0, 1] bcast_S8x1_S8x8_0_1 (broadcastInDim S8x1 ![0] bcast_S8_S8x1_0 (sitofp .f32 (addi (broadcastInDim S8 ![] bcast_S_S8 (constantI S_ 32 16384#32)) (iotaInDim S8 32 0)))))
    (broadcastInDim S8x8 ![0, 1] bcast_S1x8_S8x8_0_1 (broadcastInDim S1x8 ![1] bcast_S8_S1x8_1
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

/-- Their cosines. -/
def cosT : FVec Ideal S8x8 .f32 := Host.cos ang

/-- Their sines. -/
def sinT : FVec Ideal S8x8 .f32 := Host.sin ang

/-- One head's table laid out for all heads. -/
def over (x : FVec Ideal S8x64 .f32) : FVec Ideal S8x512 .f32 :=
  shapeCast _ (broadcastInDim S1x8x8x64 ![0, 1, 2, 3] bcast_S1x8x1x64_S1x8x8x64_0_1_2_3 (shapeCast _ x shapeCasts_S8x64_S1x8x1x64)) shapeCasts_S1x8x8x64_S8x512

/-- The table of the lanes' own factors. -/
def tabC (cs : FVec Ideal S8x8 .f32) : FVec Ideal S8x512 .f32 := over
  (concatenate S8x64 1 [⟨S8x8, cs⟩, ⟨S8x8, cs⟩, ⟨S8x48, broadcastInDim S8x48 ![] bcast_S_S8x48 (constant S_ .f32 0x3F800000#32)⟩]
    concatenates_S8x8_S8x8_S8x48_S8x64_d1)

/-- The table of the upper neighbours' factors. -/
def tabU (sn : FVec Ideal S8x8 .f32) : FVec Ideal S8x512 .f32 := over
  (concatenate S8x64 1 [⟨S8x8, Host.negf sn⟩, ⟨S8x56, broadcastInDim S8x56 ![] bcast_S_S8x56 (constant S_ .f32 0x00000000#32)⟩]
    concatenates_S8x8_S8x56_S8x64_d1)

/-- The table of the lower neighbours' factors. -/
def tabD (sn : FVec Ideal S8x8 .f32) : FVec Ideal S8x512 .f32 := over
  (concatenate S8x64 1 [⟨S8x8, broadcastInDim S8x8 ![] bcast_S_S8x8 (constant S_ .f32 0x00000000#32)⟩, ⟨S8x8, sn⟩, ⟨S8x48, broadcastInDim S8x48 ![] bcast_S_S8x48 (constant S_ .f32 0x00000000#32)⟩]
    concatenates_S8x8_S8x8_S8x48_S8x64_d1)

set_option maxHeartbeats 4000000 in
/-- The kernel finds the first table. -/
theorem V_C (c : Dev nD) : V m c main_v29 = tabC cosT := by
  unfold V hostOps0
  after_reads_simp
  rfl

set_option maxHeartbeats 4000000 in
/-- The kernel finds the second table. -/
theorem V_U (c : Dev nD) : V m c main_v32 = tabU sinT := by
  unfold V hostOps0
  after_reads_simp
  rfl

set_option maxHeartbeats 4000000 in
/-- The kernel finds the third table. -/
theorem V_D (c : Dev nD) : V m c main_v35 = tabD sinT := by
  unfold V hostOps0
  after_reads_simp
  rfl

/-- One head's table laid out for all heads, at a lane. -/
theorem over_at (x : FVec Ideal S8x64 .f32) (p : Fin 8) (l : Fin 512) : over x (ix2 p l) = x (ix2 p ⟨l.val % 64, by omega⟩) := by
  pointwise [over]
  blk_ext []

/-- The first table at a lane. -/
theorem tabC_at (cs : FVec Ideal S8x8 .f32) (p : Fin 8) (l : Fin 512) : tabC cs (ix2 p l) = factC (fun e => cs (ix2 p e)) ⟨l.val % 64, by omega⟩ := by
  unfold tabC
  refine (over_at _ p l).trans ?_
  generalize (⟨l.val % 64, by omega⟩ : Fin 64) = d
  pointwise [factC]
  split
  · rfl
  · by_cases h2 : d.val < 16
    · rw [dif_pos h2, dif_pos (by omega)]
    · rw [dif_neg h2, dif_neg (by omega)]

/-- The second table at a lane. -/
theorem tabU_at (sn : FVec Ideal S8x8 .f32) (p : Fin 8) (l : Fin 512) : tabU sn (ix2 p l) = factU (fun e => sn (ix2 p e)) ⟨l.val % 64, by omega⟩ := by
  unfold tabU
  refine (over_at _ p l).trans ?_
  generalize (⟨l.val % 64, by omega⟩ : Fin 64) = d
  pointwise [factU]

/-- The third table at a lane. -/
theorem tabD_at (sn : FVec Ideal S8x8 .f32) (p : Fin 8) (l : Fin 512) : tabD sn (ix2 p l) = factD (fun e => sn (ix2 p e)) ⟨l.val % 64, by omega⟩ := by
  unfold tabD
  refine (over_at _ p l).trans ?_
  generalize (⟨l.val % 64, by omega⟩ : Fin 64) = d
  pointwise [factD]
  split
  · rfl
  · by_cases h2 : d.val < 16
    · rw [dif_pos h2, dif_pos (by omega)]
    · rw [dif_neg h2, dif_neg (by omega)]

/-- Which block each window reads or writes at a grid point. -/
theorem idx : ∀ t : Fin cfg0.N, win0_0.index t = ![2048 + t.val, 0] ∧ win0_1.index t = ![2048 + t.val, 1] ∧ win0_2.index t = ![2048 + t.val, 2]
    ∧ win0_3.index t = ![0, 0] ∧ win0_4.index t = ![0, 0] ∧ win0_5.index t = ![0, 0]
    ∧ win0_6.index t = ![t.val, 0, 0, 0] ∧ win0_7.index t = ![t.val, 0, 0, 0] ∧ win0_8.index t = ![t.val, 0, 0, 0] :=
  (by decide +kernel : ∀ t : Fin grid0.N, _)

/-- The queries' rows. -/
theorem q_at (c : Dev nD) (t : Fin cfg0.N) (ht : t.val < 32) (a : Fin 8) (l : Fin 512) :
    iblk m c 0 t (ix2 a l) = m ((c : Thread nD τ).loc main_arg0) (ix2 ⟨2048 * 8 + 8 * t.val + a.val, by omega⟩ ⟨0 + l.val, by omega⟩) := by
  blk_simp [iblk]
  blk_ext [V, idx t]

/-- The keys' rows. -/
theorem k_at (c : Dev nD) (t : Fin cfg0.N) (ht : t.val < 32) (a : Fin 8) (l : Fin 512) :
    iblk m c 1 t (ix2 a l) = m ((c : Thread nD τ).loc main_arg0) (ix2 ⟨2048 * 8 + 8 * t.val + a.val, by omega⟩ ⟨512 + l.val, by omega⟩) := by
  blk_simp [iblk]
  blk_ext [V, idx t]

/-- The values' rows. -/
theorem v_at (c : Dev nD) (t : Fin cfg0.N) (ht : t.val < 32) (a : Fin 8) (l : Fin 512) :
    iblk m c 2 t (ix2 a l) = m ((c : Thread nD τ).loc main_arg0) (ix2 ⟨2048 * 8 + 8 * t.val + a.val, by omega⟩ ⟨1024 + l.val, by omega⟩) := by
  blk_simp [iblk]
  blk_ext [V, idx t]

/-- The first table's rows. -/
theorem c_at (c : Dev nD) (t : Fin cfg0.N) (a : Fin 8) (l : Fin 512) :
    iblk m c 3 t (ix2 a l) = tabC cosT (ix2 a l) := by
  rw [← V_C m c]
  blk_simp [iblk]
  blk_ext [idx t]

/-- The second table's rows. -/
theorem u_at (c : Dev nD) (t : Fin cfg0.N) (a : Fin 8) (l : Fin 512) :
    iblk m c 4 t (ix2 a l) = tabU sinT (ix2 a l) := by
  rw [← V_U m c]
  blk_simp [iblk]
  blk_ext [idx t]

/-- The third table's rows. -/
theorem d_at (c : Dev nD) (t : Fin cfg0.N) (a : Fin 8) (l : Fin 512) :
    iblk m c 5 t (ix2 a l) = tabD sinT (ix2 a l) := by
  rw [← V_D m c]
  blk_simp [iblk]
  blk_ext [idx t]

/-- The rotation of a block, before the heads are parted. -/
theorem pay7_at (v0 v2 v4 v6 : Vec Ideal S8x512 .f32) (a : Fin 8) (l : Fin 512) : k0_pay7 v0 v2 v4 v6 (ix2 a l) = k0_pay8 v0 v2 v4 v6 (ix2 a l) * Ideal.ofBits .f32 0x3E000000#32 := by
  pointwise [k0_pay7, k0_pay8]

/-- The rotation of a block of keys. -/
theorem pay8_at (v0 v2 v4 v6 : Vec Ideal S8x512 .f32) (a : Fin 8) (l : Fin 512) : k0_pay8 v0 v2 v4 v6 (ix2 a l) =
    v6 (ix2 a l) * v0 (ix2 a l) + v6 (ix2 a ⟨(l.val + 512 - 504) % 512, by omega⟩) * v2 (ix2 a l) + v6 (ix2 a ⟨(l.val + 512 - 8) % 512, by omega⟩) * v4 (ix2 a l) := by
  pointwise [k0_pay8, k0_pay4, k0_pay5, k0_pay6]

/-- The projections' rows. -/
abbrev zAt (c : Dev nD) (r : Fin 16640) (j : Fin 1536) : EReal := m ((c : Thread nD τ).loc main_arg0) (ix2 r j)

/-- A head turned. -/
def rotAt (c : Dev nD) (g : Fin 3) (b : Fin 32) (h : Fin 8) (p : Fin 8) (d : Fin 64) : EReal :=
  turn (head (zAt m c) g ⟨16384 + 8 * b.val + p.val, by omega⟩ h) (fun e => cosT (ix2 p e)) (fun e => sinT (ix2 p e)) d

/-- A head turned, at an index given by its coordinates. -/
theorem rot_congr (c : Dev nD) (g : Fin 3) (i : S32x8x8x64.Idx) {b : Fin 32} {h : Fin 8} {p : Fin 8} {d : Fin 64}
    (e0 : b = i 0) (e1 : h = i 1) (e2 : p = i 2) (e3 : d = i 3) : rotAt m c g b h p d = rotAt m c g (i 0) (i 1) (i 2) (i 3) := by
  subst e0 e1 e2 e3
  rfl

/-- The queries. -/
def arrQ (c : Dev nD) : FVec Ideal S32x8x8x64 .f32 := fun i => rotAt m c 0 (i 0) (i 1) (i 2) (i 3) * Ideal.ofBits .f32 0x3E000000#32

/-- The keys. -/
def arrK (c : Dev nD) : FVec Ideal S32x8x8x64 .f32 := fun i => rotAt m c 1 (i 0) (i 1) (i 2) (i 3)

/-- The values. -/
def arrV (c : Dev nD) : FVec Ideal S32x8x8x64 .f32 := fun i => head (zAt m c) 2 ⟨16384 + 8 * (i 0).val + (i 2).val, by have h0 : (i 0).val < 32 := (i 0).isLt; have h2 : (i 2).val < 8 := (i 2).isLt; omega⟩ (i 1) (i 3)

/-- A block's rotation is its heads' own. -/
theorem rot_tile (c : Dev nD) (t : Fin cfg0.N) (ht : t.val < 32) (g : Fin 3) (X : Vec Ideal S8x512 .f32)
    (hX : ∀ (a : Fin 8) (l : Fin 512), X (ix2 a l) = zAt m c ⟨2048 * 8 + 8 * t.val + a.val, by omega⟩ ⟨512 * g.val + l.val, by omega⟩)
    (h : Fin 8) (a : Fin 8) (d : Fin 64) (l : Fin 512) (hl : l.val = 64 * h.val + d.val) :
    k0_pay8 (iblk m c 3 t) (iblk m c 4 t) (iblk m c 5 t) X (ix2 a l)
      = rotAt m c g ⟨t.val, ht⟩ h a d := by
  have hd : (⟨l.val % 64, by omega⟩ : Fin 64) = d := Fin.ext (by dsimp only; omega)
  rw [pay8_at, c_at, u_at, d_at, tabC_at, tabU_at, tabD_at, hd]
  refine (lanes (fun l => X (ix2 a l)) _ _ h d l hl).trans ?_
  unfold rotAt
  refine congrArg (fun f => turn f _ _ d) (funext fun e => ?_)
  refine (hX a _).trans ?_
  unfold head
  exact congrArg₂ (zAt m c) (Fin.ext (by dsimp only)) (Fin.ext (by dsimp only; omega))

/-- A head of a block of queries. -/
theorem q_tile (c : Dev nD) (t : Fin cfg0.N) (ht : t.val < 32) (h : Fin 8) (P : FVec Ideal S1x1x8x64 .f32)
    (hP : ∀ (a : Fin 8) (d : Fin 64), P (ix4 0 0 a d) = k0_pay7 (iblk m c 3 t) (iblk m c 4 t) (iblk m c 5 t) (iblk m c 0 t) (ix2 a ⟨64 * h.val + d.val, by omega⟩))
    (x : S1x1x8x64.Idx) (i : S32x8x8x64.Idx) (h0 : (i 0).val = t.val) (h1 : (i 1).val = h.val)
    (h2 : (i 2).val = (x 2).val) (h3 : (i 3).val = (x 3).val) : P x = arrQ m c i := by
  have hx2 : (x 2).val < 8 := (x 2).isLt
  have hx : x = ix4 0 0 (x 2) (x 3) := by
    funext a; apply Fin.ext; fin_cases a
    · have : (x 0).val < 1 := (x 0).isLt
      show (x 0).val = 0; omega
    · have : (x 1).val < 1 := (x 1).isLt
      show (x 1).val = 0; omega
    · rfl
    · rfl
  refine (congrArg P hx).trans ((hP (x 2) (x 3)).trans ?_)
  refine (pay7_at _ _ _ _ _ _).trans ?_
  have e0 : (⟨t.val, ht⟩ : Fin 32) = i 0 := Fin.ext h0.symm
  have e1 : h = i 1 := Fin.ext h1.symm
  have e2 : x 2 = i 2 := Fin.ext h2.symm
  have e3 : x 3 = i 3 := Fin.ext h3.symm
  have e := rot_tile m c t ht 0 (iblk m c 0 t) (fun a l => (q_at m c t ht a l).trans (congrArg (zAt m c _) (Fin.ext (by simp)))) h (x 2) (x 3) ⟨64 * h.val + (x 3).val, by have : (x 3).val < 64 := (x 3).isLt; omega⟩ rfl
  exact (congrArg (· * Ideal.ofBits .f32 0x3E000000#32) (e.trans (rot_congr m c 0 i e0 e1 e2 e3)))

/-- A head of a block of keys. -/
theorem k_tile (c : Dev nD) (t : Fin cfg0.N) (ht : t.val < 32) (h : Fin 8) (P : FVec Ideal S1x1x8x64 .f32)
    (hP : ∀ (a : Fin 8) (d : Fin 64), P (ix4 0 0 a d) = k0_pay8 (iblk m c 3 t) (iblk m c 4 t) (iblk m c 5 t) (iblk m c 1 t) (ix2 a ⟨64 * h.val + d.val, by omega⟩))
    (x : S1x1x8x64.Idx) (i : S32x8x8x64.Idx) (h0 : (i 0).val = t.val) (h1 : (i 1).val = h.val)
    (h2 : (i 2).val = (x 2).val) (h3 : (i 3).val = (x 3).val) : P x = arrK m c i := by
  have hx2 : (x 2).val < 8 := (x 2).isLt
  have hx : x = ix4 0 0 (x 2) (x 3) := by
    funext a; apply Fin.ext; fin_cases a
    · have : (x 0).val < 1 := (x 0).isLt
      show (x 0).val = 0; omega
    · have : (x 1).val < 1 := (x 1).isLt
      show (x 1).val = 0; omega
    · rfl
    · rfl
  refine (congrArg P hx).trans ((hP (x 2) (x 3)).trans ?_)
  have e0 : (⟨t.val, ht⟩ : Fin 32) = i 0 := Fin.ext h0.symm
  have e1 : h = i 1 := Fin.ext h1.symm
  have e2 : x 2 = i 2 := Fin.ext h2.symm
  have e3 : x 3 = i 3 := Fin.ext h3.symm
  have e := rot_tile m c t ht 1 (iblk m c 1 t) (fun a l => (k_at m c t ht a l).trans (congrArg (zAt m c _) (Fin.ext (by simp)))) h (x 2) (x 3) ⟨64 * h.val + (x 3).val, by have : (x 3).val < 64 := (x 3).isLt; omega⟩ rfl
  exact e.trans (rot_congr m c 1 i e0 e1 e2 e3)

/-- A head of a block of values. -/
theorem v_tile (c : Dev nD) (t : Fin cfg0.N) (ht : t.val < 32) (h : Fin 8) (P : FVec Ideal S1x1x8x64 .f32)
    (hP : ∀ (a : Fin 8) (d : Fin 64), P (ix4 0 0 a d) = iblk m c 2 t (ix2 a ⟨64 * h.val + d.val, by omega⟩))
    (x : S1x1x8x64.Idx) (i : S32x8x8x64.Idx) (h0 : (i 0).val = t.val) (h1 : (i 1).val = h.val)
    (h2 : (i 2).val = (x 2).val) (h3 : (i 3).val = (x 3).val) : P x = arrV m c i := by
  have hx2 : (x 2).val < 8 := (x 2).isLt
  have hx : x = ix4 0 0 (x 2) (x 3) := by
    funext a; apply Fin.ext; fin_cases a
    · have : (x 0).val < 1 := (x 0).isLt
      show (x 0).val = 0; omega
    · have : (x 1).val < 1 := (x 1).isLt
      show (x 1).val = 0; omega
    · rfl
    · rfl
  refine (congrArg P hx).trans ((hP (x 2) (x 3)).trans ?_)
  refine (v_at m c t ht _ _).trans ?_
  unfold arrV head
  exact congrArg₂ (zAt m c) (Fin.ext (by dsimp only; omega)) (Fin.ext (by dsimp only [show ((2 : Fin 3).val) = 2 from rfl]; omega))

set_option maxHeartbeats 2000000 in
/-- The queries, as the grid leaves them. -/
theorem final6 (c : Dev nD) : (dats m 0 c).arrAt 6 (cfgs 0).N = arrQ m c := by
  refine (dats m 0 c).arrAt_eq_of_covers 6 _ (by decide +kernel) fun t hf y => ?_
  have ht : t.val < 32 := lt_of_lt_of_eq t.isLt N_0
  blk_simp
  rw [after0_6]
  unfold_out out0_6
  frame_out
  canon_tiles x q
  · refine q_tile m c t ht 7 _ (fun a d => ?_) x _ ?_ ?_ ?_ ?_
    · pointwise [k0_pay1, k0_pay33]
    all_goals (blk_simp [idx t] <;> (try dsimp only) <;> omega)
  · refine q_tile m c t ht 6 _ (fun a d => ?_) x _ ?_ ?_ ?_ ?_
    · pointwise [k0_pay30]
    all_goals (blk_simp [idx t] <;> (try dsimp only) <;> omega)
  · refine q_tile m c t ht 5 _ (fun a d => ?_) x _ ?_ ?_ ?_ ?_
    · pointwise [k0_pay27, k0_pay26]
    all_goals (blk_simp [idx t] <;> (try dsimp only) <;> omega)
  · refine q_tile m c t ht 4 _ (fun a d => ?_) x _ ?_ ?_ ?_ ?_
    · pointwise [k0_pay23]
    all_goals (blk_simp [idx t] <;> (try dsimp only) <;> omega)
  · refine q_tile m c t ht 3 _ (fun a d => ?_) x _ ?_ ?_ ?_ ?_
    · pointwise [k0_pay20]
    all_goals (blk_simp [idx t] <;> (try dsimp only) <;> omega)
  · refine q_tile m c t ht 2 _ (fun a d => ?_) x _ ?_ ?_ ?_ ?_
    · pointwise [k0_pay16]
    all_goals (blk_simp [idx t] <;> (try dsimp only) <;> omega)
  · refine q_tile m c t ht 1 _ (fun a d => ?_) x _ ?_ ?_ ?_ ?_
    · pointwise [k0_pay13]
    all_goals (blk_simp [idx t] <;> (try dsimp only) <;> omega)
  · refine q_tile m c t ht 0 _ (fun a d => ?_) x _ ?_ ?_ ?_ ?_
    · pointwise [k0_pay9]
    all_goals (blk_simp [idx t] <;> (try dsimp only) <;> omega)

set_option maxHeartbeats 2000000 in
/-- The keys, as the grid leaves them. -/
theorem final7 (c : Dev nD) : (dats m 0 c).arrAt 7 (cfgs 0).N = arrK m c := by
  refine (dats m 0 c).arrAt_eq_of_covers 7 _ (by decide +kernel) fun t hf y => ?_
  have ht : t.val < 32 := lt_of_lt_of_eq t.isLt N_0
  blk_simp
  rw [after0_7]
  unfold_out out0_7
  frame_out
  canon_tiles x q
  · refine k_tile m c t ht 7 _ (fun a d => ?_) x _ ?_ ?_ ?_ ?_
    · pointwise [k0_pay2]
    all_goals (blk_simp [idx t] <;> (try dsimp only) <;> omega)
  · refine k_tile m c t ht 6 _ (fun a d => ?_) x _ ?_ ?_ ?_ ?_
    · pointwise [k0_pay31]
    all_goals (blk_simp [idx t] <;> (try dsimp only) <;> omega)
  · refine k_tile m c t ht 5 _ (fun a d => ?_) x _ ?_ ?_ ?_ ?_
    · pointwise [k0_pay28]
    all_goals (blk_simp [idx t] <;> (try dsimp only) <;> omega)
  · refine k_tile m c t ht 4 _ (fun a d => ?_) x _ ?_ ?_ ?_ ?_
    · pointwise [k0_pay24]
    all_goals (blk_simp [idx t] <;> (try dsimp only) <;> omega)
  · refine k_tile m c t ht 3 _ (fun a d => ?_) x _ ?_ ?_ ?_ ?_
    · pointwise [k0_pay21]
    all_goals (blk_simp [idx t] <;> (try dsimp only) <;> omega)
  · refine k_tile m c t ht 2 _ (fun a d => ?_) x _ ?_ ?_ ?_ ?_
    · pointwise [k0_pay17]
    all_goals (blk_simp [idx t] <;> (try dsimp only) <;> omega)
  · refine k_tile m c t ht 1 _ (fun a d => ?_) x _ ?_ ?_ ?_ ?_
    · pointwise [k0_pay14]
    all_goals (blk_simp [idx t] <;> (try dsimp only) <;> omega)
  · refine k_tile m c t ht 0 _ (fun a d => ?_) x _ ?_ ?_ ?_ ?_
    · pointwise [k0_pay11, k0_pay10]
    all_goals (blk_simp [idx t] <;> (try dsimp only) <;> omega)

set_option maxHeartbeats 2000000 in
/-- The values, as the grid leaves them. -/
theorem final8 (c : Dev nD) : (dats m 0 c).arrAt 8 (cfgs 0).N = arrV m c := by
  refine (dats m 0 c).arrAt_eq_of_covers 8 _ (by decide +kernel) fun t hf y => ?_
  have ht : t.val < 32 := lt_of_lt_of_eq t.isLt N_0
  blk_simp
  rw [after0_8]
  unfold_out out0_8
  frame_out
  canon_tiles x q
  · refine v_tile m c t ht 7 _ (fun a d => ?_) x _ ?_ ?_ ?_ ?_
    · pointwise [k0_pay3]
    all_goals (blk_simp [idx t] <;> (try dsimp only) <;> omega)
  · refine v_tile m c t ht 6 _ (fun a d => ?_) x _ ?_ ?_ ?_ ?_
    · pointwise [k0_pay32]
    all_goals (blk_simp [idx t] <;> (try dsimp only) <;> omega)
  · refine v_tile m c t ht 5 _ (fun a d => ?_) x _ ?_ ?_ ?_ ?_
    · pointwise [k0_pay29]
    all_goals (blk_simp [idx t] <;> (try dsimp only) <;> omega)
  · refine v_tile m c t ht 4 _ (fun a d => ?_) x _ ?_ ?_ ?_ ?_
    · pointwise [k0_pay25]
    all_goals (blk_simp [idx t] <;> (try dsimp only) <;> omega)
  · refine v_tile m c t ht 3 _ (fun a d => ?_) x _ ?_ ?_ ?_ ?_
    · pointwise [k0_pay22]
    all_goals (blk_simp [idx t] <;> (try dsimp only) <;> omega)
  · refine v_tile m c t ht 2 _ (fun a d => ?_) x _ ?_ ?_ ?_ ?_
    · pointwise [k0_pay19, k0_pay18]
    all_goals (blk_simp [idx t] <;> (try dsimp only) <;> omega)
  · refine v_tile m c t ht 1 _ (fun a d => ?_) x _ ?_ ?_ ?_ ?_
    · pointwise [k0_pay15]
    all_goals (blk_simp [idx t] <;> (try dsimp only) <;> omega)
  · refine v_tile m c t ht 0 _ (fun a d => ?_) x _ ?_ ?_ ?_ ?_
    · pointwise [k0_pay12]
    all_goals (blk_simp [idx t] <;> (try dsimp only) <;> omega)

end Cert.Kernel4Ideal.Rope

end
-- ==== Proof.Rope4Ref.lean ====
/-
  The reference's rotation for the sample, read at an index: the functions of Proof/RopeSpec.lean.
-/
module

public import proofs.«01_k».proof.Proof.RopeSpec
public import proofs.«01_k».proof.Proof.Gen.Reference4Ideal.Run

@[expose] public section

set_option maxRecDepth 16384

noncomputable section

namespace Cert.Reference4Ideal.Rope

open Cert.Reference4Ideal Cert.Reference4Ideal.Gen Idealize.ShloMosaic Idealize.ShloMosaic.TcCoe Idealize.SL.Sem Cert.RopeSpec

/-- The angles, by position and pair. -/
def ang : FVec Ideal S8x8 .f32 :=
  mulf (broadcastInDim S8x8 ![0, 1] bcast_S8x1_S8x8_0_1 (broadcastInDim S8x1 ![0] bcast_S8_S8x1_0 (sitofp .f32 (addi (broadcastInDim S8 ![] bcast_S_S8 (constantI S_ 32 16384#32)) (iotaInDim S8 32 0)))))
    (broadcastInDim S8x8 ![0, 1] bcast_S1x8_S8x8_0_1 (broadcastInDim S1x8 ![1] bcast_S8_S1x8_1
      (Host.powf (broadcastInDim S8 ![] bcast_S_S8 (constant S_ .f32 0x48F42400#32))
        (Host.negf (Host.divf (mulf (sitofp .f32 (iotaInDim S8 32 0)) (broadcastInDim S8 ![] bcast_S_S8 (constant S_ .f32 0x40000000#32)))
          (broadcastInDim S8 ![] bcast_S_S8 (constant S_ .f32 0x41800000#32)))))))

/-- Their cosines. -/
def cosT : FVec Ideal S8x8 .f32 := Host.cos ang

/-- Their sines. -/
def sinT : FVec Ideal S8x8 .f32 := Host.sin ang

/-- The rows of the group, by sequence and position. -/
def rows (z : FVec Ideal S16640x1536 .f32) : FVec Ideal S32x8x1536 .f32 :=
  shapeCast _ (extractStridedSlice S256x1536 ![16384, 0] z slices_S16640x1536_S256x1536_16384_0) shapeCasts_S256x1536_S32x8x1536

/-- The queries by head. -/
def hq (y : FVec Ideal S32x8x1536 .f32) : FVec Ideal S32x8x8x64 .f32 :=
  shapeCast _ (extractStridedSlice S32x8x512 ![0, 0, 0] y slices_S32x8x1536_S32x8x512_0_0_0) shapeCasts_S32x8x512_S32x8x8x64

/-- The keys by head. -/
def hk (y : FVec Ideal S32x8x1536 .f32) : FVec Ideal S32x8x8x64 .f32 :=
  shapeCast _ (extractStridedSlice S32x8x512 ![0, 0, 512] y slices_S32x8x1536_S32x8x512_0_0_512) shapeCasts_S32x8x512_S32x8x8x64

/-- The values by head. -/
def hv (y : FVec Ideal S32x8x1536 .f32) : FVec Ideal S32x8x8x64 .f32 :=
  shapeCast _ (extractStridedSlice S32x8x512 ![0, 0, 1024] y slices_S32x8x1536_S32x8x512_0_0_1024) shapeCasts_S32x8x512_S32x8x8x64

/-- An angle table laid out for all sequences and heads. -/
def wide (x : FVec Ideal S8x8 .f32) : FVec Ideal S32x8x8x8 .f32 :=
  broadcastInDim S32x8x8x8 ![0, 1, 2, 3] bcast_S1x8x1x8_S32x8x8x8_0_1_2_3 (broadcastInDim S1x8x1x8 ![1, 2, 3] bcast_S8x1x8_S1x8x1x8_1_2_3
    (broadcastInDim S8x1x8 ![0, 2] bcast_S8x8_S8x1x8_0_2 x))

/-- The rotation. -/
def rot (x : FVec Ideal S32x8x8x64 .f32) (cs sn : FVec Ideal S8x8 .f32) : FVec Ideal S32x8x8x64 .f32 :=
  concatenate S32x8x8x64 3
    [⟨S32x8x8x8, subf (mulf (extractStridedSlice S32x8x8x8 ![0, 0, 0, 0] x slices_S32x8x8x64_S32x8x8x8_0_0_0_0) (wide cs))
       (mulf (extractStridedSlice S32x8x8x8 ![0, 0, 0, 8] x slices_S32x8x8x64_S32x8x8x8_0_0_0_8) (wide sn))⟩,
     ⟨S32x8x8x8, addf (mulf (extractStridedSlice S32x8x8x8 ![0, 0, 0, 0] x slices_S32x8x8x64_S32x8x8x8_0_0_0_0) (wide sn))
       (mulf (extractStridedSlice S32x8x8x8 ![0, 0, 0, 8] x slices_S32x8x8x64_S32x8x8x8_0_0_0_8) (wide cs))⟩,
     ⟨S32x8x8x48, extractStridedSlice S32x8x8x48 ![0, 0, 0, 16] x slices_S32x8x8x64_S32x8x8x48_0_0_0_16⟩]
    concatenates_S32x8x8x8_S32x8x8x8_S32x8x8x48_S32x8x8x64_d3

/-- The rows at an index. -/
theorem rows_at (z : FVec Ideal S16640x1536 .f32) (b : Fin 32) (p : Fin 8) (j : Fin 1536) :
    rows z (ix3 b p j) = z (ix2 ⟨16384 + 8 * b.val + p.val, by omega⟩ j) := by
  pointwise [rows]
  blk_ext []

/-- The queries at an index. -/
theorem hq_at (y : FVec Ideal S32x8x1536 .f32) (b : Fin 32) (p : Fin 8) (h : Fin 8) (e : Fin 64) :
    hq y (ix4 b p h e) = y (ix3 b p ⟨64 * h.val + e.val, by omega⟩) := by
  pointwise [hq]
  blk_ext []

/-- The keys at an index. -/
theorem hk_at (y : FVec Ideal S32x8x1536 .f32) (b : Fin 32) (p : Fin 8) (h : Fin 8) (e : Fin 64) :
    hk y (ix4 b p h e) = y (ix3 b p ⟨512 + (64 * h.val + e.val), by omega⟩) := by
  pointwise [hk]
  blk_ext []

/-- The values at an index. -/
theorem hv_at (y : FVec Ideal S32x8x1536 .f32) (b : Fin 32) (p : Fin 8) (h : Fin 8) (e : Fin 64) :
    hv y (ix4 b p h e) = y (ix3 b p ⟨1024 + (64 * h.val + e.val), by omega⟩) := by
  pointwise [hv]
  blk_ext []

/-- The rotation at an index. -/
theorem rot_at (x : FVec Ideal S32x8x8x64 .f32) (cs sn : FVec Ideal S8x8 .f32) (b : Fin 32) (p : Fin 8) (h : Fin 8) (d : Fin 64) :
    rot x cs sn (ix4 b p h d) = turn (fun e => x (ix4 b p h e)) (fun e => cs (ix2 p e)) (fun e => sn (ix2 p e)) d := by
  pointwise [rot, wide, turn]
  split
  · rw [show (⟨8 + d.val, by omega⟩ : Fin 64) = ⟨d.val + 8, by omega⟩ from Fin.ext (Nat.add_comm _ _)]
  · by_cases h2 : d.val < 16
    · rw [dif_pos h2, dif_pos (by omega), show (⟨8 + (d.val - 8), by omega⟩ : Fin 64) = d from Fin.ext (by dsimp only; omega)]
    · rw [dif_neg h2, dif_neg (by omega), show (⟨16 + (d.val - 8 - 8), by omega⟩ : Fin 64) = d from Fin.ext (by dsimp only; omega)]

/-- The queries, as the reference computes them. -/
def resQ (z : FVec Ideal S16640x1536 .f32) : FVec Ideal S32x8x8x64 .f32 :=
  mulf (transpose S32x8x8x64 [0, 2, 1, 3] (rot (hq (rows z)) cosT sinT) transposes_S32x8x8x64_S32x8x8x64_0_2_1_3)
    (broadcastInDim S32x8x8x64 ![] bcast_S_S32x8x8x64 (constant S_ .f32 0x3E000000#32))

/-- The keys, as the reference computes them. -/
def resK (z : FVec Ideal S16640x1536 .f32) : FVec Ideal S32x8x8x64 .f32 :=
  transpose S32x8x8x64 [0, 2, 1, 3] (rot (hk (rows z)) cosT sinT) transposes_S32x8x8x64_S32x8x8x64_0_2_1_3

/-- The values, as the reference computes them. -/
def resV (z : FVec Ideal S16640x1536 .f32) : FVec Ideal S32x8x8x64 .f32 :=
  transpose S32x8x8x64 [0, 2, 1, 3] (hv (rows z)) transposes_S32x8x8x64_S32x8x8x64_0_2_1_3

/-- A head turned. -/
def rotAt (z : FVec Ideal S16640x1536 .f32) (g : Fin 3) (b : Fin 32) (h : Fin 8) (p : Fin 8) (d : Fin 64) : EReal :=
  turn (head (fun r j => z (ix2 r j)) g ⟨16384 + 8 * b.val + p.val, by omega⟩ h) (fun e => cosT (ix2 p e)) (fun e => sinT (ix2 p e)) d

/-- The queries at an index. -/
theorem resQ_at (z : FVec Ideal S16640x1536 .f32) (b : Fin 32) (h : Fin 8) (p : Fin 8) (d : Fin 64) :
    resQ z (ix4 b h p d) = rotAt z 0 b h p d * Ideal.ofBits .f32 0x3E000000#32 := by
  pointwise [resQ]
  refine congrArg (· * Ideal.ofBits .f32 0x3E000000#32) ((rot_at _ _ _ b p h d).trans ?_)
  unfold rotAt
  refine congrArg (fun f => turn f _ _ d) (funext fun e => ?_)
  rw [hq_at, rows_at]
  exact congrArg (fun j => z (ix2 _ j)) (Fin.ext (by simp))

/-- The keys at an index. -/
theorem resK_at (z : FVec Ideal S16640x1536 .f32) (b : Fin 32) (h : Fin 8) (p : Fin 8) (d : Fin 64) :
    resK z (ix4 b h p d) = rotAt z 1 b h p d := by
  pointwise [resK]
  refine (rot_at _ _ _ b p h d).trans ?_
  unfold rotAt
  refine congrArg (fun f => turn f _ _ d) (funext fun e => ?_)
  rw [hk_at, rows_at]
  exact congrArg (fun j => z (ix2 _ j)) (Fin.ext (by simp [add_assoc]))

/-- The values at an index. -/
theorem resV_at (z : FVec Ideal S16640x1536 .f32) (b : Fin 32) (h : Fin 8) (p : Fin 8) (d : Fin 64) :
    resV z (ix4 b h p d) = head (fun r j => z (ix2 r j)) 2 ⟨16384 + 8 * b.val + p.val, by omega⟩ h d := by
  pointwise [resV]
  rw [hv_at, rows_at]
  exact congrArg (fun j => z (ix2 _ j)) (Fin.ext (by simp [add_assoc]))

end Cert.Reference4Ideal.Rope

end
-- ==== Proof.Rope4Claim.lean ====
/-
  The value claim of the rotation for the sample: the kernel's three arrays and the reference's are the same functions
  of the projections.
-/
module

public import proofs.«01_k».proof.Defs
public import proofs.«01_k».proof.Proof.Rope4Final
public import proofs.«01_k».proof.Proof.Rope4Ref

@[expose] public section

set_option maxRecDepth 16384

noncomputable section

namespace Cert.Rope4Claim

open Idealize.ShloMosaic Idealize.SL.Sem Cert.RopeSpec

/-- An index is its four coordinates. -/
theorem ix_eta (i : Cert.Kernel4Ideal.S32x8x8x64.Idx) : i = ix4 (i 0) (i 1) (i 2) (i 3) := by
  funext a; fin_cases a <;> rfl

set_option maxHeartbeats 4000000 in
/-- The kernel and the reference agree. -/
theorem algebraic : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · run_from Cert.Reference4Ideal.Value.run m' g'
    · have a0 := hagree c
      rw [Cert.Kernel4Ideal.Rope.final6 m c]
      unfold Cert.Kernel4Ideal.Rope.arrQ Cert.Kernel4Ideal.Rope.rotAt Cert.Kernel4Ideal.Rope.zAt
      rw [← a0]
      funext i
      exact (congrArg (Cert.Reference4Ideal.Rope.resQ _) (ix_eta i)).trans (Cert.Reference4Ideal.Rope.resQ_at _ (i 0) (i 1) (i 2) (i 3))
    · have a0 := hagree c
      rw [Cert.Kernel4Ideal.Rope.final7 m c]
      unfold Cert.Kernel4Ideal.Rope.arrK Cert.Kernel4Ideal.Rope.rotAt Cert.Kernel4Ideal.Rope.zAt
      rw [← a0]
      funext i
      exact (congrArg (Cert.Reference4Ideal.Rope.resK _) (ix_eta i)).trans (Cert.Reference4Ideal.Rope.resK_at _ (i 0) (i 1) (i 2) (i 3))
    · have a0 := hagree c
      rw [Cert.Kernel4Ideal.Rope.final8 m c]
      unfold Cert.Kernel4Ideal.Rope.arrV Cert.Kernel4Ideal.Rope.zAt
      rw [← a0]
      funext i
      exact (congrArg (Cert.Reference4Ideal.Rope.resV _) (ix_eta i)).trans (Cert.Reference4Ideal.Rope.resV_at _ (i 0) (i 1) (i 2) (i 3))

end Cert.Rope4Claim

end
-- ==== Proof.MergeSpec.lean ====
/-
  The gated merge, in plain arithmetic over the extended reals: two branches' rows, each through its own product and gated by a logistic of its own
  columns, are added, taken through the output product, scaled by the sequence's conditioning row, and added to the layer's input. Both programs'
  results are shown to be this function.
-/
module

public import proofs.«01_k».proof.Proof.ProjSpec
public import Idealize.ShloMosaic.Lib.Pointwise

@[expose] public section

noncomputable section

namespace Cert.MergeSpec

open Idealize.ShloMosaic Cert.ProjSpec

/-- The logistic function. -/
def gate (z : EReal) : EReal := Ideal.div 1 (1 + Ideal.exp (-z))

/-- The two branches' rows `a` and `b`, each through its product, gated and added. -/
def mixed (a b : Fin 512 → EReal) (za zb : Fin 1024 → EReal) (wa wb : Fin 512 → Fin 1024 → EReal) (k : Fin 1024) : EReal :=
  gate (za k) * (∑ e, a e * wa e k) + gate (zb k) * (∑ e, b e * wb e k)

/-- The layer's input row `x` plus the scaled output product. -/
def merged (x g : Fin 1024 → EReal) (a b : Fin 512 → EReal) (za zb : Fin 1024 → EReal) (wa wb : Fin 512 → Fin 1024 → EReal)
    (wo : Fin 1024 → Fin 1024 → EReal) (j : Fin 1024) : EReal :=
  x j + g j * ∑ k, mixed a b za zb wa wb k * wo k j

/-- A gated row depends on its parts only. -/
theorem mixed_congr {a a' b b' : Fin 512 → EReal} {za za' zb zb' : Fin 1024 → EReal} {wa wb : Fin 512 → Fin 1024 → EReal}
    (ha : a = a') (hb : b = b') (hza : za = za') (hzb : zb = zb') (k : Fin 1024) :
    mixed a b za zb wa wb k = mixed a' b' za' zb' wa wb k := by
  subst ha hb hza hzb
  rfl

/-- Row `r` of both groups together, the prompt's rows first. -/
def rowOut (xp : FVec Ideal ⟨3, ![4, 4096, 1024]⟩ .f32) (xs : FVec Ideal ⟨3, ![32, 8, 1024]⟩ .f32)
    (oap : FVec Ideal ⟨2, ![16384, 512]⟩ .f32) (oas : FVec Ideal ⟨2, ![256, 512]⟩ .f32)
    (obp : FVec Ideal ⟨2, ![16384, 512]⟩ .bf16) (obs : FVec Ideal ⟨2, ![256, 512]⟩ .bf16)
    (zg : FVec Ideal ⟨2, ![16640, 2048]⟩ .f32) (mod : FVec Ideal ⟨2, ![36, 6144]⟩ .f32)
    (wa wb : FVec Ideal ⟨2, ![512, 1024]⟩ .f32) (wo : FVec Ideal ⟨2, ![1024, 1024]⟩ .f32) (r : Fin 16640) : Fin 1024 → EReal :=
  if h : r.val < 16384 then
    merged (fun k => xp (ix3 ⟨r.val / 4096, by omega⟩ ⟨r.val % 4096, by omega⟩ k)) (cond mod ⟨r.val / 4096, by omega⟩ 2)
      (fun e => oap (ix2 ⟨r.val, h⟩ e)) (fun e => obp (ix2 ⟨r.val, h⟩ e))
      (fun k => zg (ix2 r ⟨k.val, by omega⟩)) (fun k => zg (ix2 r ⟨1024 + k.val, by omega⟩))
      (fun e k => wa (ix2 e k)) (fun e k => wb (ix2 e k)) (fun k j => wo (ix2 k j))
  else
    merged (fun k => xs (ix3 ⟨(r.val - 16384) / 8, by omega⟩ ⟨(r.val - 16384) % 8, by omega⟩ k)) (cond mod ⟨4 + (r.val - 16384) / 8, by omega⟩ 2)
      (fun e => oas (ix2 ⟨r.val - 16384, by omega⟩ e)) (fun e => obs (ix2 ⟨r.val - 16384, by omega⟩ e))
      (fun k => zg (ix2 r ⟨k.val, by omega⟩)) (fun k => zg (ix2 r ⟨1024 + k.val, by omega⟩))
      (fun e k => wa (ix2 e k)) (fun e k => wb (ix2 e k)) (fun k j => wo (ix2 k j))

end Cert.MergeSpec

end
-- ==== Proof.MergePay.lean ====
/-
  The merge kernel's arithmetic at one grid point, at loose blocks: the rows it writes first.
-/
module

public import proofs.«01_k».proof.Proof.MergeSpec
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Kernel5Ideal.Merge

open Cert.Kernel5Ideal Cert.Kernel5Ideal.Gen Idealize.ShloMosaic Idealize.ShloMosaic.TcCoe Idealize.SL.Sem Cert.MergeSpec

variable (i : grid0.Coords) (xp xs : Vec Ideal S256x1024 .f32) (oap oas : Vec Ideal S256x512 .f32) (obp obs : Vec Ideal S256x512 .bf16)
  (ga gb : Vec Ideal S256x1024 .f32) (gp : Vec Ideal S1x1x1x1024 .f32) (gs : Vec Ideal S1x256x1024 .f32)
  (wa wb : Vec Ideal S512x1024 .bf16) (wo : Vec Ideal S1024x1024 .bf16)

/-- A selection by one. -/
theorem sel_one {α : Type} (a b : α) : Scalar.select 1#1 a b = a := rfl

/-- A selection by zero. -/
theorem sel_zero {α : Type} (a b : α) : Scalar.select 0#1 a b = b := rfl

/-- The comparison of the grid point, for a prompt block. -/
theorem sel_lt (h : (i 0).val < 64) : Scalar.cmpi .slt (BitVec.ofNat 32 (i 0).val) 64#32 = 1#1 := by
  have : ∀ j : Fin 65, j.val < 64 → Scalar.cmpi .slt (BitVec.ofNat 32 j.val) 64#32 = 1#1 := by decide +kernel
  exact this (i 0) h

/-- The comparison of the grid point, for the sample block. -/
theorem sel_ge (h : ¬ (i 0).val < 64) : Scalar.cmpi .slt (BitVec.ofNat 32 (i 0).val) 64#32 = 0#1 := by
  have : ∀ j : Fin 65, ¬ j.val < 64 → Scalar.cmpi .slt (BitVec.ofNat 32 j.val) 64#32 = 0#1 := by decide +kernel
  exact this (i 0) h

/-- The rows written first. -/
abbrev res : FVec Ideal S256x1024 .f32 :=
  k0_pay5 (k0_pay3 i oap oas wa obp obs wb ga gb) (k0_pay4 i xp xs) (Scalar.cmpi .slt (BitVec.ofNat 32 (i 0).val) 64#32) gp gs wo

/-- The kernel's logistic is the specification's. -/
theorem logistic_eq (z : EReal) : Ideal.logistic z = gate z := rfl

/-- A prompt block's gated rows. -/
theorem mix_lt (h : (i 0).val < 64) (a : Fin 256) (k : Fin 1024) :
    k0_pay3 i oap oas wa obp obs wb ga gb (ix2 a k)
      = mixed (fun e => oap (ix2 a e)) (fun e => obp (ix2 a e)) (fun e => ga (ix2 a e)) (fun e => gb (ix2 a e))
        (fun e f => wa (ix2 e f)) (fun e f => wb (ix2 e f)) k := by
  unfold k0_pay3
  simp only [sel_lt i h, sel_one]
  pointwise [mixed, logistic_eq]

/-- The sample block's gated rows. -/
theorem mix_ge (h : ¬ (i 0).val < 64) (a : Fin 256) (k : Fin 1024) :
    k0_pay3 i oap oas wa obp obs wb ga gb (ix2 a k)
      = mixed (fun e => oas (ix2 a e)) (fun e => obs (ix2 a e)) (fun e => ga (ix2 a e)) (fun e => gb (ix2 a e))
        (fun e f => wa (ix2 e f)) (fun e f => wb (ix2 e f)) k := by
  unfold k0_pay3
  simp only [sel_ge i h, sel_zero]
  pointwise [mixed, logistic_eq]

/-- A prompt block's rows, of gated rows `M`. -/
theorem fin_lt (h : (i 0).val < 64) (M : FVec Ideal S256x1024 .f32) (a : Fin 256) (j : Fin 1024) :
    k0_pay5 M (k0_pay4 i xp xs) (Scalar.cmpi .slt (BitVec.ofNat 32 (i 0).val) 64#32) gp gs wo (ix2 a j)
      = xp (ix2 a j) + gp (ix4 0 0 0 j) * ∑ k, M (ix2 a k) * wo (ix2 k j) := by
  unfold k0_pay5 k0_pay4
  simp only [sel_lt i h, sel_one]
  pointwise

/-- The sample block's rows, of gated rows `M`. -/
theorem fin_ge (h : ¬ (i 0).val < 64) (M : FVec Ideal S256x1024 .f32) (a : Fin 256) (j : Fin 1024) :
    k0_pay5 M (k0_pay4 i xp xs) (Scalar.cmpi .slt (BitVec.ofNat 32 (i 0).val) 64#32) gp gs wo (ix2 a j)
      = xs (ix2 a j) + gs (ix3 0 a j) * ∑ k, M (ix2 a k) * wo (ix2 k j) := by
  unfold k0_pay5 k0_pay4
  simp only [sel_ge i h, sel_zero]
  pointwise

/-- A prompt block's rows. -/
theorem res_lt (h : (i 0).val < 64) (a : Fin 256) (j : Fin 1024) :
    res i xp xs oap oas obp obs ga gb gp gs wa wb wo (ix2 a j)
      = merged (fun k => xp (ix2 a k)) (fun k => gp (ix4 0 0 0 k)) (fun e => oap (ix2 a e)) (fun e => obp (ix2 a e))
        (fun e => ga (ix2 a e)) (fun e => gb (ix2 a e)) (fun e f => wa (ix2 e f)) (fun e f => wb (ix2 e f)) (fun k f => wo (ix2 k f)) j := by
  refine (fin_lt i xp xs gp gs wo h _ a j).trans ?_
  unfold merged
  exact congrArg (fun s => xp (ix2 a j) + gp (ix4 0 0 0 j) * s) (Finset.sum_congr rfl fun k _ => congrArg (· * wo (ix2 k j)) (mix_lt i oap oas obp obs ga gb wa wb h a k))

/-- The sample block's rows. -/
theorem res_ge (h : ¬ (i 0).val < 64) (a : Fin 256) (j : Fin 1024) :
    res i xp xs oap oas obp obs ga gb gp gs wa wb wo (ix2 a j)
      = merged (fun k => xs (ix2 a k)) (fun k => gs (ix3 0 a k)) (fun e => oas (ix2 a e)) (fun e => obs (ix2 a e))
        (fun e => ga (ix2 a e)) (fun e => gb (ix2 a e)) (fun e f => wa (ix2 e f)) (fun e f => wb (ix2 e f)) (fun k f => wo (ix2 k f)) j := by
  refine (fin_ge i xp xs gp gs wo h _ a j).trans ?_
  unfold merged
  exact congrArg (fun s => xs (ix2 a j) + gs (ix3 0 a j) * s) (Finset.sum_congr rfl fun k _ => congrArg (· * wo (ix2 k j)) (mix_ge i oap oas obp obs ga gb wa wb h a k))

end Cert.Kernel5Ideal.Merge

end
-- ==== Proof.MergeFinal.lean ====
/-
  The merge kernel's blocks: what each window holds at a grid point, of the argument arrays, and so the rows that the kernel writes first.
-/
module

public import proofs.«01_k».proof.Proof.MergePay
public import Idealize.ShloMosaic.Lib.Pipeline.ReadBack
public import Idealize.ShloMosaic.Lib.StableHlo.RunRead

@[expose] public section

set_option maxRecDepth 16384

noncomputable section

namespace Cert.Kernel5Ideal.Merge

open Cert.Kernel5Ideal Cert.Kernel5Ideal.Gen Idealize.ShloMosaic Idealize.ShloMosaic.TcCoe Idealize.SL.Sem Cert.MergeSpec Cert.ProjSpec
open Idealize.ShloMosaic.Pipeline (Dat)

variable (m : (ℓ : Loc nD τ sig) → Buf (Elt Ideal) ℓ)

/-- The grid's one coordinate. -/
theorem coord : ∀ t : Fin cfg0.N, (grid0.coords t 0).val = t.val := (by decide +kernel : ∀ t : Fin grid0.N, _)

/-- Which block each window reads or writes at a grid point. -/
theorem idx : ∀ t : Fin cfg0.N, win0_1.index t = ![0, 0] ∧ win0_3.index t = ![0, 0] ∧ win0_5.index t = ![0, 0]
    ∧ win0_6.index t = ![t.val, 0] ∧ win0_7.index t = ![t.val, 1] ∧ win0_9.index t = ![2, 0, 0] ∧ win0_15.index t = ![0, 0]
    ∧ win0_16.index t = ![0, 0] ∧ win0_17.index t = ![0, 0] ∧ win0_20.index t = ![t.val, 0] :=
  (by decide +kernel : ∀ t : Fin grid0.N, _)

/-- Which block the prompt's windows read at a prompt's grid point. -/
theorem idxP : ∀ t : Fin cfg0.N, t.val < 64 → win0_0.index t = ![t.val, 0] ∧ win0_2.index t = ![t.val, 0] ∧ win0_4.index t = ![t.val, 0]
    ∧ win0_8.index t = ![2, t.val / 16, 0, 0] :=
  (by decide +kernel : ∀ t : Fin grid0.N, _)

set_option maxHeartbeats 1000000

/-- The prompt's rows. -/
theorem xp_at (c : Dev nD) (t : Fin cfg0.N) (h : t.val < 64) (a : Fin 256) (k : Fin 1024) :
    iblk m c 0 t (ix2 a k) = m ((c : Thread nD τ).loc main_arg0) (ix3 ⟨(256 * t.val + a.val) / 4096, by omega⟩ ⟨(256 * t.val + a.val) % 4096, by omega⟩ k) := by
  blk_simp [iblk]
  entry_read
  pointwise
  blk_ext [idxP t h]

/-- The sample's rows. -/
theorem xs_at (c : Dev nD) (t : Fin cfg0.N) (a : Fin 256) (k : Fin 1024) :
    iblk m c 1 t (ix2 a k) = m ((c : Thread nD τ).loc main_arg1) (ix3 ⟨a.val / 8, by omega⟩ ⟨a.val % 8, by omega⟩ k) := by
  blk_simp [iblk]
  entry_read
  pointwise
  blk_ext [idx t]

/-- The first branch's rows, of the prompt. -/
theorem oap_at (c : Dev nD) (t : Fin cfg0.N) (h : t.val < 64) (a : Fin 256) (e : Fin 512) :
    iblk m c 2 t (ix2 a e) = m ((c : Thread nD τ).loc main_arg2) (ix2 ⟨256 * t.val + a.val, by omega⟩ e) := by
  blk_simp [iblk]
  entry_read
  blk_ext [idxP t h]

/-- The first branch's rows, of the sample. -/
theorem oas_at (c : Dev nD) (t : Fin cfg0.N) (a : Fin 256) (e : Fin 512) :
    iblk m c 3 t (ix2 a e) = m ((c : Thread nD τ).loc main_arg3) (ix2 a e) := by
  blk_simp [iblk]
  entry_read
  blk_ext [idx t]

/-- The second branch's rows, of the prompt. -/
theorem obp_at (c : Dev nD) (t : Fin cfg0.N) (h : t.val < 64) (a : Fin 256) (e : Fin 512) :
    iblk m c 4 t (ix2 a e) = m ((c : Thread nD τ).loc main_arg4) (ix2 ⟨256 * t.val + a.val, by omega⟩ e) := by
  blk_simp [iblk]
  entry_read
  blk_ext [idxP t h]

/-- The second branch's rows, of the sample. -/
theorem obs_at (c : Dev nD) (t : Fin cfg0.N) (a : Fin 256) (e : Fin 512) :
    iblk m c 5 t (ix2 a e) = m ((c : Thread nD τ).loc main_arg5) (ix2 a e) := by
  blk_simp [iblk]
  entry_read
  blk_ext [idx t]

/-- The first branch's gate columns. -/
theorem ga_at (c : Dev nD) (t : Fin cfg0.N) (a : Fin 256) (k : Fin 1024) :
    iblk m c 6 t (ix2 a k) = m ((c : Thread nD τ).loc main_arg6)
      (ix2 ⟨256 * t.val + a.val, by have : t.val < 65 := lt_of_lt_of_eq t.isLt N_0; omega⟩ ⟨k.val, by omega⟩) := by
  blk_simp [iblk]
  entry_read
  blk_ext [idx t]

/-- The second branch's gate columns. -/
theorem gb_at (c : Dev nD) (t : Fin cfg0.N) (a : Fin 256) (k : Fin 1024) :
    iblk m c 7 t (ix2 a k) = m ((c : Thread nD τ).loc main_arg6)
      (ix2 ⟨256 * t.val + a.val, by have : t.val < 65 := lt_of_lt_of_eq t.isLt N_0; omega⟩ ⟨1024 + k.val, by omega⟩) := by
  blk_simp [iblk]
  entry_read
  blk_ext [idx t]

/-- The prompt's conditioning. -/
theorem gp_at (c : Dev nD) (t : Fin cfg0.N) (h : t.val < 64) (k : Fin 1024) :
    iblk m c 8 t (ix4 0 0 0 k) = cond (m ((c : Thread nD τ).loc main_arg7)) ⟨t.val / 16, by omega⟩ 2 k := by
  unfold ProjSpec.cond
  blk_simp [iblk]
  entry_read
  pointwise
  blk_ext [idxP t h]

/-- The sample's conditioning. -/
theorem gs_at (c : Dev nD) (t : Fin cfg0.N) (a : Fin 256) (k : Fin 1024) :
    iblk m c 9 t (ix3 0 a k) = cond (m ((c : Thread nD τ).loc main_arg7)) ⟨4 + a.val / 8, by omega⟩ 2 k := by
  unfold ProjSpec.cond
  blk_simp [iblk]
  entry_read
  pointwise
  blk_ext [idx t]

/-- The first branch's weights. -/
theorem wa_at (c : Dev nD) (t : Fin cfg0.N) (e : Fin 512) (k : Fin 1024) :
    iblk m c 15 t (ix2 e k) = m ((c : Thread nD τ).loc main_arg9) (ix2 e k) := by
  blk_simp [iblk]
  entry_read
  pointwise
  blk_ext [idx t]

/-- The second branch's weights. -/
theorem wb_at (c : Dev nD) (t : Fin cfg0.N) (e : Fin 512) (k : Fin 1024) :
    iblk m c 16 t (ix2 e k) = m ((c : Thread nD τ).loc main_arg10) (ix2 e k) := by
  blk_simp [iblk]
  entry_read
  pointwise
  blk_ext [idx t]

/-- The output weights. -/
theorem wo_at (c : Dev nD) (t : Fin cfg0.N) (k : Fin 1024) (j : Fin 1024) :
    iblk m c 17 t (ix2 k j) = m ((c : Thread nD τ).loc main_arg11) (ix2 k j) := by
  blk_simp [iblk]
  entry_read
  pointwise
  blk_ext [idx t]

end Cert.Kernel5Ideal.Merge

end
-- ==== Proof.MergeOut.lean ====
/-
  The merge kernel's first result array: what the grid leaves is the specification's rows.
-/
module

public import proofs.«01_k».proof.Proof.MergeFinal

@[expose] public section

set_option maxRecDepth 16384

noncomputable section

namespace Cert.Kernel5Ideal.Merge

open Cert.Kernel5Ideal Cert.Kernel5Ideal.Gen Idealize.ShloMosaic Idealize.ShloMosaic.TcCoe Idealize.SL.Sem Cert.MergeSpec Cert.ProjSpec
open Idealize.ShloMosaic.Pipeline (Dat)

variable (m : (ℓ : Loc nD τ sig) → Buf (Elt Ideal) ℓ)

/-- The rows that grid point `t` writes. -/
abbrev resB (c : Dev nD) (t : Fin cfg0.N) : FVec Ideal S256x1024 .f32 :=
  res (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 15 t) (iblk m c 16 t) (iblk m c 17 t)

/-- The specification's row, of the argument arrays. -/
def outAt (c : Dev nD) (r : Fin 16640) : Fin 1024 → EReal :=
  rowOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg9))
    (m ((c : Thread nD τ).loc main_arg10)) (m ((c : Thread nD τ).loc main_arg11)) r

/-- A merged row depends on its parts only. -/
theorem merged_congr {x x' g g' : Fin 1024 → EReal} {a a' b b' : Fin 512 → EReal} {za za' zb zb' : Fin 1024 → EReal}
    {wa wa' wb wb' : Fin 512 → Fin 1024 → EReal} {wo wo' : Fin 1024 → Fin 1024 → EReal} (hx : x = x') (hg : g = g') (ha : a = a') (hb : b = b')
    (hza : za = za') (hzb : zb = zb') (hwa : wa = wa') (hwb : wb = wb') (hwo : wo = wo') (j : Fin 1024) :
    merged x g a b za zb wa wb wo j = merged x' g' a' b' za' zb' wa' wb' wo' j := by
  subst hx hg ha hb hza hzb hwa hwb hwo
  rfl

/-- The rows are the specification's. -/
theorem res_at (c : Dev nD) (t : Fin cfg0.N) (r : Fin 16640) (a : Fin 256) (hr : r.val = t.val * 256 + a.val) (j : Fin 1024) :
    resB m c t (ix2 a j) = outAt m c r j := by
  have ht : t.val < 65 := lt_of_lt_of_eq t.isLt N_0
  have hza : (fun k : Fin 1024 => iblk m c 6 t (ix2 a k)) = fun k => m ((c : Thread nD τ).loc main_arg6) (ix2 r ⟨k.val, by omega⟩) :=
    funext fun k => (ga_at m c t a k).trans (congrArg (fun p => m ((c : Thread nD τ).loc main_arg6) (ix2 p ⟨k.val, by omega⟩)) (Fin.ext (by dsimp only; omega)))
  have hzb : (fun k : Fin 1024 => iblk m c 7 t (ix2 a k)) = fun k => m ((c : Thread nD τ).loc main_arg6) (ix2 r ⟨1024 + k.val, by omega⟩) :=
    funext fun k => (gb_at m c t a k).trans (congrArg (fun p => m ((c : Thread nD τ).loc main_arg6) (ix2 p ⟨1024 + k.val, by omega⟩)) (Fin.ext (by dsimp only; omega)))
  have hwa : (fun (e : Fin 512) (k : Fin 1024) => iblk m c 15 t (ix2 e k)) = fun e k => m ((c : Thread nD τ).loc main_arg9) (ix2 e k) :=
    funext fun e => funext fun k => wa_at m c t e k
  have hwb : (fun (e : Fin 512) (k : Fin 1024) => iblk m c 16 t (ix2 e k)) = fun e k => m ((c : Thread nD τ).loc main_arg10) (ix2 e k) :=
    funext fun e => funext fun k => wb_at m c t e k
  have hwo : (fun (e k : Fin 1024) => iblk m c 17 t (ix2 e k)) = fun e k => m ((c : Thread nD τ).loc main_arg11) (ix2 e k) :=
    funext fun e => funext fun k => wo_at m c t e k
  unfold outAt rowOut
  by_cases h : t.val < 64
  · rw [dif_pos (by omega)]
    refine (res_lt _ _ _ _ _ _ _ _ _ _ _ _ _ _ (by rw [coord t]; exact h) a j).trans ?_
    refine merged_congr (funext fun k => ?_) (funext fun k => ?_) (funext fun e => ?_) (funext fun e => ?_) hza hzb hwa hwb hwo j
    · refine (xp_at m c t h a k).trans ?_
      exact congrArg₂ (fun p q => m ((c : Thread nD τ).loc main_arg0) (ix3 p q k)) (Fin.ext (by dsimp only; omega)) (Fin.ext (by dsimp only; omega))
    · refine (gp_at m c t h k).trans ?_
      exact congrArg (fun p => ProjSpec.cond _ p 2 k) (Fin.ext (by dsimp only; omega))
    · refine (oap_at m c t h a e).trans ?_
      exact congrArg (fun p => m ((c : Thread nD τ).loc main_arg2) (ix2 p e)) (Fin.ext (by dsimp only; omega))
    · refine (obp_at m c t h a e).trans ?_
      exact congrArg (fun p => m ((c : Thread nD τ).loc main_arg4) (ix2 p e)) (Fin.ext (by dsimp only; omega))
  · rw [dif_neg (by omega)]
    refine (res_ge _ _ _ _ _ _ _ _ _ _ _ _ _ _ (by rw [coord t]; exact h) a j).trans ?_
    refine merged_congr (funext fun k => ?_) (funext fun k => ?_) (funext fun e => ?_) (funext fun e => ?_) hza hzb hwa hwb hwo j
    · refine (xs_at m c t a k).trans ?_
      exact congrArg₂ (fun p q => m ((c : Thread nD τ).loc main_arg1) (ix3 p q k)) (Fin.ext (by dsimp only; omega)) (Fin.ext (by dsimp only; omega))
    · refine (gs_at m c t a k).trans ?_
      exact congrArg (fun p => ProjSpec.cond _ p 2 k) (Fin.ext (by dsimp only; omega))
    · refine (oas_at m c t a e).trans ?_
      exact congrArg (fun p => m ((c : Thread nD τ).loc main_arg3) (ix2 p e)) (Fin.ext (by dsimp only; omega))
    · refine (obs_at m c t a e).trans ?_
      exact congrArg (fun p => m ((c : Thread nD τ).loc main_arg5) (ix2 p e)) (Fin.ext (by dsimp only; omega))

/-- The result array. -/
def arrX (c : Dev nD) : FVec Ideal S16640x1024 .f32 := fun i => outAt m c (i 0) (i 1)

/-- The result array at an index. -/
theorem arrX_at (c : Dev nD) (i : S16640x1024.Idx) (r : Fin 16640) (j : Fin 1024) (h0 : (i 0).val = r.val) (h1 : (i 1).val = j.val) :
    arrX m c i = outAt m c r j :=
  congrArg₂ (outAt m c) (Fin.ext h0) (Fin.ext h1)

/-- A written tile at a lane. -/
theorem tile_out (c : Dev nD) (t : Fin cfg0.N) (x : S256x1024.Idx) (r : Fin 16640) (hr : r.val = t.val * 256 + (x 0).val) :
    resB m c t x = outAt m c r (x 1) := by
  have hx : x = ix2 (x 0) (x 1) := by funext a; fin_cases a <;> rfl
  exact (congrArg (resB m c t) hx).trans (res_at m c t r (x 0) hr (x 1))

set_option maxHeartbeats 2000000 in
/-- The result array, as the grid leaves it. -/
theorem final20 (c : Dev nD) : (dats m 0 c).arrAt 20 (cfgs 0).N = arrX m c := by
  refine (dats m 0 c).arrAt_eq_of_covers 20 _ (by decide +kernel) fun t hf y => ?_
  have ht : t.val < 65 := lt_of_lt_of_eq t.isLt N_0
  blk_simp
  rw [after0_20]
  unfold_out out0_20
  frame_out
  have hy : (y 0).val < 256 := (y 0).isLt
  refine (tile_out m c t y ⟨t.val * 256 + (y 0).val, by omega⟩ rfl).trans (arrX_at m c _ _ _ ?_ ?_).symm
  all_goals (blk_simp [idx t] <;> (try dsimp only) <;> omega)

end Cert.Kernel5Ideal.Merge

end
-- ==== Proof.MergeRef.lean ====
/-
  The reference's gated merge, read at an index: the function of Proof/MergeSpec.lean.
-/
module

public import proofs.«01_k».proof.Proof.MergeSpec
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Reference5Ideal.Merge

open Cert.Reference5Ideal Cert.Reference5Ideal.Gen Idealize.ShloMosaic Idealize.ShloMosaic.TcCoe Idealize.SL.Sem Cert.MergeSpec Cert.ProjSpec

/-- The prompt's logistic, as the reference spells it. -/
def sigP (z : FVec Ideal S4x4096x1024 .f32) : FVec Ideal S4x4096x1024 .f32 :=
  Host.divf (broadcastInDim S4x4096x1024 ![] bcast_S_S4x4096x1024 (constant S_ .f32 0x3F800000#32))
    (addf (broadcastInDim S4x4096x1024 ![] bcast_S_S4x4096x1024 (constant S_ .f32 0x3F800000#32)) (Host.exp (Host.negf z)))

/-- The sample's logistic likewise. -/
def sigS (z : FVec Ideal S32x8x1024 .f32) : FVec Ideal S32x8x1024 .f32 :=
  Host.divf (broadcastInDim S32x8x1024 ![] bcast_S_S32x8x1024 (constant S_ .f32 0x3F800000#32))
    (addf (broadcastInDim S32x8x1024 ![] bcast_S_S32x8x1024 (constant S_ .f32 0x3F800000#32)) (Host.exp (Host.negf z)))

theorem sigP_at (z : FVec Ideal S4x4096x1024 .f32) (i : S4x4096x1024.Idx) : sigP z i = gate (z i) := by
  pointwise [sigP, gate]

theorem sigS_at (z : FVec Ideal S32x8x1024 .f32) (i : S32x8x1024.Idx) : sigS z i = gate (z i) := by
  pointwise [sigS, gate]

/-- The prompt's gate columns. -/
def colsP (zg : FVec Ideal S16640x2048 .f32) : FVec Ideal S4x4096x2048 .f32 :=
  shapeCast _ (extractStridedSlice S16384x2048 ![0, 0] zg slices_S16640x2048_S16384x2048_0_0) shapeCasts_S16384x2048_S4x4096x2048

/-- The sample's gate columns. -/
def colsS (zg : FVec Ideal S16640x2048 .f32) : FVec Ideal S32x8x2048 .f32 :=
  shapeCast _ (extractStridedSlice S256x2048 ![16384, 0] zg slices_S16640x2048_S256x2048_16384_0) shapeCasts_S256x2048_S32x8x2048

/-- The prompt's gated rows. -/
def mixP (oa : FVec Ideal S4x4096x512 .f32) (ob : FVec Ideal S4x4096x512 .f32) (z : FVec Ideal S4x4096x2048 .f32)
    (wa wb : FVec Ideal S512x1024 .f32) : FVec Ideal S4x4096x1024 .f32 :=
  addf (mulf (sigP (extractStridedSlice S4x4096x1024 ![0, 0, 0] z slices_S4x4096x2048_S4x4096x1024_0_0_0))
      (Host.dotGeneral dot_S4x4096x512_S512x1024_S4x4096x1024_2_0_01_1_n_n none oa wa))
    (mulf (sigP (extractStridedSlice S4x4096x1024 ![0, 0, 1024] z slices_S4x4096x2048_S4x4096x1024_0_0_1024))
      (Host.dotGeneral dot_S4x4096x512_S512x1024_S4x4096x1024_2_0_01_1_n_n none ob wb))

/-- The sample's gated rows. -/
def mixS (oa : FVec Ideal S32x8x512 .f32) (ob : FVec Ideal S32x8x512 .f32) (z : FVec Ideal S32x8x2048 .f32)
    (wa wb : FVec Ideal S512x1024 .f32) : FVec Ideal S32x8x1024 .f32 :=
  addf (mulf (sigS (extractStridedSlice S32x8x1024 ![0, 0, 0] z slices_S32x8x2048_S32x8x1024_0_0_0))
      (Host.dotGeneral dot_S32x8x512_S512x1024_S32x8x1024_2_0_01_1_n_n none oa wa))
    (mulf (sigS (extractStridedSlice S32x8x1024 ![0, 0, 1024] z slices_S32x8x2048_S32x8x1024_0_0_1024))
      (Host.dotGeneral dot_S32x8x512_S512x1024_S32x8x1024_2_0_01_1_n_n none ob wb))

/-- The prompt's result. -/
def outP (x : FVec Ideal S4x4096x1024 .f32) (mod : FVec Ideal S36x6144 .f32) (M : FVec Ideal S4x4096x1024 .f32)
    (wo : FVec Ideal S1024x1024 .f32) : FVec Ideal S4x4096x1024 .f32 :=
  addf x (mulf (broadcastInDim S4x4096x1024 ![0, 1, 2] bcast_S4x1x1024_S4x4096x1024_0_1_2
      (broadcastInDim S4x1x1024 ![0, 2] bcast_S4x1024_S4x1x1024_0_2 (extractStridedSlice S4x1024 ![0, 2048] mod slices_S36x6144_S4x1024_0_2048)))
    (Host.dotGeneral dot_S4x4096x1024_S1024x1024_S4x4096x1024_2_0_01_1_n_n none M wo))

/-- The sample's result. -/
def outS (x : FVec Ideal S32x8x1024 .f32) (mod : FVec Ideal S36x6144 .f32) (M : FVec Ideal S32x8x1024 .f32)
    (wo : FVec Ideal S1024x1024 .f32) : FVec Ideal S32x8x1024 .f32 :=
  addf x (mulf (broadcastInDim S32x8x1024 ![0, 1, 2] bcast_S32x1x1024_S32x8x1024_0_1_2
      (broadcastInDim S32x1x1024 ![0, 2] bcast_S32x1024_S32x1x1024_0_2 (extractStridedSlice S32x1024 ![4, 2048] mod slices_S36x6144_S32x1024_4_2048)))
    (Host.dotGeneral dot_S32x8x1024_S1024x1024_S32x8x1024_2_0_01_1_n_n none M wo))

/-- Both groups, one above the other. -/
def both (p : FVec Ideal S4x4096x1024 .f32) (s : FVec Ideal S32x8x1024 .f32) : FVec Ideal S16640x1024 .f32 :=
  concatenate S16640x1024 0
    [⟨S16384x1024, (shapeCast _ p shapeCasts_S4x4096x1024_S16384x1024)⟩, ⟨S256x1024, (shapeCast _ s shapeCasts_S32x8x1024_S256x1024)⟩]
    concatenates_S16384x1024_S256x1024_S16640x1024_d0

theorem both_at (p : FVec Ideal S4x4096x1024 .f32) (s : FVec Ideal S32x8x1024 .f32) (r : Fin 16640) (j : Fin 1024) :
    both p s (ix2 r j) = if h : r.val < 16384 then p (ix3 ⟨r.val / 4096, by omega⟩ ⟨r.val % 4096, by omega⟩ j)
      else s (ix3 ⟨(r.val - 16384) / 8, by omega⟩ ⟨(r.val - 16384) % 8, by omega⟩ j) := by
  pointwise [both]

theorem outP_at (x : FVec Ideal S4x4096x1024 .f32) (mod : FVec Ideal S36x6144 .f32) (M : FVec Ideal S4x4096x1024 .f32)
    (wo : FVec Ideal S1024x1024 .f32) (b : Fin 4) (t : Fin 4096) (j : Fin 1024) :
    outP x mod M wo (ix3 b t j) = x (ix3 b t j) + ProjSpec.cond mod ⟨b.val, by omega⟩ 2 j * ∑ k, M (ix3 b t k) * wo (ix2 k j) := by
  pointwise [outP, ProjSpec.cond]

theorem outS_at (x : FVec Ideal S32x8x1024 .f32) (mod : FVec Ideal S36x6144 .f32) (M : FVec Ideal S32x8x1024 .f32)
    (wo : FVec Ideal S1024x1024 .f32) (b : Fin 32) (t : Fin 8) (j : Fin 1024) :
    outS x mod M wo (ix3 b t j) = x (ix3 b t j) + ProjSpec.cond mod ⟨4 + b.val, by omega⟩ 2 j * ∑ k, M (ix3 b t k) * wo (ix2 k j) := by
  pointwise [outS, ProjSpec.cond]

theorem mixP_at (oa : FVec Ideal S4x4096x512 .f32) (ob : FVec Ideal S4x4096x512 .f32) (z : FVec Ideal S4x4096x2048 .f32)
    (wa wb : FVec Ideal S512x1024 .f32) (b : Fin 4) (t : Fin 4096) (k : Fin 1024) :
    mixP oa ob z wa wb (ix3 b t k) = mixed (fun e => oa (ix3 b t e)) (fun e => ob (ix3 b t e)) (fun f => z (ix3 b t ⟨f.val, by omega⟩))
      (fun f => z (ix3 b t ⟨1024 + f.val, by omega⟩)) (fun e f => wa (ix2 e f)) (fun e f => wb (ix2 e f)) k := by
  pointwise [mixP, mixed, sigP_at]

theorem mixS_at (oa : FVec Ideal S32x8x512 .f32) (ob : FVec Ideal S32x8x512 .f32) (z : FVec Ideal S32x8x2048 .f32)
    (wa wb : FVec Ideal S512x1024 .f32) (b : Fin 32) (t : Fin 8) (k : Fin 1024) :
    mixS oa ob z wa wb (ix3 b t k) = mixed (fun e => oa (ix3 b t e)) (fun e => ob (ix3 b t e)) (fun f => z (ix3 b t ⟨f.val, by omega⟩))
      (fun f => z (ix3 b t ⟨1024 + f.val, by omega⟩)) (fun e f => wa (ix2 e f)) (fun e f => wb (ix2 e f)) k := by
  pointwise [mixS, mixed, sigS_at]

theorem colsP_at (zg : FVec Ideal S16640x2048 .f32) (b : Fin 4) (t : Fin 4096) (k : Fin 2048) :
    colsP zg (ix3 b t k) = zg (ix2 ⟨b.val * 4096 + t.val, by omega⟩ k) := by
  pointwise [colsP]
  blk_ext []

theorem colsS_at (zg : FVec Ideal S16640x2048 .f32) (b : Fin 32) (t : Fin 8) (k : Fin 2048) :
    colsS zg (ix3 b t k) = zg (ix2 ⟨16384 + (b.val * 8 + t.val), by omega⟩ k) := by
  pointwise [colsS]
  blk_ext []

/-- A branch's prompt rows, split into sequences. -/
theorem castP_at (v : FVec Ideal S16384x512 .f32) (b : Fin 4) (t : Fin 4096) (e : Fin 512) :
    (shapeCast S4x4096x512 v shapeCasts_S16384x512_S4x4096x512) (ix3 b t e) = v (ix2 ⟨b.val * 4096 + t.val, by omega⟩ e) := by
  pointwise
  blk_ext []

/-- A branch's sample rows, split into sequences. -/
theorem castS_at (v : FVec Ideal S256x512 .f32) (b : Fin 32) (t : Fin 8) (e : Fin 512) :
    (shapeCast S32x8x512 v shapeCasts_S256x512_S32x8x512) (ix3 b t e) = v (ix2 ⟨b.val * 8 + t.val, by omega⟩ e) := by
  pointwise
  blk_ext []

end Cert.Reference5Ideal.Merge

end
-- ==== Proof.MergeClaim.lean ====
/-
  The value claim of the gated merge: the kernel's first array and the reference's are the same function of the arguments; and the kernel's packed
  words may be read as pairs.
-/
module

public import proofs.«01_k».proof.Defs
public import proofs.«01_k».proof.Proof.MergeOut
public import proofs.«01_k».proof.Proof.MergeRef
public import Idealize.ShloMosaic.Lib.Bf16PairInverse
public import Idealize.ShloMosaic.Lib.Bf16Pair
public import Idealize.ShloMosaic.PureOps.IdealRules

@[expose] public section

set_option maxRecDepth 16384

noncomputable section

namespace Cert.MergeClaim

open Idealize.ShloMosaic Idealize.SL.Sem Cert.MergeSpec

section Reference

open Cert.Reference5Ideal Cert.Reference5Ideal.Gen Cert.Reference5Ideal.Merge

/-- The reference's array is the specification's rows. -/
theorem ref_spec (xp : FVec Ideal S4x4096x1024 .f32) (xs : FVec Ideal S32x8x1024 .f32) (oap : FVec Ideal S16384x512 .f32) (oas : FVec Ideal S256x512 .f32)
    (obp : FVec Ideal S16384x512 .bf16) (obs : FVec Ideal S256x512 .bf16) (zg : FVec Ideal S16640x2048 .f32) (mod : FVec Ideal S36x6144 .f32)
    (wa wb : FVec Ideal S512x1024 .f32) (wo : FVec Ideal S1024x1024 .f32) (r : Fin 16640) (j : Fin 1024) :
    both (outP xp mod (mixP (shapeCast S4x4096x512 oap shapeCasts_S16384x512_S4x4096x512)
          (shapeCast S4x4096x512 (extf .f32 obp bitsLt_bf16_f32) shapeCasts_S16384x512_S4x4096x512) (colsP zg) wa wb) wo)
        (outS xs mod (mixS (shapeCast S32x8x512 oas shapeCasts_S256x512_S32x8x512)
          (shapeCast S32x8x512 (extf .f32 obs bitsLt_bf16_f32) shapeCasts_S256x512_S32x8x512) (colsS zg) wa wb) wo) (ix2 r j)
      = rowOut xp xs oap oas obp obs zg mod wa wb wo r j := by
  refine (both_at _ _ r j).trans ?_
  unfold rowOut
  split
  · rename_i h
    refine (outP_at _ _ _ _ _ _ j).trans ?_
    unfold merged
    refine congrArg (fun s => xp _ + ProjSpec.cond mod _ 2 j * s) (Finset.sum_congr rfl fun k _ => congrArg (· * wo (ix2 k j)) ?_)
    refine (mixP_at _ _ _ _ _ _ _ k).trans ?_
    refine mixed_congr (funext fun e => ?_) (funext fun e => ?_) (funext fun f => ?_) (funext fun f => ?_) k
    · refine (castP_at _ _ _ e).trans ?_
      exact congrArg (fun p => oap (ix2 p e)) (Fin.ext (by dsimp only; omega))
    · refine (castP_at _ _ _ e).trans ?_
      exact congrArg (fun p => obp (ix2 p e)) (Fin.ext (by dsimp only; omega))
    · refine (colsP_at _ _ _ _).trans ?_
      exact congrArg (fun p => zg (ix2 p _)) (Fin.ext (by dsimp only; omega))
    · refine (colsP_at _ _ _ _).trans ?_
      exact congrArg (fun p => zg (ix2 p _)) (Fin.ext (by dsimp only; omega))
  · rename_i h
    refine (outS_at _ _ _ _ _ _ j).trans ?_
    unfold merged
    refine congrArg (fun s => xs _ + ProjSpec.cond mod _ 2 j * s) (Finset.sum_congr rfl fun k _ => congrArg (· * wo (ix2 k j)) ?_)
    refine (mixS_at _ _ _ _ _ _ _ k).trans ?_
    refine mixed_congr (funext fun e => ?_) (funext fun e => ?_) (funext fun f => ?_) (funext fun f => ?_) k
    · refine (castS_at _ _ _ e).trans ?_
      exact congrArg (fun p => oas (ix2 p e)) (Fin.ext (by dsimp only; omega))
    · refine (castS_at _ _ _ e).trans ?_
      exact congrArg (fun p => obs (ix2 p e)) (Fin.ext (by dsimp only; omega))
    · refine (colsS_at _ _ _ _).trans ?_
      exact congrArg (fun p => zg (ix2 p _)) (Fin.ext (by dsimp only; omega))
    · refine (colsS_at _ _ _ _).trans ?_
      exact congrArg (fun p => zg (ix2 p _)) (Fin.ext (by dsimp only; omega))

end Reference

set_option maxHeartbeats 8000000 in
/-- The kernel and the reference agree. -/
theorem algebraic : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g
    exact hc.1 20
  · run_from Cert.Reference5Ideal.Value.run m' g'
    obtain ⟨a0, a1, a2, a3, a4, a5, a6, a7, a8, a9, a10, a11, a12, a13, a14, a15⟩ := hagree c
    rw [Cert.Kernel5Ideal.Merge.final20 m c]
    unfold Cert.Kernel5Ideal.Merge.arrX Cert.Kernel5Ideal.Merge.outAt
    rw [← a0, ← a1, ← a2, ← a3, ← a4, ← a5, ← a6, ← a7, ← a9, ← a10, ← a11]
    funext i
    have hi : i = ix2 (i 0) (i 1) := by funext a; fin_cases a <;> rfl
    refine Eq.trans (congrArg _ hi) ?_
    exact ref_spec _ _ _ _ _ _ _ _ _ _ _ (i 0) (i 1)

open Idealize.ShloMosaic.IdealRules.bf16_pair in
/-- The kernel's packed words may be read as pairs. -/
theorem preserves : Cert.preserves_Kernel5_Kernel5Ideal :=
  ⟨bufferStatement _ _, bufferStatement _ _, packStatement _, statement _ _⟩

end Cert.MergeClaim

end
-- ==== Proof.FinalBody.lean ====
/- The final combination's kernel body: what one grid point stores, and the run of the whole call.

   The grid has 65 points.  Points 0 to 63 each write one tile of the prompt result; point 64 writes the
   sample result.  At point 64 the prompt window still stands on its last tile, so that tile is written back
   there a second time, unchanged: what the prompt window's buffer holds at a point is therefore said at
   the point or at point 63, whichever is earlier.  Here for the program read over the extended reals. -/
module

public import proofs.«01_k».proof.Proof.Gen.Kernel6Ideal.Frame
public import Idealize.ShloMosaic.Lib.Pipeline.TableIdle
public import Idealize.ShloMosaic.Lib.Claim

@[expose] public section

set_option maxRecDepth 16384

noncomputable section

namespace Cert.Kernel6Ideal.Final

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The assertions of the run. -/
abbrev Sp (F : FTy → Type) := sProp (MT nD τ sig Unit (Elt F) ℕ (UR sig nD τ) ℕ)

/-! ## What the body computes -/

/-- The whole of each buffer the body touches. -/
abbrev rx : Rect S256x1024 := Rect.unit (s := S256x1024) ![0, 0] S256x1024.size inb_S256x1024_S256x1024_0_0
abbrev rg : Rect S256x128 := Rect.unit (s := S256x128) ![0, 0] S256x128.size inb_S256x128_S256x128_0_0
abbrev rp : Rect S1x1x1x1024 := Rect.unit (s := S1x1x1x1024) ![0, 0, 0, 0] S1x1x1x1024.size inb_S1x1x1x1024_S1x1x1x1024_0_0_0_0
abbrev rs : Rect S1x256x1024 := Rect.unit (s := S1x256x1024) ![0, 0, 0] S1x256x1024.size inb_S1x256x1024_S1x256x1024_0_0_0
abbrev rn : Rect S1x1024 := Rect.unit (s := S1x1024) ![0, 0] S1x1024.size inb_S1x1024_S1x1024_0_0

/-- The two experts' rows, weighted and added. -/
def mix (y0 y1 : FVec F S256x1024 .f32) (gw : FVec F S256x128 .f32) : FVec F S256x1024 .f32 :=
  addf (mulf (broadcastTo S256x1024 (extractStridedSlice S256x1 ![0, 0] gw slices_S256x128_o0_0_S256x1) broadcasts_S256x1_S256x1024) y0)
    (mulf (broadcastTo S256x1024 (extractStridedSlice S256x1 ![0, 1] gw slices_S256x128_o0_1_S256x1) broadcasts_S256x1_S256x1024) y1)

/-- The gate of the tile's rows: the prompt's one row, or the sample's rows. -/
def gate (i : grid0.Coords) (gp : FVec F S1x1x1x1024 .f32) (gs : FVec F S1x256x1024 .f32) : FVec F S256x1024 .f32 :=
  Scalar.select (Scalar.cmpi .slt (BitVec.ofNat 32 (i 0).val) 64#32)
    (broadcastTo S256x1024 (shapeCast S1x1024 (shapeCast S1x1024 gp shapeCasts_S1x1x1x1024_S1x1024) shapeCasts_S1x1024_S1x1024) broadcasts_S1x1024_S256x1024)
    (shapeCast S256x1024 gs shapeCasts_S1x256x1024_S256x1024)

/-- The residual rows with the gated mixture added. -/
def res (i : grid0.Coords) (x y0 y1 : FVec F S256x1024 .f32) (gw : FVec F S256x128 .f32) (gp : FVec F S1x1x1x1024 .f32)
    (gs : FVec F S1x256x1024 .f32) : FVec F S256x1024 .f32 :=
  addf x (mulf (gate i gp gs) (mix y0 y1 gw))

/-- A tile's rows, normalized and scaled. -/
def norm (z : FVec F S256x1024 .f32) (nf : FVec F S1x1024 .f32) : FVec F S256x1024 .f32 :=
  mulf (mulf z (broadcastTo S256x1024 (rsqrt (addf (divf (shapeCast S256x1 (multiReduction .add [1] S256 (mulf z z) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 nf shapeCasts_S1x1024_S1x1024) broadcasts_S1x1024_S256x1024)

/-- What the body stores at a point, from the input windows' blocks. -/
def tile (i : grid0.Coords) (x0 x1 x2 : Vec F S256x1024 .f32) (x3 : Vec F S256x128 .f32) (x4 : Vec F S1x1x1x1024 .f32)
    (x5 : Vec F S1x256x1024 .f32) (x6 : Vec F S1x1024 .f32) : Vec F S256x1024 .f32 :=
  View.canon [⟨rx, norm (res i (View.ld x0 rx) (View.ld x1 rx) (View.ld x2 rx) (View.ld x3 rg) (View.ld x4 rp) (View.ld x5 rs)) (View.ld x6 rn)⟩]

/-- The one store covers its buffer. -/
theorem tile_cover (p0 : Vec F S256x1024 .f32) (y : S256x1024.Idx) :
    ∃ pc ∈ ([⟨rx, p0⟩] : List (View.Piece (Elt F) S256x1024 .f32)), y ∈ pc.1.set :=
  View.cover_of_tiled [⟨rx, p0⟩] S256x1024.size (by rfl) y

/-! ## The body's two cases -/

set_option maxHeartbeats 1000000 in
/-- At a prompt point the body leaves the tile in the prompt window's buffer and the sample window's as it was. -/
theorem run_prompt (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S1x1x1x1024 .f32) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole)
    (hc0 : k0_cond1 i = 1#1) (hc1 : k0_cond2 i ≠ 1#1)
    (x0 x1 x2 : Vec F S256x1024 .f32) (x3 : Vec F S256x128 .f32) (x4 : Vec F S1x1x1x1024 .f32)
    (x5 : Vec F S1x256x1024 .f32) (x6 : Vec F S1x1024 .f32) (x7 x8 : Vec F S256x1024 .f32) (K : PUnit → Sp F) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (tile i x0 x1 x2 x3 x4 x5 x6) ∗ owns (c : Thread nD τ) arg9 fullShare x8) -∗ K ⟨⟩))
      ⊢ wp frame (wpE (defs₀ (F := F)) Variants.none c none) E (cc0_combine_final i arg1 harg1 arg2 harg2 arg3 harg3 arg4 harg4 arg5 harg5 arg6 harg6 arg7 harg7 arg8 harg8 arg9 harg9) K := by
  unfold cc0_combine_final k0_part1
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (tile_cover _)).trans ?_
    rfl
  iexists f8; isplitr; · ipureintro; rfl
  iexact H8

set_option maxHeartbeats 1000000 in
/-- At the sample point the body leaves the tile in the sample window's buffer and the prompt window's as it was. -/
theorem run_sample (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x128 .f32) (harg4 : arg4.IsWhole) (arg5 : Memref sig .tc .vmem S1x1x1x1024 .f32) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole)
    (hc0 : k0_cond1 i ≠ 1#1) (hc1 : k0_cond2 i = 1#1)
    (x0 x1 x2 : Vec F S256x1024 .f32) (x3 : Vec F S256x128 .f32) (x4 : Vec F S1x1x1x1024 .f32)
    (x5 : Vec F S1x256x1024 .f32) (x6 : Vec F S1x1024 .f32) (x7 x8 : Vec F S256x1024 .f32) (K : PUnit → Sp F) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (tile i x0 x1 x2 x3 x4 x5 x6)) -∗ K ⟨⟩))
      ⊢ wp frame (wpE (defs₀ (F := F)) Variants.none c none) E (cc0_combine_final i arg1 harg1 arg2 harg2 arg3 harg3 arg4 harg4 arg5 harg5 arg6 harg6 arg7 harg7 arg8 harg8 arg9 harg9) K := by
  unfold cc0_combine_final k0_part1
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (tile_cover _)).trans ?_
  rfl

/-! ## The schedule -/

/-- The point whose tile the prompt window's buffer holds after point `t`. -/
def last (t : Fin cfg0.N) : Fin cfg0.N := ⟨min t.val 63, lt_of_le_of_lt (min_le_left _ _) t.isLt⟩

theorem last_of_lt (t : Fin cfg0.N) (h : t.val < 64) : last t = t :=
  Fin.ext (Nat.min_eq_left (Nat.le_of_lt_succ h))

theorem cond_prompt : ∀ t : Fin grid0.N, t.val < 64 → k0_cond1 (grid0.coords t) = 1#1 ∧ k0_cond2 (grid0.coords t) ≠ 1#1 := by
  decide +kernel
theorem cond_sample : ∀ t : Fin grid0.N, ¬ t.val < 64 → k0_cond1 (grid0.coords t) ≠ 1#1 ∧ k0_cond2 (grid0.coords t) = 1#1 := by
  decide +kernel
theorem idle_prompt : ∀ t : Fin cfg0.N, t.val < 64 → cfg0.idle 7 (cfg0.grid.coords t) = false ∧ cfg0.idle 8 (cfg0.grid.coords t) = true := by
  decide +kernel
theorem idle_sample : ∀ t : Fin cfg0.N, ¬ t.val < 64 → cfg0.idle 7 (cfg0.grid.coords t) = true ∧ cfg0.idle 8 (cfg0.grid.coords t) = false := by
  decide +kernel
/-- The prompt window stands still from point 63 to point 64, and is written back at the end. -/
theorem flush_sample : ∀ t : Fin cfg0.N, ¬ t.val < 64 → (cfg0.win 7).flush t = true := by
  simp only [Pipeline.Window.flush_eq_flushF]; decide +kernel
theorem flush_prompt (t : Fin cfg0.N) (h : t.val < 64) : (cfg0.win 8).flush t = false := by
  have hf := flush0_8 t
  cases hb : (cfg0.win 8).flush t with
  | false => rfl
  | true => rw [hb] at hf; have := hf.mp rfl; omega
theorem flush_63 : (cfg0.win 7).flush (⟨63, by decide⟩ : Fin cfg0.N) = false := by
  rw [Pipeline.Window.flush_eq_flushF]; decide +kernel
/-- The prompt window's buffer still holds what point 63 stored when point 64 begins. -/
theorem fresh_64 : cfg0.fresh 7 64 = false := by
  rw [Pipeline.Cfg.fresh_succ cfg0 7 63 (by decide), flush_63, (idle_prompt (⟨63, by decide⟩ : Fin cfg0.N) (by decide)).1]; rfl

/-! ## The proof data -/

/-- The arrays as the region finds them; after a point each input's buffer at its block, the prompt window's at the
    tile of the point (or of point 63), the sample window's at the tile of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tile (grid0.coords (last t)) (iblk m c 0 (last t)) (iblk m c 1 (last t)) (iblk m c 2 (last t)) (iblk m c 3 (last t)) (iblk m c 4 (last t)) (iblk m c 5 (last t)) (iblk m c 6 (last t))
    | ⟨8, _⟩ => tile (grid0.coords t) (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = tile (grid0.coords (last t)) (iblk m c 0 (last t)) (iblk m c 1 (last t)) (iblk m c 2 (last t)) (iblk m c 3 (last t)) (iblk m c 4 (last t)) (iblk m c 5 (last t)) (iblk m c 6 (last t)) := by dsimp only [dats]
theorem after_8 (c : Dev nD) (t : Fin cfg0.N) : (dats m 0 c).after 8 t = tile (grid0.coords t) (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- At the sample point the prompt window's buffer holds what is written back there. -/
theorem before_7 (c : Dev nD) (t : Fin cfg0.N) (h : ¬ t.val < 64) (d) : (dats m 0 c).before 7 t d = (dats m 0 c).after 7 t := by
  have ht : t.val = 64 := by
    have h65 : t.val < 65 := lt_of_lt_of_eq t.isLt N_0
    omega
  have hcarry : ∀ (s : Fin cfg0.N) (_ : s.val ≠ 0), cfg0.idle 7 (cfg0.grid.coords s) = true → cfg0.fresh 7 s.val = false →
      (dats m 0 c).after 7 s = (dats m 0 c).after 7 ⟨s.val - 1, by omega⟩ := by
    intro s hs hi _
    have h64 : ¬ s.val < 64 := by
      intro hl; rw [(idle_prompt s hl).1] at hi; exact Bool.false_ne_true hi
    have e : last s = last ⟨s.val - 1, by omega⟩ := by
      refine Fin.ext ?_
      show min s.val 63 = min (s.val - 1) 63
      omega
    rw [after_7, after_7, e]
  rw [(dats m 0 c).before_out_traj 7 rfl (fun _ _ => rfl) hcarry t.val t rfl d]
  have hfr : cfg0.fresh 7 t.val = false := by rw [ht]; exact fresh_64
  rw [if_neg (by rw [hfr]; exact Bool.false_ne_true)]
  exact (hcarry t (by omega) (idle_sample t h).1 hfr).symm

/-! ## The body obligation -/

/-- What the body is called with at a point, -/
def bodyPre (c : Dev nD) (t : Fin cfg0.N) : Sp F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : Sp F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1200000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  rw [show (dats m 0 c).leavesExact 5 t = owns (c : Thread nD τ) (st0_5 t) fullShare ((dats m 0 c).after 5 t) from rfl, after_5]
  rw [show (dats m 0 c).leavesExact 6 t = owns (c : Thread nD τ) (st0_6 t) fullShare ((dats m 0 c).after 6 t) from rfl, after_6]
  by_cases h : t.val < 64
  · rw [show (dats m 0 c).leavesExact 7 t = owns (c : Thread nD τ) (st0_7 t) fullShare ((dats m 0 c).after 7 t) from by
        unfold Dat.leavesExact; rw [(idle_prompt t h).1], after_7, last_of_lt t h,
      (dats m 0 c).leavesExact_idle 8 t (idle_prompt t h).2 (flush_prompt t h)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_prompt c Set.univ (grid0.coords t) _ _ _ _ _ _ _ _ _ _ _ _ _ _ _ _ _ _ (cond_prompt t h).1 (cond_prompt t h).2 (iblk m c 0 t) (iblk m c 1 t) (iblk m c 2 t) (iblk m c 3 t) (iblk m c 4 t) (iblk m c 5 t) (iblk m c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · rw [show (dats m 0 c).leavesExact 7 t = owns (c : Thread nD τ) (st0_7 t) fullShare ((dats m 0 c).after 7 t) from by
        unfold Dat.leavesExact; rw [(idle_sample t h).1, flush_sample t h],
      show (dats m 0 c).leavesExact 8 t = owns (c : Thread nD τ) (st0_8 t) fullShare ((dats m 0 c).after 8 t) from by
        unfold Dat.leavesExact; rw [(idle_sample t h).2], after_8]
    simp only [before_7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_sample c Set.univ (grid0.coords t) _ _ _ _ _ _ _ _ _ _ _ _ _ _ _ _ _ _ (cond_sample t h).1 (cond_sample t h).2 (iblk m c 0 t) (iblk m c 1 t) (iblk m c 2 t) (iblk m c 3 t) (iblk m c 4 t) (iblk m c 5 t) (iblk m c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole call runs to the arrays the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose)
    (hshare := fun c w => by unfold Dat.share; exact ite_self _)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel6Ideal.Final

end
-- ==== Proof.FinalSpec.lean ====
/-
  The final combination, in plain arithmetic over the extended reals: the two experts' rows, weighted by the token's two gate weights and added, scaled
  by the sequence's conditioning row and added to the residual row, then normalised to unit mean square and scaled by the gain. Both programs' results
  are shown to be these functions.
-/
module

public import proofs.«01_k».proof.Proof.ProjSpec
public import Idealize.ShloMosaic.Lib.Pointwise

@[expose] public section

noncomputable section

namespace Cert.FinalSpec

open Idealize.ShloMosaic Cert.ProjSpec

/-- A residual row `x` plus the gated mixture of the rows `y` and `z` at weights `p` and `q`. -/
def added (x y z g : Fin 1024 → EReal) (p q : EReal) (k : Fin 1024) : EReal :=
  x k + g k * (p * y k + q * z k)

/-- The same, normalised and scaled. -/
def fin (x y z g : Fin 1024 → EReal) (p q : EReal) (n : Fin 1024 → EReal) (k : Fin 1024) : EReal :=
  rms (added x y z g p q) n k

/-- A result row depends on its parts only. -/
theorem fin_congr {x x' y y' z z' g g' n n' : Fin 1024 → EReal} {p p' q q' : EReal} (hx : x = x') (hy : y = y') (hz : z = z') (hg : g = g')
    (hp : p = p') (hq : q = q') (hn : n = n') (k : Fin 1024) : fin x y z g p q n k = fin x' y' z' g' p' q' n' k := by
  subst hx hy hz hg hp hq hn
  rfl

/-- Row `r` of the arrays, of sequence `s`. -/
def rowAt (x y z : FVec Ideal ⟨2, ![16640, 1024]⟩ .f32) (gw : FVec Ideal ⟨2, ![16640, 128]⟩ .f32) (mod : FVec Ideal ⟨2, ![36, 6144]⟩ .f32)
    (n : FVec Ideal ⟨1, ![1024]⟩ .f32) (r : Fin 16640) (s : Fin 36) : Fin 1024 → EReal :=
  fin (fun k => x (ix2 r k)) (fun k => y (ix2 r k)) (fun k => z (ix2 r k)) (cond mod s 5) (gw (ix2 r 0)) (gw (ix2 r 1)) (fun k => n (ix1 k))

/-- The prompt's row `r`. -/
def rowP (x y z : FVec Ideal ⟨2, ![16640, 1024]⟩ .f32) (gw : FVec Ideal ⟨2, ![16640, 128]⟩ .f32) (mod : FVec Ideal ⟨2, ![36, 6144]⟩ .f32)
    (n : FVec Ideal ⟨1, ![1024]⟩ .f32) (r : Fin 16384) : Fin 1024 → EReal :=
  rowAt x y z gw mod n ⟨r.val, by omega⟩ ⟨r.val / 4096, by omega⟩

/-- The sample's row `r`. -/
def rowS (x y z : FVec Ideal ⟨2, ![16640, 1024]⟩ .f32) (gw : FVec Ideal ⟨2, ![16640, 128]⟩ .f32) (mod : FVec Ideal ⟨2, ![36, 6144]⟩ .f32)
    (n : FVec Ideal ⟨1, ![1024]⟩ .f32) (r : Fin 256) : Fin 1024 → EReal :=
  rowAt x y z gw mod n ⟨16384 + r.val, by omega⟩ ⟨4 + r.val / 8, by omega⟩

end Cert.FinalSpec

end
-- ==== Proof.FinalPay.lean ====
/-
  The final combination's arithmetic at one grid point: the tile it stores, at loose blocks; and what each block holds, of the argument arrays.
-/
module

public import proofs.«01_k».proof.Proof.FinalSpec
public import proofs.«01_k».proof.Proof.FinalBody
public import Idealize.ShloMosaic.Lib.Pipeline.ValueKit
public import Idealize.ShloMosaic.Lib.Pipeline.ReadBack
public import Idealize.ShloMosaic.Lib.StableHlo.RunRead
public import Idealize.ShloMosaic.Lib.Pointwise

@[expose] public section

set_option maxRecDepth 16384

noncomputable section

namespace Cert.Kernel6Ideal.Final

open Cert.Kernel6Ideal Cert.Kernel6Ideal.Gen Idealize.ShloMosaic Idealize.ShloMosaic.TcCoe Idealize.SL.Sem Cert.FinalSpec Cert.ProjSpec
open Idealize.ShloMosaic.Pipeline (Dat)

section Loose

variable (i : grid0.Coords) (x y0 y1 : Vec Ideal S256x1024 .f32) (gw : Vec Ideal S256x128 .f32) (gp : Vec Ideal S1x1x1x1024 .f32)
  (gs : Vec Ideal S1x256x1024 .f32) (nf : Vec Ideal S1x1024 .f32)

/-- A selection by one. -/
theorem sel_one {α : Type} (a b : α) : Scalar.select 1#1 a b = a := rfl

/-- A selection by zero. -/
theorem sel_zero {α : Type} (a b : α) : Scalar.select 0#1 a b = b := rfl

/-- The comparison of the grid point, for a prompt block. -/
theorem sel_lt (h : (i 0).val < 64) : Scalar.cmpi .slt (BitVec.ofNat 32 (i 0).val) 64#32 = 1#1 := by
  have : ∀ j : Fin 65, j.val < 64 → Scalar.cmpi .slt (BitVec.ofNat 32 j.val) 64#32 = 1#1 := by decide +kernel
  exact this (i 0) h

/-- The comparison of the grid point, for the sample block. -/
theorem sel_ge (h : ¬ (i 0).val < 64) : Scalar.cmpi .slt (BitVec.ofNat 32 (i 0).val) 64#32 = 0#1 := by
  have : ∀ j : Fin 65, ¬ j.val < 64 → Scalar.cmpi .slt (BitVec.ofNat 32 j.val) 64#32 = 0#1 := by decide +kernel
  exact this (i 0) h

/-- A prompt block's residual rows. -/
theorem res_lt (h : (i 0).val < 64) (a : Fin 256) (k : Fin 1024) :
    res (F := Ideal) i x y0 y1 gw gp gs (ix2 a k)
      = added (fun k => x (ix2 a k)) (fun k => y0 (ix2 a k)) (fun k => y1 (ix2 a k)) (fun k => gp (ix4 0 0 0 k)) (gw (ix2 a 0)) (gw (ix2 a 1)) k := by
  unfold res gate mix
  simp only [sel_lt i h, sel_one]
  pointwise [added]

/-- The sample block's residual rows. -/
theorem res_ge (h : ¬ (i 0).val < 64) (a : Fin 256) (k : Fin 1024) :
    res (F := Ideal) i x y0 y1 gw gp gs (ix2 a k)
      = added (fun k => x (ix2 a k)) (fun k => y0 (ix2 a k)) (fun k => y1 (ix2 a k)) (fun k => gs (ix3 0 a k)) (gw (ix2 a 0)) (gw (ix2 a 1)) k := by
  unfold res gate mix
  simp only [sel_ge i h, sel_zero]
  pointwise [added]

/-- Normalised rows. -/
theorem norm_at (z : FVec Ideal S256x1024 .f32) (a : Fin 256) (k : Fin 1024) :
    norm (F := Ideal) z nf (ix2 a k) = rms (fun k => z (ix2 a k)) (fun k => nf (ix2 0 k)) k := by
  pointwise [norm, rms]

/-- The stored rows. -/
abbrev outB : FVec Ideal S256x1024 .f32 := norm (F := Ideal) (res (F := Ideal) i x y0 y1 gw gp gs) nf

/-- A prompt block's stored rows. -/
theorem out_lt (h : (i 0).val < 64) (a : Fin 256) (k : Fin 1024) :
    outB i x y0 y1 gw gp gs nf (ix2 a k)
      = fin (fun k => x (ix2 a k)) (fun k => y0 (ix2 a k)) (fun k => y1 (ix2 a k)) (fun k => gp (ix4 0 0 0 k)) (gw (ix2 a 0)) (gw (ix2 a 1))
        (fun k => nf (ix2 0 k)) k :=
  (norm_at nf _ a k).trans (congrArg (fun r => rms r (fun k => nf (ix2 0 k)) k) (funext fun k => res_lt i x y0 y1 gw gp gs h a k))

/-- The sample block's stored rows. -/
theorem out_ge (h : ¬ (i 0).val < 64) (a : Fin 256) (k : Fin 1024) :
    outB i x y0 y1 gw gp gs nf (ix2 a k)
      = fin (fun k => x (ix2 a k)) (fun k => y0 (ix2 a k)) (fun k => y1 (ix2 a k)) (fun k => gs (ix3 0 a k)) (gw (ix2 a 0)) (gw (ix2 a 1))
        (fun k => nf (ix2 0 k)) k :=
  (norm_at nf _ a k).trans (congrArg (fun r => rms r (fun k => nf (ix2 0 k)) k) (funext fun k => res_ge i x y0 y1 gw gp gs h a k))

end Loose

variable (m : (ℓ : Loc nD τ sig) → Buf (Elt Ideal) ℓ)

/-- The grid's one coordinate. -/
theorem coord : ∀ t : Fin cfg0.N, (grid0.coords t 0).val = t.val := (by decide +kernel : ∀ t : Fin grid0.N, _)

/-- Which block each window reads or writes at a grid point. -/
theorem idx : ∀ t : Fin cfg0.N, win0_0.index t = ![t.val, 0] ∧ win0_1.index t = ![t.val, 0] ∧ win0_2.index t = ![t.val, 0]
    ∧ win0_3.index t = ![t.val, 0] ∧ win0_5.index t = ![5, 0, 0] ∧ win0_6.index t = ![0, 0] ∧ win0_7.index t = ![min t.val 63, 0]
    ∧ win0_8.index t = ![0, 0] :=
  (by decide +kernel : ∀ t : Fin grid0.N, _)

/-- Which conditioning row a prompt's grid point reads. -/
theorem idxP : ∀ t : Fin cfg0.N, t.val < 64 → win0_4.index t = ![5, t.val / 16, 0, 0] :=
  (by decide +kernel : ∀ t : Fin grid0.N, _)

set_option maxHeartbeats 1000000

/-- The residual rows. -/
theorem x_at (c : Dev nD) (t : Fin cfg0.N) (r : Fin 16640) (a : Fin 256) (hr : r.val = t.val * 256 + a.val) (k : Fin 1024) :
    iblk m c 0 t (ix2 a k) = m ((c : Thread nD τ).loc main_arg0) (ix2 r k) := by
  blk_simp [iblk]
  entry_read
  blk_ext [idx t, hr]

/-- The first expert's rows. -/
theorem y_at (c : Dev nD) (t : Fin cfg0.N) (r : Fin 16640) (a : Fin 256) (hr : r.val = t.val * 256 + a.val) (k : Fin 1024) :
    iblk m c 1 t (ix2 a k) = m ((c : Thread nD τ).loc main_arg1) (ix2 r k) := by
  blk_simp [iblk]
  entry_read
  blk_ext [idx t, hr]

/-- The second expert's rows. -/
theorem z_at (c : Dev nD) (t : Fin cfg0.N) (r : Fin 16640) (a : Fin 256) (hr : r.val = t.val * 256 + a.val) (k : Fin 1024) :
    iblk m c 2 t (ix2 a k) = m ((c : Thread nD τ).loc main_arg2) (ix2 r k) := by
  blk_simp [iblk]
  entry_read
  blk_ext [idx t, hr]

/-- The gate weights. -/
theorem w_at (c : Dev nD) (t : Fin cfg0.N) (r : Fin 16640) (a : Fin 256) (hr : r.val = t.val * 256 + a.val) (e : Fin 128) :
    iblk m c 3 t (ix2 a e) = m ((c : Thread nD τ).loc main_arg3) (ix2 r e) := by
  blk_simp [iblk]
  entry_read
  blk_ext [idx t, hr]

/-- The prompt's conditioning. -/
theorem gp_at (c : Dev nD) (t : Fin cfg0.N) (h : t.val < 64) (k : Fin 1024) :
    iblk m c 4 t (ix4 0 0 0 k) = cond (m ((c : Thread nD τ).loc main_arg4)) ⟨t.val / 16, by omega⟩ 5 k := by
  unfold ProjSpec.cond
  blk_simp [iblk]
  entry_read
  pointwise
  blk_ext [idxP t h]

/-- The sample's conditioning. -/
theorem gs_at (c : Dev nD) (t : Fin cfg0.N) (a : Fin 256) (k : Fin 1024) :
    iblk m c 5 t (ix3 0 a k) = cond (m ((c : Thread nD τ).loc main_arg4)) ⟨4 + a.val / 8, by omega⟩ 5 k := by
  unfold ProjSpec.cond
  blk_simp [iblk]
  entry_read
  pointwise
  blk_ext [idx t]

/-- The gain. -/
theorem nf_at (c : Dev nD) (t : Fin cfg0.N) (k : Fin 1024) :
    iblk m c 6 t (ix2 0 k) = m ((c : Thread nD τ).loc main_arg5) (ix1 k) := by
  blk_simp [iblk]
  entry_read
  pointwise
  blk_ext [idx t]

end Cert.Kernel6Ideal.Final

end
-- ==== Proof.FinalOut.lean ====
/-
  The final combination's two result arrays: what the grid leaves is the specification's rows.
-/
module

public import proofs.«01_k».proof.Proof.FinalPay

@[expose] public section

set_option maxRecDepth 16384

noncomputable section

namespace Cert.Kernel6Ideal.Final

open Cert.Kernel6Ideal Cert.Kernel6Ideal.Gen Idealize.ShloMosaic Idealize.ShloMosaic.TcCoe Idealize.SL.Sem Cert.FinalSpec Cert.ProjSpec
open Idealize.ShloMosaic.Pipeline (Dat)

variable (m : (ℓ : Loc nD τ sig) → Buf (Elt Ideal) ℓ)

/-- The rows that grid point `t` stores. -/
abbrev outT (c : Dev nD) (t : Fin cfg0.N) : FVec Ideal S256x1024 .f32 :=
  outB (grid0.coords t) (iblk m c 0 t) (iblk m c 1 t) (iblk m c 2 t) (iblk m c 3 t) (iblk m c 4 t) (iblk m c 5 t) (iblk m c 6 t)

/-- The specification's prompt row, of the argument arrays. -/
def outP (c : Dev nD) (r : Fin 16384) : Fin 1024 → EReal :=
  rowP (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

/-- The specification's sample row, of the argument arrays. -/
def outS (c : Dev nD) (r : Fin 256) : Fin 1024 → EReal :=
  rowS (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r

/-- A prompt point's rows are the specification's. -/
theorem outT_lt (c : Dev nD) (t : Fin cfg0.N) (h : t.val < 64) (r : Fin 16384) (a : Fin 256) (hr : r.val = t.val * 256 + a.val) (k : Fin 1024) :
    outT m c t (ix2 a k) = outP m c r k := by
  refine (out_lt _ _ _ _ _ _ _ _ (by rw [coord t]; exact h) a k).trans ?_
  unfold outP rowP rowAt
  refine fin_congr (funext fun k => ?_) (funext fun k => ?_) (funext fun k => ?_) (funext fun k => ?_) ?_ ?_ (funext fun k => ?_) k
  · exact x_at m c t ⟨r.val, by omega⟩ a hr k
  · exact y_at m c t ⟨r.val, by omega⟩ a hr k
  · exact z_at m c t ⟨r.val, by omega⟩ a hr k
  · refine (gp_at m c t h k).trans ?_
    exact congrArg (fun p => ProjSpec.cond _ p 5 k) (Fin.ext (by dsimp only; omega))
  · exact w_at m c t ⟨r.val, by omega⟩ a hr 0
  · exact w_at m c t ⟨r.val, by omega⟩ a hr 1
  · exact nf_at m c t k

/-- The sample point's rows are the specification's. -/
theorem outT_ge (c : Dev nD) (t : Fin cfg0.N) (h : ¬ t.val < 64) (a : Fin 256) (k : Fin 1024) :
    outT m c t (ix2 a k) = outS m c a k := by
  have ht : t.val < 65 := lt_of_lt_of_eq t.isLt N_0
  have hr : 16384 + a.val = t.val * 256 + a.val := by omega
  refine (out_ge _ _ _ _ _ _ _ _ (by rw [coord t]; exact h) a k).trans ?_
  unfold outS rowS rowAt
  refine fin_congr (funext fun k => ?_) (funext fun k => ?_) (funext fun k => ?_) (funext fun k => ?_) ?_ ?_ (funext fun k => ?_) k
  · exact x_at m c t ⟨16384 + a.val, by omega⟩ a hr k
  · exact y_at m c t ⟨16384 + a.val, by omega⟩ a hr k
  · exact z_at m c t ⟨16384 + a.val, by omega⟩ a hr k
  · exact gs_at m c t a k
  · exact w_at m c t ⟨16384 + a.val, by omega⟩ a hr 0
  · exact w_at m c t ⟨16384 + a.val, by omega⟩ a hr 1
  · exact nf_at m c t k

/-- The prompt's result array. -/
def arrP (c : Dev nD) : FVec Ideal S16384x1024 .f32 := fun i => outP m c (i 0) (i 1)

/-- The sample's result array. -/
def arrS (c : Dev nD) : FVec Ideal S256x1024 .f32 := fun i => outS m c (i 0) (i 1)

theorem arrP_at (c : Dev nD) (i : S16384x1024.Idx) (r : Fin 16384) (j : Fin 1024) (h0 : (i 0).val = r.val) (h1 : (i 1).val = j.val) :
    arrP m c i = outP m c r j :=
  congrArg₂ (outP m c) (Fin.ext h0) (Fin.ext h1)

theorem arrS_at (c : Dev nD) (i : S256x1024.Idx) (r : Fin 256) (j : Fin 1024) (h0 : (i 0).val = r.val) (h1 : (i 1).val = j.val) :
    arrS m c i = outS m c r j :=
  congrArg₂ (outS m c) (Fin.ext h0) (Fin.ext h1)

/-- A prompt tile at a lane. -/
theorem tileP (c : Dev nD) (t : Fin cfg0.N) (h : t.val < 64) (x : S256x1024.Idx) (r : Fin 16384) (hr : r.val = t.val * 256 + (x 0).val) :
    outT m c t x = outP m c r (x 1) := by
  have hx : x = ix2 (x 0) (x 1) := by funext a; fin_cases a <;> rfl
  exact (congrArg (outT m c t) hx).trans (outT_lt m c t h r (x 0) hr (x 1))

/-- The sample tile at a lane. -/
theorem tileS (c : Dev nD) (t : Fin cfg0.N) (h : ¬ t.val < 64) (x : S256x1024.Idx) :
    outT m c t x = outS m c (x 0) (x 1) := by
  have hx : x = ix2 (x 0) (x 1) := by funext a; fin_cases a <;> rfl
  exact (congrArg (outT m c t) hx).trans (outT_ge m c t h (x 0) (x 1))

set_option maxHeartbeats 2000000 in
/-- The prompt's result array, as the grid leaves it. -/
theorem final7 (c : Dev nD) : (dats m 0 c).arrAt 7 (cfgs 0).N = arrP m c := by
  refine (dats m 0 c).arrAt_eq_of_covers 7 _ (by decide +kernel) fun t hf y => ?_
  have hl : (last t).val < 64 := by show min t.val 63 < 64; omega
  blk_simp
  rw [after_7]
  unfold tile
  frame_out
  have hy : (y 0).val < 256 := (y 0).isLt
  refine (tileP m c (last t) hl y ⟨(last t).val * 256 + (y 0).val, by omega⟩ rfl).trans (arrP_at m c _ _ _ ?_ ?_).symm
  all_goals (blk_simp [idx t, last] <;> (try dsimp only) <;> omega)

set_option maxHeartbeats 2000000 in
/-- The sample's result array, as the grid leaves it. -/
theorem final8 (c : Dev nD) : (dats m 0 c).arrAt 8 (cfgs 0).N = arrS m c := by
  refine (dats m 0 c).arrAt_eq_of_covers 8 _ (by decide +kernel) fun t hf y => ?_
  have ht : ¬ t.val < 64 := by
    intro h
    have hff := flush_prompt t h
    exact Bool.false_ne_true (hff.symm.trans hf)
  blk_simp
  rw [after_8]
  unfold tile
  frame_out
  have hy : (y 0).val < 256 := (y 0).isLt
  refine (tileS m c t ht y).trans (arrS_at m c _ _ _ ?_ ?_).symm
  all_goals (blk_simp [idx t] <;> (try dsimp only) <;> omega)

end Cert.Kernel6Ideal.Final

end
-- ==== Proof.FinalRef.lean ====
/-
  The reference's final combination, read at an index: the functions of Proof/FinalSpec.lean.
-/
module

public import proofs.«01_k».proof.Proof.FinalSpec
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Reference6Ideal.Final

open Cert.Reference6Ideal Cert.Reference6Ideal.Gen Idealize.ShloMosaic Idealize.ShloMosaic.TcCoe Idealize.SL.Sem Cert.FinalSpec Cert.ProjSpec

/-- The two experts' rows, weighted and added. -/
def mixR (y z : FVec Ideal S16640x1024 .f32) (gw : FVec Ideal S16640x128 .f32) : FVec Ideal S16640x1024 .f32 :=
  addf (mulf (broadcastInDim S16640x1024 ![0, 1] bcast_S16640x1_S16640x1024_0_1 (extractStridedSlice S16640x1 ![0, 0] gw slices_S16640x128_S16640x1_0_0)) y)
    (mulf (broadcastInDim S16640x1024 ![0, 1] bcast_S16640x1_S16640x1024_0_1 (extractStridedSlice S16640x1 ![0, 1] gw slices_S16640x128_S16640x1_0_1)) z)

/-- The prompt's residual rows. -/
def resP (x f : FVec Ideal S16640x1024 .f32) (mod : FVec Ideal S36x6144 .f32) : FVec Ideal S4x4096x1024 .f32 :=
  addf (shapeCast _ (extractStridedSlice S16384x1024 ![0, 0] x slices_S16640x1024_S16384x1024_0_0) shapeCasts_S16384x1024_S4x4096x1024)
    (mulf (broadcastInDim S4x4096x1024 ![0, 1, 2] bcast_S4x1x1024_S4x4096x1024_0_1_2
        (broadcastInDim S4x1x1024 ![0, 2] bcast_S4x1024_S4x1x1024_0_2 (extractStridedSlice S4x1024 ![0, 5120] mod slices_S36x6144_S4x1024_0_5120)))
      (shapeCast _ (extractStridedSlice S16384x1024 ![0, 0] f slices_S16640x1024_S16384x1024_0_0) shapeCasts_S16384x1024_S4x4096x1024))

/-- The sample's residual rows. -/
def resS (x f : FVec Ideal S16640x1024 .f32) (mod : FVec Ideal S36x6144 .f32) : FVec Ideal S32x8x1024 .f32 :=
  addf (shapeCast _ (extractStridedSlice S256x1024 ![16384, 0] x slices_S16640x1024_S256x1024_16384_0) shapeCasts_S256x1024_S32x8x1024)
    (mulf (broadcastInDim S32x8x1024 ![0, 1, 2] bcast_S32x1x1024_S32x8x1024_0_1_2
        (broadcastInDim S32x1x1024 ![0, 2] bcast_S32x1024_S32x1x1024_0_2 (extractStridedSlice S32x1024 ![4, 5120] mod slices_S36x6144_S32x1024_4_5120)))
      (shapeCast _ (extractStridedSlice S256x1024 ![16384, 0] f slices_S16640x1024_S256x1024_16384_0) shapeCasts_S256x1024_S32x8x1024))

/-- The prompt's rows, normalised and scaled. -/
def normP (x : FVec Ideal S4x4096x1024 .f32) (g : FVec Ideal S1024 .f32) : FVec Ideal S4x4096x1024 .f32 :=
  mulf (mulf x
      (broadcastInDim S4x4096x1024 ![0, 1, 2] bcast_S4x4096x1_S4x4096x1024_0_1_2
        (Host.rsqrt (addf (Host.divf (broadcastInDim S4x4096x1 ![0, 1] bcast_S4x4096_S4x4096x1_0_1
            (Host.reduceAdd (mulf x x) (constant S_ .f32 0x00000000#32) reducesTo_S4x4096x1024_S4x4096_d2 h_S_))
          (broadcastInDim S4x4096x1 ![] bcast_S_S4x4096x1 (constant S_ .f32 0x44800000#32)))
          (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The sample's rows likewise. -/
def normS (x : FVec Ideal S32x8x1024 .f32) (g : FVec Ideal S1024 .f32) : FVec Ideal S32x8x1024 .f32 :=
  mulf (mulf x
      (broadcastInDim S32x8x1024 ![0, 1, 2] bcast_S32x8x1_S32x8x1024_0_1_2
        (Host.rsqrt (addf (Host.divf (broadcastInDim S32x8x1 ![0, 1] bcast_S32x8_S32x8x1_0_1
            (Host.reduceAdd (mulf x x) (constant S_ .f32 0x00000000#32) reducesTo_S32x8x1024_S32x8_d2 h_S_))
          (broadcastInDim S32x8x1 ![] bcast_S_S32x8x1 (constant S_ .f32 0x44800000#32)))
          (broadcastInDim S32x8x1 ![] bcast_S_S32x8x1 (constant S_ .f32 0x358637BD#32))))))
    (broadcastInDim S32x8x1024 ![0, 1, 2] bcast_S1x1x1024_S32x8x1024_0_1_2 (broadcastInDim S1x1x1024 ![2] bcast_S1024_S1x1x1024_2 g))

theorem mixR_at (y z : FVec Ideal S16640x1024 .f32) (gw : FVec Ideal S16640x128 .f32) (r : Fin 16640) (k : Fin 1024) :
    mixR y z gw (ix2 r k) = gw (ix2 r 0) * y (ix2 r k) + gw (ix2 r 1) * z (ix2 r k) := by
  pointwise [mixR]

/-- The prompt's rows of an array, split into sequences. -/
theorem cutP_at (v : FVec Ideal S16640x1024 .f32) (b : Fin 4) (t : Fin 4096) (k : Fin 1024) :
    (shapeCast S4x4096x1024 (extractStridedSlice S16384x1024 ![0, 0] v slices_S16640x1024_S16384x1024_0_0) shapeCasts_S16384x1024_S4x4096x1024) (ix3 b t k)
      = v (ix2 ⟨b.val * 4096 + t.val, by omega⟩ k) := by
  pointwise
  blk_ext []

/-- The sample's rows of an array, split into sequences. -/
theorem cutS_at (v : FVec Ideal S16640x1024 .f32) (b : Fin 32) (t : Fin 8) (k : Fin 1024) :
    (shapeCast S32x8x1024 (extractStridedSlice S256x1024 ![16384, 0] v slices_S16640x1024_S256x1024_16384_0) shapeCasts_S256x1024_S32x8x1024) (ix3 b t k)
      = v (ix2 ⟨16384 + (b.val * 8 + t.val), by omega⟩ k) := by
  pointwise
  blk_ext []

/-- The prompt's conditioning row. -/
theorem condP_at (mod : FVec Ideal S36x6144 .f32) (b : Fin 4) (t : Fin 4096) (k : Fin 1024) :
    (broadcastInDim S4x4096x1024 ![0, 1, 2] bcast_S4x1x1024_S4x4096x1024_0_1_2
        (broadcastInDim S4x1x1024 ![0, 2] bcast_S4x1024_S4x1x1024_0_2 (extractStridedSlice S4x1024 ![0, 5120] mod slices_S36x6144_S4x1024_0_5120)) :
        FVec Ideal S4x4096x1024 .f32) (ix3 b t k)
      = ProjSpec.cond mod ⟨b.val, by omega⟩ 5 k := by
  pointwise [ProjSpec.cond]

/-- The sample's conditioning row. -/
theorem condS_at (mod : FVec Ideal S36x6144 .f32) (b : Fin 32) (t : Fin 8) (k : Fin 1024) :
    (broadcastInDim S32x8x1024 ![0, 1, 2] bcast_S32x1x1024_S32x8x1024_0_1_2
        (broadcastInDim S32x1x1024 ![0, 2] bcast_S32x1024_S32x1x1024_0_2 (extractStridedSlice S32x1024 ![4, 5120] mod slices_S36x6144_S32x1024_4_5120)) :
        FVec Ideal S32x8x1024 .f32) (ix3 b t k)
      = ProjSpec.cond mod ⟨4 + b.val, by omega⟩ 5 k := by
  pointwise [ProjSpec.cond]

theorem resP_at (x y z : FVec Ideal S16640x1024 .f32) (gw : FVec Ideal S16640x128 .f32) (mod : FVec Ideal S36x6144 .f32) (b : Fin 4) (t : Fin 4096)
    (r : Fin 16640) (hr : r.val = b.val * 4096 + t.val) (k : Fin 1024) :
    resP x (mixR y z gw) mod (ix3 b t k)
      = added (fun k => x (ix2 r k)) (fun k => y (ix2 r k)) (fun k => z (ix2 r k)) (ProjSpec.cond mod ⟨b.val, by omega⟩ 5) (gw (ix2 r 0)) (gw (ix2 r 1)) k := by
  have e : (⟨b.val * 4096 + t.val, by omega⟩ : Fin 16640) = r := Fin.ext hr.symm
  show _ + _ * _ = _
  rw [cutP_at, cutP_at, condP_at, mixR_at, e]
  rfl

theorem resS_at (x y z : FVec Ideal S16640x1024 .f32) (gw : FVec Ideal S16640x128 .f32) (mod : FVec Ideal S36x6144 .f32) (b : Fin 32) (t : Fin 8)
    (r : Fin 16640) (hr : r.val = 16384 + (b.val * 8 + t.val)) (k : Fin 1024) :
    resS x (mixR y z gw) mod (ix3 b t k)
      = added (fun k => x (ix2 r k)) (fun k => y (ix2 r k)) (fun k => z (ix2 r k)) (ProjSpec.cond mod ⟨4 + b.val, by omega⟩ 5) (gw (ix2 r 0)) (gw (ix2 r 1)) k := by
  have e : (⟨16384 + (b.val * 8 + t.val), by omega⟩ : Fin 16640) = r := Fin.ext hr.symm
  show _ + _ * _ = _
  rw [cutS_at, cutS_at, condS_at, mixR_at, e]
  rfl

theorem normP_at (x : FVec Ideal S4x4096x1024 .f32) (g : FVec Ideal S1024 .f32) (b : Fin 4) (t : Fin 4096) (k : Fin 1024) :
    normP x g (ix3 b t k) = rms (fun k => x (ix3 b t k)) (fun k => g (ix1 k)) k := by
  pointwise [normP, rms]

theorem normS_at (x : FVec Ideal S32x8x1024 .f32) (g : FVec Ideal S1024 .f32) (b : Fin 32) (t : Fin 8) (k : Fin 1024) :
    normS x g (ix3 b t k) = rms (fun k => x (ix3 b t k)) (fun k => g (ix1 k)) k := by
  pointwise [normS, rms]

/-- The prompt's rows, one sequence after the other. -/
theorem joinP_at (v : FVec Ideal S4x4096x1024 .f32) (r : Fin 16384) (k : Fin 1024) :
    (shapeCast S16384x1024 v shapeCasts_S4x4096x1024_S16384x1024) (ix2 r k) = v (ix3 ⟨r.val / 4096, by omega⟩ ⟨r.val % 4096, by omega⟩ k) := by
  pointwise

/-- The sample's rows likewise. -/
theorem joinS_at (v : FVec Ideal S32x8x1024 .f32) (r : Fin 256) (k : Fin 1024) :
    (shapeCast S256x1024 v shapeCasts_S32x8x1024_S256x1024) (ix2 r k) = v (ix3 ⟨r.val / 8, by omega⟩ ⟨r.val % 8, by omega⟩ k) := by
  pointwise

/-- The reference's prompt result is the specification's rows. -/
theorem refP (x y z : FVec Ideal S16640x1024 .f32) (gw : FVec Ideal S16640x128 .f32) (mod : FVec Ideal S36x6144 .f32) (n : FVec Ideal S1024 .f32)
    (r : Fin 16384) (k : Fin 1024) :
    (shapeCast S16384x1024 (normP (resP x (mixR y z gw) mod) n) shapeCasts_S4x4096x1024_S16384x1024) (ix2 r k) = rowP x y z gw mod n r k := by
  refine (joinP_at _ r k).trans ((normP_at _ n _ _ k).trans ?_)
  exact congrArg (fun f => rms f (fun k => n (ix1 k)) k) (funext fun k => resP_at x y z gw mod _ _ ⟨r.val, by omega⟩ (by dsimp only; omega) k)

/-- The reference's sample result is the specification's rows. -/
theorem refS (x y z : FVec Ideal S16640x1024 .f32) (gw : FVec Ideal S16640x128 .f32) (mod : FVec Ideal S36x6144 .f32) (n : FVec Ideal S1024 .f32)
    (r : Fin 256) (k : Fin 1024) :
    (shapeCast S256x1024 (normS (resS x (mixR y z gw) mod) n) shapeCasts_S32x8x1024_S256x1024) (ix2 r k) = rowS x y z gw mod n r k := by
  refine (joinS_at _ r k).trans ((normS_at _ n _ _ k).trans ?_)
  exact congrArg (fun f => rms f (fun k => n (ix1 k)) k) (funext fun k => resS_at x y z gw mod _ _ ⟨16384 + r.val, by omega⟩ (by dsimp only; omega) k)

end Cert.Reference6Ideal.Final

end
-- ==== Proof.FinalClaim.lean ====
/-
  The value claim of the final combination: the kernel's two arrays and the reference's are the same functions of the arguments.
-/
module

public import proofs.«01_k».proof.Defs
public import proofs.«01_k».proof.Proof.FinalOut
public import proofs.«01_k».proof.Proof.FinalRef

@[expose] public section

set_option maxRecDepth 16384

noncomputable section

namespace Cert.FinalClaim

open Idealize.ShloMosaic Idealize.SL.Sem Cert.FinalSpec

set_option maxHeartbeats 8000000 in
/-- The kernel and the reference agree. -/
theorem algebraic : Cert.algebraic_Kernel6Ideal_Reference6Ideal (hKernel6Ideal := Cert.Kernel6Ideal.Gen.facts) (hReference6Ideal := Cert.Reference6Ideal.Gen.facts) := by
  pair_intro
  · run_from Cert.Kernel6Ideal.Final.run_main m g
  · run_from Cert.Reference6Ideal.Value.run m' g'
    · obtain ⟨a0, a1, a2, a3, a4, a5⟩ := hagree c
      rw [Cert.Kernel6Ideal.Final.final7 m c]
      unfold Cert.Kernel6Ideal.Final.arrP Cert.Kernel6Ideal.Final.outP
      rw [← a0, ← a1, ← a2, ← a3, ← a4, ← a5]
      funext i
      have hi : i = ix2 (i 0) (i 1) := by funext a; fin_cases a <;> rfl
      refine Eq.trans (congrArg _ hi) ?_
      exact Cert.Reference6Ideal.Final.refP _ _ _ _ _ _ (i 0) (i 1)
    · obtain ⟨a0, a1, a2, a3, a4, a5⟩ := hagree c
      rw [Cert.Kernel6Ideal.Final.final8 m c]
      unfold Cert.Kernel6Ideal.Final.arrS Cert.Kernel6Ideal.Final.outS
      rw [← a0, ← a1, ← a2, ← a3, ← a4, ← a5]
      funext i
      have hi : i = ix2 (i 0) (i 1) := by funext a; fin_cases a <;> rfl
      refine Eq.trans (congrArg _ hi) ?_
      exact Cert.Reference6Ideal.Final.refS _ _ _ _ _ _ (i 0) (i 1)

end Cert.FinalClaim

end
-- ==== Proof.ModSpec.lean ====
/-
  The conditioning's projection, in plain arithmetic over the extended reals: a row through `x * logistic x`, one product with the weights, and
  the offsets. Both programs' results are shown to be this function; the kernel's product in three parts is shown to be the one product where the
  factors are finite.
-/
module

public import proofs.«01_k».proof.Proof.MergeSpec
public import Idealize.ShloMosaic.Lib.Pointwise

@[expose] public section

noncomputable section

namespace Cert.ModSpec

open Idealize.ShloMosaic

/-- `x * logistic x`. -/
def silu (x : EReal) : EReal := x * MergeSpec.gate x

/-- Column `j` of a row's product with the weights, plus the offset. -/
def modRow (x : Fin 1024 → EReal) (w : Fin 1024 → EReal) (b : EReal) : EReal :=
  (∑ k, silu (x k) * w k) + b

/-- Row `s` of both groups together, the prompt's sequences first. -/
def rowIn (cp : FVec Ideal ⟨2, ![4, 1024]⟩ .f32) (cs : FVec Ideal ⟨2, ![32, 1024]⟩ .f32) (s : Fin 36) (k : Fin 1024) : EReal :=
  if h : s.val < 4 then cp (ix2 ⟨s.val, h⟩ k) else cs (ix2 ⟨s.val - 4, by omega⟩ k)

/-- The specification's array at row `s`, column `j`. -/
def modAt (cp : FVec Ideal ⟨2, ![4, 1024]⟩ .f32) (cs : FVec Ideal ⟨2, ![32, 1024]⟩ .f32) (w : FVec Ideal ⟨2, ![1024, 6144]⟩ .f32)
    (b : FVec Ideal ⟨1, ![6144]⟩ .f32) (s : Fin 36) (j : Fin 6144) : EReal :=
  modRow (rowIn cp cs s) (fun k => w (ix2 k j)) (b (ix1 j))

/-- Every element differs from itself by nothing. -/
def AllFinite {S : Shape} (x : S.Idx → EReal) : Prop := ∀ i, x i - x i = 0

/-- A value that differs from itself by nothing is a real number. -/
theorem real_of_sub {x : EReal} (h : x - x = 0) : ∃ r : ℝ, x = (r : EReal) := by
  induction x using EReal.rec with
  | bot => exact absurd h (by simp)
  | coe r => exact ⟨r, rfl⟩
  | top => exact absurd h (by simp)

/-- `x * logistic x` of a real number differs from itself by nothing. -/
theorem silu_sub {x : EReal} (h : x - x = 0) : silu x - silu x = 0 := by
  obtain ⟨r, rfl⟩ := real_of_sub h
  have hg : MergeSpec.gate (r : EReal) = (((1 + Real.exp (-r))⁻¹ : ℝ) : EReal) := Ideal.logistic_coe r
  unfold silu
  rw [hg, ← EReal.coe_mul]
  exact EReal.sub_self (EReal.coe_ne_top _) (EReal.coe_ne_bot _)

/-- The kernel's three products, the value's and what the value leaves of itself, add up to the one product. -/
theorem three_parts {n : ℕ} (a w : Fin n → EReal) (ha : ∀ k, a k - a k = 0) (hw : ∀ k, w k - w k = 0) :
    (∑ k, a k * w k) + ((∑ k, a k * (w k - w k)) + ∑ k, (a k - a k) * w k) = ∑ k, a k * w k := by
  simp only [ha, hw, mul_zero, zero_mul, Finset.sum_const_zero, add_zero]

end Cert.ModSpec

end
-- ==== Proof.ModPay.lean ====
/-
  The conditioning kernel: its arithmetic at one grid point, what each window's block holds of the argument arrays, the array that the grid leaves,
  and the rows of it that the program returns.
-/
module

public import proofs.«01_k».proof.Proof.ModSpec
public import proofs.«01_k».proof.Proof.Gen.Kernel7Ideal.Frame
public import proofs.«01_k».proof.Proof.Gen.Kernel7Ideal.Run
public import Idealize.ShloMosaic.Lib.Pipeline.ValueKit
public import Idealize.ShloMosaic.Lib.Pipeline.ReadBack
public import Idealize.ShloMosaic.Lib.StableHlo.RunRead
public import Idealize.ShloMosaic.Lib.Pointwise
public import Idealize.ShloMosaic.Lib.Pipeline.Value

@[expose] public section

set_option maxRecDepth 16384

noncomputable section

namespace Cert.Kernel7Ideal.Mod

open Cert.Kernel7Ideal Cert.Kernel7Ideal.Gen Idealize.ShloMosaic Idealize.ShloMosaic.TcCoe Idealize.SL.Sem Cert.ModSpec
open Idealize.ShloMosaic.Pipeline (Dat)

/-- The kernel's logistic is the specification's. -/
theorem logistic_eq (z : EReal) : Ideal.logistic z = MergeSpec.gate z := rfl

/-- The written block: three products and the offset. -/
theorem pay_at (x : Vec Ideal S40x1024 .f32) (w : Vec Ideal S1024x1024 .f32) (b : Vec Ideal S1x1024 .f32) (a : Fin 40) (j : Fin 1024) :
    k0_pay1 x w b (ix2 a j)
      = (∑ k, silu (x (ix2 a k)) * w (ix2 k j))
        + ((∑ k, silu (x (ix2 a k)) * (w (ix2 k j) - w (ix2 k j))) + ∑ k, (silu (x (ix2 a k)) - silu (x (ix2 a k))) * w (ix2 k j))
        + b (ix2 0 j) := by
  pointwise [k0_pay1, silu, logistic_eq]

/-- The written block, of finite rows and weights. -/
theorem pay_row (x : Vec Ideal S40x1024 .f32) (w : Vec Ideal S1024x1024 .f32) (b : Vec Ideal S1x1024 .f32) (a : Fin 40) (j : Fin 1024)
    (hx : ∀ k, x (ix2 a k) - x (ix2 a k) = 0) (hw : ∀ k, w (ix2 k j) - w (ix2 k j) = 0) :
    k0_pay1 x w b (ix2 a j) = modRow (fun k => x (ix2 a k)) (fun k => w (ix2 k j)) (b (ix2 0 j)) := by
  rw [pay_at]
  unfold modRow
  exact congrArg (· + b (ix2 0 j)) (three_parts _ _ (fun k => silu_sub (hx k)) hw)

variable (m : (ℓ : Loc nD τ sig) → Buf (Elt Ideal) ℓ)

/-- Which block each window reads or writes at a grid point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

set_option maxHeartbeats 1000000

/-- The rows of both groups and the padding, as the region finds them. -/
theorem entry_c (c : Dev nD) :
    V m c main_v1
      = concatenate S40x1024 0 [⟨S4x1024, m ((c : Thread nD τ).loc main_arg0)⟩, ⟨S32x1024, m ((c : Thread nD τ).loc main_arg1)⟩,
          ⟨S4x1024, broadcastInDim S4x1024 ![] bcast_S_S4x1024 (constant (F := Ideal) S_ .f32 0x00000000#32)⟩]
        concatenates_S4x1024_S32x1024_S4x1024_S40x1024_d0 := by
  simp only [V, V0, hostOps0, List.flatten_cons, List.flatten_nil, List.append_nil, List.cons_append, List.nil_append]
  after_results
  rfl

/-- The offsets as one row, as the region finds them. -/
theorem entry_b (c : Dev nD) :
    V m c main_v2
      = shapeCast S1x6144 (m ((c : Thread nD τ).loc main_arg3)) shapeCasts_S6144_S1x6144 := by
  simp only [V, V0, hostOps0, List.flatten_cons, List.flatten_nil, List.append_nil, List.cons_append, List.nil_append]
  after_results
  rfl

/-- Row `a` of both groups together, the rows of the padding being zero. -/
def padRow (c : Dev nD) (a : Fin 40) (k : Fin 1024) : EReal :=
  if h : a.val < 4 then m ((c : Thread nD τ).loc main_arg0) (ix2 ⟨a.val, h⟩ k)
  else if h' : a.val - 4 < 32 then m ((c : Thread nD τ).loc main_arg1) (ix2 ⟨a.val - 4, h'⟩ k) else 0

/-- The conditioning's rows, of both groups and of the padding. -/
theorem c_at (c : Dev nD) (t : Fin cfg0.N) (a : Fin 40) (k : Fin 1024) : iblk m c 0 t (ix2 a k) = padRow m c a k := by
  unfold padRow
  blk_simp [iblk]
  rw [entry_c]
  have e : (win0_0.blk t).view.emb (ix2 a k) = (ix2 a k : S40x1024.Idx) := by
    blk_ext [idx t]
  rw [e]
  pointwise

/-- The weights' columns. -/
theorem w_at (c : Dev nD) (t : Fin cfg0.N) (k : Fin 1024) (j : Fin 1024) :
    iblk m c 1 t (ix2 k j) = m ((c : Thread nD τ).loc main_arg2)
      (ix2 k ⟨1024 * t.val + j.val, by have : t.val < 6 := lt_of_lt_of_eq t.isLt N_0; omega⟩) := by
  blk_simp [iblk]
  entry_read
  blk_ext [idx t]

/-- The offsets' one row at an index. -/
theorem row_at (b : FVec Ideal S6144 .f32) (j : Fin 6144) : shapeCast S1x6144 b shapeCasts_S6144_S1x6144 (ix2 0 j) = b (ix1 j) := by
  pointwise

/-- The offsets. -/
theorem b_at (c : Dev nD) (t : Fin cfg0.N) (j : Fin 1024) :
    iblk m c 2 t (ix2 0 j) = m ((c : Thread nD τ).loc main_arg3)
      (ix1 ⟨1024 * t.val + j.val, by have : t.val < 6 := lt_of_lt_of_eq t.isLt N_0; omega⟩) := by
  blk_simp [iblk]
  rw [entry_b]
  have e : (win0_2.blk t).view.emb (ix2 0 j) = (ix2 0 ⟨1024 * t.val + j.val, by have : t.val < 6 := lt_of_lt_of_eq t.isLt N_0; omega⟩ : S1x6144.Idx) := by
    blk_ext [idx t]
  rw [e]
  exact row_at _ _

/-- What the proof needs: every element of the conditioning and of the weights is finite. -/
def Fin7 (c : Dev nD) : Prop :=
  AllFinite (S := S4x1024) (m ((c : Thread nD τ).loc main_arg0)) ∧ AllFinite (S := S32x1024) (m ((c : Thread nD τ).loc main_arg1))
    ∧ AllFinite (S := S1024x6144) (m ((c : Thread nD τ).loc main_arg2))

/-- The rows are then finite, those of the padding too. -/
theorem padRow_fin (c : Dev nD) (hf : Fin7 m c) (a : Fin 40) (k : Fin 1024) : padRow m c a k - padRow m c a k = 0 := by
  unfold padRow
  split
  · exact hf.1 _
  · split
    · exact hf.2.1 _
    · simp

/-- The array's value at row `a`, column `j`. -/
def outAt (c : Dev nD) (a : Fin 40) (j : Fin 6144) : EReal :=
  modRow (padRow m c a) (fun k => m ((c : Thread nD τ).loc main_arg2) (ix2 k j)) (m ((c : Thread nD τ).loc main_arg3) (ix1 j))

/-- The array that the grid leaves. -/
def arr (c : Dev nD) : Vec Ideal S40x6144 .f32 := fun i => outAt m c (i 0) (i 1)

theorem arr_at (c : Dev nD) (i : S40x6144.Idx) (a : Fin 40) (j : Fin 6144) (ha : (i 0).val = a.val) (hj : (i 1).val = j.val) :
    arr m c i = outAt m c a j := by
  have e0 : i 0 = a := Fin.ext ha
  have e1 : i 1 = j := Fin.ext hj
  unfold arr
  rw [e0, e1]

/-- The block that a grid point writes, at row `a` and column `q`. -/
theorem tile_at (c : Dev nD) (hf : Fin7 m c) (t : Fin cfg0.N) (a : Fin 40) (q : Fin 1024) (j : Fin 6144) (hj : j.val = 1024 * t.val + q.val) :
    k0_pay1 (iblk m c 0 t) (iblk m c 1 t) (iblk m c 2 t) (ix2 a q) = outAt m c a j := by
  have hw : ∀ k, iblk m c 1 t (ix2 k q) = m ((c : Thread nD τ).loc main_arg2) (ix2 k j) := fun k =>
    (w_at m c t k q).trans (congrArg (fun p => m ((c : Thread nD τ).loc main_arg2) (ix2 k p)) (Fin.ext hj.symm))
  have hb : iblk m c 2 t (ix2 0 q) = m ((c : Thread nD τ).loc main_arg3) (ix1 j) :=
    (b_at m c t q).trans (congrArg (fun p => m ((c : Thread nD τ).loc main_arg3) (ix1 p)) (Fin.ext hj.symm))
  refine (pay_row _ _ _ a q (fun k => ?_) (fun k => ?_)).trans ?_
  · exact (congrArg₂ (fun u v : EReal => u - v) (c_at m c t a k) (c_at m c t a k)).trans (padRow_fin m c hf a k)
  · exact (congrArg₂ (fun u v : EReal => u - v) (hw k) (hw k)).trans (hf.2.2 _)
  · have e1 : (fun k => iblk m c 0 t (ix2 a k)) = padRow m c a := funext fun k => c_at m c t a k
    have e2 : (fun k => iblk m c 1 t (ix2 k q)) = fun k => m ((c : Thread nD τ).loc main_arg2) (ix2 k j) := funext hw
    exact (congrArg (fun r => modRow r _ _) e1).trans ((congrArg (fun r => modRow _ r _) e2).trans (congrArg (fun r => modRow _ _ r) hb))

/-- The block that a grid point writes. -/
theorem tile_out (c : Dev nD) (hf : Fin7 m c) (t : Fin cfg0.N) (y : S40x1024.Idx) (j : Fin 6144) (hj : j.val = 1024 * t.val + (y 1).val) :
    k0_pay1 (iblk m c 0 t) (iblk m c 1 t) (iblk m c 2 t) y = outAt m c (y 0) j := by
  have hy : y = ix2 (y 0) (y 1) := by funext a; fin_cases a <;> rfl
  exact (congrArg _ hy).trans (tile_at m c hf t (y 0) (y 1) j hj)

/-- The array after the last grid point. -/
theorem final3 (c : Dev nD) (hf : Fin7 m c) : (dats m 0 c).arrAt 3 (cfgs 0).N = arr m c := by
  refine (dats m 0 c).arrAt_eq_of_covers 3 _ (by decide +kernel) fun t hh y => ?_
  have ht : t.val < 6 := lt_of_lt_of_eq t.isLt N_0
  blk_simp
  rw [after0_3]
  unfold out0_3
  frame_out
  have hy : (y 1).val < 1024 := (y 1).isLt
  refine (tile_out m c hf t y ⟨1024 * t.val + (y 1).val, by omega⟩ rfl).trans (arr_at m c _ _ _ ?_ ?_).symm
  all_goals (blk_simp [idx t] <;> (try dsimp only) <;> omega)

/-- The rows that the program returns are the specification's. -/
theorem result (c : Dev nD) (hf : Fin7 m c) (s : Fin 36) (j : Fin 6144) :
    extractStridedSlice S36x6144 ![0, 0] (Value.reg_main_v3 m c) slices_S40x6144_S36x6144_0_0 (ix2 s j)
      = modAt (m ((c : Thread nD τ).loc main_arg0)) (m ((c : Thread nD τ).loc main_arg1)) (m ((c : Thread nD τ).loc main_arg2))
          (m ((c : Thread nD τ).loc main_arg3)) s j := by
  have e : Value.reg_main_v3 m c = arr m c := final3 m c hf
  rw [e]
  have e2 : extractStridedSlice S36x6144 ![0, 0] (arr m c) slices_S40x6144_S36x6144_0_0 (ix2 s j) = outAt m c ⟨s.val, by omega⟩ j :=
    arr_at m c _ _ _ (by simp) (by simp)
  rw [e2]
  unfold outAt modAt
  refine congrArg (fun r => modRow r _ _) (funext fun k => ?_)
  unfold padRow rowIn
  have hs := s.isLt
  split
  · rfl
  · rw [dif_pos (by show s.val - 4 < 32; omega)]

end Cert.Kernel7Ideal.Mod

end
-- ==== Proof.ModRef.lean ====
/-
  The reference's conditioning, read at an index: the function of Proof/ModSpec.lean.
-/
module

public import proofs.«01_k».proof.Proof.ModSpec
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Reference7Ideal.Mod

open Cert.Reference7Ideal Cert.Reference7Ideal.Gen Idealize.ShloMosaic Idealize.ShloMosaic.TcCoe Idealize.SL.Sem Cert.ModSpec

/-- The prompt's rows through `x * logistic x`, as the reference computes them. -/
def siluP (a : FVec Ideal S4x1024 .f32) : FVec Ideal S4x1024 .f32 :=
  mulf a (Host.divf (broadcastInDim S4x1024 ![] bcast_S_S4x1024 (constant S_ .f32 0x3F800000#32))
    (addf (broadcastInDim S4x1024 ![] bcast_S_S4x1024 (constant S_ .f32 0x3F800000#32)) (Host.exp (Host.negf a))))

/-- The sample's rows likewise. -/
def siluS (a : FVec Ideal S32x1024 .f32) : FVec Ideal S32x1024 .f32 :=
  mulf a (Host.divf (broadcastInDim S32x1024 ![] bcast_S_S32x1024 (constant S_ .f32 0x3F800000#32))
    (addf (broadcastInDim S32x1024 ![] bcast_S_S32x1024 (constant S_ .f32 0x3F800000#32)) (Host.exp (Host.negf a))))

theorem siluP_at (a : FVec Ideal S4x1024 .f32) (r : Fin 4) (k : Fin 1024) : siluP a (ix2 r k) = silu (a (ix2 r k)) := by
  pointwise [siluP, silu, MergeSpec.gate]

theorem siluS_at (a : FVec Ideal S32x1024 .f32) (r : Fin 32) (k : Fin 1024) : siluS a (ix2 r k) = silu (a (ix2 r k)) := by
  pointwise [siluS, silu, MergeSpec.gate]

/-- The prompt's product and offsets. -/
def outP (x : FVec Ideal S4x1024 .f32) (w : FVec Ideal S1024x6144 .f32) (b : FVec Ideal S6144 .f32) : FVec Ideal S4x6144 .f32 :=
  addf (Host.dotGeneral dot_S4x1024_S1024x6144_S4x6144_1_0_0_1_n_n none x w)
    (broadcastInDim S4x6144 ![0, 1] bcast_S1x6144_S4x6144_0_1 (broadcastInDim S1x6144 ![1] bcast_S6144_S1x6144_1 b))

/-- The sample's product and offsets. -/
def outS (x : FVec Ideal S32x1024 .f32) (w : FVec Ideal S1024x6144 .f32) (b : FVec Ideal S6144 .f32) : FVec Ideal S32x6144 .f32 :=
  addf (Host.dotGeneral dot_S32x1024_S1024x6144_S32x6144_1_0_0_1_n_n none x w)
    (broadcastInDim S32x6144 ![0, 1] bcast_S1x6144_S32x6144_0_1 (broadcastInDim S1x6144 ![1] bcast_S6144_S1x6144_1 b))

theorem outP_at (x : FVec Ideal S4x1024 .f32) (w : FVec Ideal S1024x6144 .f32) (b : FVec Ideal S6144 .f32) (r : Fin 4) (j : Fin 6144) :
    outP x w b (ix2 r j) = (∑ k, x (ix2 r k) * w (ix2 k j)) + b (ix1 j) := by
  pointwise [outP]

theorem outS_at (x : FVec Ideal S32x1024 .f32) (w : FVec Ideal S1024x6144 .f32) (b : FVec Ideal S6144 .f32) (r : Fin 32) (j : Fin 6144) :
    outS x w b (ix2 r j) = (∑ k, x (ix2 r k) * w (ix2 k j)) + b (ix1 j) := by
  pointwise [outS]

/-- Both groups, one above the other. -/
def both (p : FVec Ideal S4x6144 .f32) (s : FVec Ideal S32x6144 .f32) : FVec Ideal S36x6144 .f32 :=
  concatenate S36x6144 0 [⟨S4x6144, p⟩, ⟨S32x6144, s⟩] concatenates_S4x6144_S32x6144_S36x6144_d0

theorem both_at (p : FVec Ideal S4x6144 .f32) (s : FVec Ideal S32x6144 .f32) (r : Fin 36) (j : Fin 6144) :
    both p s (ix2 r j) = if h : r.val < 4 then p (ix2 ⟨r.val, h⟩ j) else s (ix2 ⟨r.val - 4, by omega⟩ j) := by
  pointwise [both]

/-- The reference's result is the specification's. -/
theorem ref_spec (cp : FVec Ideal S4x1024 .f32) (cs : FVec Ideal S32x1024 .f32) (w : FVec Ideal S1024x6144 .f32) (b : FVec Ideal S6144 .f32)
    (r : Fin 36) (j : Fin 6144) : both (outP (siluP cp) w b) (outS (siluS cs) w b) (ix2 r j) = modAt cp cs w b r j := by
  rw [both_at]
  unfold modAt modRow rowIn
  split
  · rw [outP_at]
    exact congrArg (· + b (ix1 j)) (Finset.sum_congr rfl fun k _ => by rw [siluP_at])
  · rw [outS_at]
    exact congrArg (· + b (ix1 j)) (Finset.sum_congr rfl fun k _ => by rw [siluS_at])

end Cert.Reference7Ideal.Mod

end
-- ==== Proof.ModClaim.lean ====
/-
  The value claim of the conditioning: where the conditioning and the weights are finite, the kernel's array and the reference's are the same
  function of the arguments.
-/
module

public import proofs.«01_k».proof.Defs
public import proofs.«01_k».proof.Proof.ModPay
public import proofs.«01_k».proof.Proof.ModRef
public import proofs.«01_k».proof.Proof.Gen.Pre_finite7

@[expose] public section

set_option maxRecDepth 16384

noncomputable section

namespace Cert.ModClaim

open Idealize.ShloMosaic Idealize.SL.Sem Cert.ModSpec

/-- A comparison of a difference with zero that came out true at every index. -/
theorem finite_of_cmp {S : Shape} (x : FVec Ideal S .f32) (hb : (⟨0, ![]⟩ : Shape).BroadcastsInDim S (![] : Fin 0 → Fin S.rank))
    (h : cmpf .oeq (subf x x) (broadcastInDim S ![] hb (constant (F := Ideal) ⟨0, ![]⟩ .f32 0x00000000#32)) = fun _ => 1#1) : AllFinite (S := S) x := fun i => by
  have h0 : Ideal.cmp .oeq (x i - x i) (Ideal.ofBits .f32 0x00000000#32) = 1#1 := congrFun h i
  by_contra hn
  simp [Ideal.cmp, hn] at h0

/-- The precondition is what the kernel's proof needs. -/
theorem fin_of_pre (m : (ℓ : Loc Cert.Kernel7Ideal.nD Cert.Kernel7Ideal.τ Cert.Kernel7Ideal.sig) → Buf (Elt Ideal) ℓ)
    (h : Cert.Pre_Kernel7Ideal_finite7 (hPre_finite7 := Cert.Pre_finite7.Gen.facts) m) (c : Dev Cert.Kernel7Ideal.nD) : Cert.Kernel7Ideal.Mod.Fin7 m c :=
  ⟨finite_of_cmp _ _ (h c).1, finite_of_cmp _ _ (h c).2.1, finite_of_cmp _ _ (h c).2.2⟩

set_option maxHeartbeats 4000000 in
/-- The kernel and the reference agree. -/
theorem algebraic : Cert.algebraic_Kernel7Ideal_Reference7Ideal_pre_finite7 (hKernel7Ideal := Cert.Kernel7Ideal.Gen.facts) (hReference7Ideal := Cert.Reference7Ideal.Gen.facts) (hPre_finite7 := Cert.Pre_finite7.Gen.facts) := by
  pair_intro
  · run_from Cert.Kernel7Ideal.Value.run m g
  · run_from Cert.Reference7Ideal.Value.run m' g'
    rw [(hagree c).2.2.2]
    funext i
    have hi : i = ix2 (i 0) (i 1) := by funext a; fin_cases a <;> rfl
    refine (congrArg _ hi).trans (Eq.trans ?_ (congrArg _ hi).symm)
    exact (Cert.Reference7Ideal.Mod.ref_spec _ _ _ _ (i 0) (i 1)).trans (Cert.Kernel7Ideal.Mod.result m c (fin_of_pre m hpre c) (i 0) (i 1)).symm

end Cert.ModClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Run
public import proofs.«01_k».proof.Proof.Gen.Reference7Ideal.Run
public import proofs.«01_k».proof.Proof.Gen.Pre_finite7
public import proofs.«01_k».proof.Proof.HgrnClaim
public import proofs.«01_k».proof.Proof.ProjClaim
public import proofs.«01_k».proof.Proof.Rope3Claim
public import proofs.«01_k».proof.Proof.Rope4Claim
public import proofs.«01_k».proof.Proof.MergeClaim
public import proofs.«01_k».proof.Proof.FinalBodyBits
public import proofs.«01_k».proof.Proof.FinalBody
public import proofs.«01_k».proof.Proof.FinalClaim
public import proofs.«01_k».proof.Proof.ModClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite7.Gen.facts,
  fun m ρ _ => Cert.Kernel.Gen.frame m ρ, fun m ρ _ => Cert.KernelIdeal.Gen.frame m ρ,
  fun m ρ _ => (θ_run _ _ _).mono (fun r h => ⟨fun c => (h c).2.2, sem_eq_zero_of_no_sems rfl r.2⟩) (Cert.ReferenceIdeal.Value.run m ρ),
  fun m ρ _ => Cert.Kernel2.Gen.frame m ρ, fun m ρ _ => Cert.Kernel2Ideal.Gen.frame m ρ,
  fun m ρ _ => (θ_run _ _ _).mono (fun r h => ⟨fun c => (h c).2.2.2, sem_eq_zero_of_no_sems rfl r.2⟩) (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2.2.2, sem_eq_zero_of_no_sems rfl r.2⟩) (Cert.Reference3Ideal.Value.run m ρ),
  fun m ρ _ => Cert.Kernel4.Gen.frame m ρ, fun m ρ _ => Cert.Kernel4Ideal.Gen.frame m ρ,
  fun m ρ _ => (θ_run _ _ _).mono (fun r h => ⟨fun c => (h c).2.2.2, sem_eq_zero_of_no_sems rfl r.2⟩) (Cert.Reference4Ideal.Value.run m ρ),
  fun m ρ _ => Cert.Kernel5.Gen.frame m ρ, fun m ρ _ => Cert.Kernel5Ideal.Gen.frame m ρ,
  fun m ρ _ => (θ_run _ _ _).mono (fun r h => ⟨fun c => (h c).2, sem_eq_zero_of_no_sems rfl r.2⟩) (Cert.Reference5Ideal.Value.run m ρ),
  fun m ρ _ => Cert.Kernel6.Final.frame m ρ, fun m ρ _ => Cert.Kernel6Ideal.Final.frame m ρ,
  fun m ρ _ => (θ_run _ _ _).mono (fun r h => ⟨fun c => (h c).2.2, sem_eq_zero_of_no_sems rfl r.2⟩) (Cert.Reference6Ideal.Value.run m ρ),
  fun m ρ _ => Cert.Kernel7.Gen.frame m ρ, fun m ρ _ => Cert.Kernel7Ideal.Gen.frame m ρ, fun m ρ _ => Cert.Kernel7Ideal.Gen.frame m ρ,
  fun m ρ _ => (θ_run _ _ _).mono (fun r h => ⟨fun c => (h c).2, sem_eq_zero_of_no_sems rfl r.2⟩) (Cert.Reference7Ideal.Value.run m ρ),
  fun m ρ _ => (θ_run _ _ _).mono (fun r h => ⟨fun c => (h c).2, sem_eq_zero_of_no_sems rfl r.2⟩) (Cert.Reference7Ideal.Value.run m ρ),
  trivial, Cert.HgrnClaim.algebraic, trivial, Cert.ProjClaim.algebraic, trivial, Cert.Rope3Claim.algebraic, trivial, Cert.Rope4Claim.algebraic,
  Cert.MergeClaim.preserves, Cert.MergeClaim.algebraic, trivial, Cert.FinalClaim.algebraic, trivial, Cert.ModClaim.algebraic⟩

end Cert.Proof

end
